-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Fproj (m : (ℓ : Loc Cert.Fproj.nD Cert.Fproj.τ Cert.Fproj.sig) → Buf (Elt Bits) ℓ) : Prop :=
  True

def Pre_FprojIdeal (m : (ℓ : Loc Cert.FprojIdeal.nD Cert.FprojIdeal.τ Cert.FprojIdeal.sig) → Buf (Elt Ideal) ℓ) : Prop :=
  True

def Pre_FprojRefIdeal (m : (ℓ : Loc Cert.FprojRefIdeal.nD Cert.FprojRefIdeal.τ Cert.FprojRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_parts [hPre_finite_parts : Cert.Pre_finite_parts.Facts] (m : (ℓ : Loc Cert.MixIdeal.nD Cert.MixIdeal.τ Cert.MixIdeal.sig) → Buf (Elt Ideal) ℓ) : Prop :=
  ∀ c : Dev Cert.MixIdeal.nD,
    (Cert.Pre_finite_parts.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_parts [hPre_finite_parts : Cert.Pre_finite_parts.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_parts.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Fproj [hFproj : Cert.Fproj.Facts] : Prop :=
  ∀ (m : (ℓ : Loc Cert.Fproj.nD Cert.Fproj.τ Cert.Fproj.sig) → Buf (Elt Bits) ℓ) (g : Dev Cert.Fproj.nD → PrngReg), Pre_Fproj m →
    θ_run (Cert.Fproj.defs (F := Bits)) (onTc (τ := Cert.Fproj.τ) (Cert.Fproj.main (F := Bits))) ⟨m, fun _ => 0, g⟩ (fun r => (∀ c : Dev Cert.Fproj.nD,
      r.2.mem ((c.tc : Thread Cert.Fproj.nD Cert.Fproj.τ).loc Cert.Fproj.main_arg0) = m ((c.tc : Thread Cert.Fproj.nD Cert.Fproj.τ).loc Cert.Fproj.main_arg0)
      ∧ r.2.mem ((c.tc : Thread Cert.Fproj.nD Cert.Fproj.τ).loc Cert.Fproj.main_arg1) = m ((c.tc : Thread Cert.Fproj.nD Cert.Fproj.τ).loc Cert.Fproj.main_arg1))
      ∧ r.2.sem = fun _ => 0)

def quiescent_FprojIdeal [hFprojIdeal : Cert.FprojIdeal.Facts] : Prop :=
  ∀ (m : (ℓ : Loc Cert.FprojIdeal.nD Cert.FprojIdeal.τ Cert.FprojIdeal.sig) → Buf (Elt Ideal) ℓ) (g : Dev Cert.FprojIdeal.nD → PrngReg), Pre_FprojIdeal m →
    θ_run (Cert.FprojIdeal.defs (F := Ideal)) (onTc (τ := Cert.FprojIdeal.τ) (Cert.FprojIdeal.main (F := Ideal))) ⟨m, fun _ => 0, g⟩ (fun r => (∀ c : Dev Cert.FprojIdeal.nD,
      r.2.mem ((c.tc : Thread Cert.FprojIdeal.nD Cert.FprojIdeal.τ).loc Cert.FprojIdeal.main_arg0) = m ((c.tc : Thread Cert.FprojIdeal.nD Cert.FprojIdeal.τ).loc Cert.FprojIdeal.main_arg0)
      ∧ r.2.mem ((c.tc : Thread Cert.FprojIdeal.nD Cert.FprojIdeal.τ).loc Cert.FprojIdeal.main_arg1) = m ((c.tc : Thread Cert.FprojIdeal.nD Cert.FprojIdeal.τ).loc Cert.FprojIdeal.main_arg1))
      ∧ r.2.sem = fun _ => 0)

def quiescent_FprojRefIdeal [hFprojRefIdeal : Cert.FprojRefIdeal.Facts] : Prop :=
  ∀ (m : (ℓ : Loc Cert.FprojRefIdeal.nD Cert.FprojRefIdeal.τ Cert.FprojRefIdeal.sig) → Buf (Elt Ideal) ℓ) (g : Dev Cert.FprojRefIdeal.nD → PrngReg), Pre_FprojRefIdeal m →
    θ_run (Cert.FprojRefIdeal.defs (F := Ideal)) (onTc (τ := Cert.FprojRefIdeal.τ) (Cert.FprojRefIdeal.main (F := Ideal))) ⟨m, fun _ => 0, g⟩ (fun r => (∀ c : Dev Cert.FprojRefIdeal.nD,
      r.2.mem ((c.tc : Thread Cert.FprojRefIdeal.nD Cert.FprojRefIdeal.τ).loc Cert.FprojRefIdeal.main_arg0) = m ((c.tc : Thread Cert.FprojRefIdeal.nD Cert.FprojRefIdeal.τ).loc Cert.FprojRefIdeal.main_arg0)
      ∧ r.2.mem ((c.tc : Thread Cert.FprojRefIdeal.nD Cert.FprojRefIdeal.τ).loc Cert.FprojRefIdeal.main_arg1) = m ((c.tc : Thread Cert.FprojRefIdeal.nD Cert.FprojRefIdeal.τ).loc Cert.FprojRefIdeal.main_arg1))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixIdeal_pre_finite_parts [hMixIdeal : Cert.MixIdeal.Facts] [hPre_finite_parts : Cert.Pre_finite_parts.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_parts m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_MixRefIdeal_pre_finite_parts [hMixRefIdeal : Cert.MixRefIdeal.Facts] [hPre_finite_parts : Cert.Pre_finite_parts.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_parts m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v69)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v69) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v161) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v5) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v4)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v4) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v4) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v16) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Fproj_FprojIdeal : Prop :=
  True

def algebraic_FprojIdeal_FprojRefIdeal [hFprojIdeal : Cert.FprojIdeal.Facts] [hFprojRefIdeal : Cert.FprojRefIdeal.Facts] : Prop :=
  ∀ (m : (ℓ : Loc Cert.FprojIdeal.nD Cert.FprojIdeal.τ Cert.FprojIdeal.sig) → Buf (Elt Ideal) ℓ) (g : Dev Cert.FprojIdeal.nD → PrngReg)
    (m' : (ℓ : Loc Cert.FprojRefIdeal.nD Cert.FprojRefIdeal.τ Cert.FprojRefIdeal.sig) → Buf (Elt Ideal) ℓ) (g' : Dev Cert.FprojRefIdeal.nD → PrngReg), Pre_FprojIdeal m →
    (∀ c : Dev Cert.FprojIdeal.nD,
      m' ((c.tc : Thread Cert.FprojRefIdeal.nD Cert.FprojRefIdeal.τ).loc Cert.FprojRefIdeal.main_arg0) = m ((c.tc : Thread Cert.FprojIdeal.nD Cert.FprojIdeal.τ).loc Cert.FprojIdeal.main_arg0)
      ∧ m' ((c.tc : Thread Cert.FprojRefIdeal.nD Cert.FprojRefIdeal.τ).loc Cert.FprojRefIdeal.main_arg1) = m ((c.tc : Thread Cert.FprojIdeal.nD Cert.FprojIdeal.τ).loc Cert.FprojIdeal.main_arg1)) →
    ∃ (v0 : (c : Dev Cert.FprojIdeal.nD) → Buf (Elt Ideal) ((c.tc : Thread Cert.FprojIdeal.nD Cert.FprojIdeal.τ).loc Cert.FprojIdeal.main_v23_0)) (v1 : (c : Dev Cert.FprojIdeal.nD) → Buf (Elt Ideal) ((c.tc : Thread Cert.FprojIdeal.nD Cert.FprojIdeal.τ).loc Cert.FprojIdeal.main_v23_1)),
      θ_run (Cert.FprojIdeal.defs (F := Ideal)) (onTc (τ := Cert.FprojIdeal.τ) (Cert.FprojIdeal.main (F := Ideal))) ⟨m, fun _ => 0, g⟩ (fun r => ∀ c : Dev Cert.FprojIdeal.nD,
          r.2.mem ((c.tc : Thread Cert.FprojIdeal.nD Cert.FprojIdeal.τ).loc Cert.FprojIdeal.main_v23_0) = v0 c
          ∧ r.2.mem ((c.tc : Thread Cert.FprojIdeal.nD Cert.FprojIdeal.τ).loc Cert.FprojIdeal.main_v23_1) = v1 c
          ∧ r.2.mem ((c.tc : Thread Cert.FprojIdeal.nD Cert.FprojIdeal.τ).loc Cert.FprojIdeal.main_arg0) = m ((c.tc : Thread Cert.FprojIdeal.nD Cert.FprojIdeal.τ).loc Cert.FprojIdeal.main_arg0)
          ∧ r.2.mem ((c.tc : Thread Cert.FprojIdeal.nD Cert.FprojIdeal.τ).loc Cert.FprojIdeal.main_arg1) = m ((c.tc : Thread Cert.FprojIdeal.nD Cert.FprojIdeal.τ).loc Cert.FprojIdeal.main_arg1))
      ∧ θ_run (Cert.FprojRefIdeal.defs (F := Ideal)) (onTc (τ := Cert.FprojRefIdeal.τ) (Cert.FprojRefIdeal.main (F := Ideal))) ⟨m', fun _ => 0, g'⟩ (fun r => ∀ c : Dev Cert.FprojRefIdeal.nD,
          r.2.mem ((c.tc : Thread Cert.FprojRefIdeal.nD Cert.FprojRefIdeal.τ).loc Cert.FprojRefIdeal.main_v26) = v0 c
          ∧ r.2.mem ((c.tc : Thread Cert.FprojRefIdeal.nD Cert.FprojRefIdeal.τ).loc Cert.FprojRefIdeal.main_v28) = v1 c
          ∧ r.2.mem ((c.tc : Thread Cert.FprojRefIdeal.nD Cert.FprojRefIdeal.τ).loc Cert.FprojRefIdeal.main_arg0) = m' ((c.tc : Thread Cert.FprojRefIdeal.nD Cert.FprojRefIdeal.τ).loc Cert.FprojRefIdeal.main_arg0)
          ∧ r.2.mem ((c.tc : Thread Cert.FprojRefIdeal.nD Cert.FprojRefIdeal.τ).loc Cert.FprojRefIdeal.main_arg1) = m' ((c.tc : Thread Cert.FprojRefIdeal.nD Cert.FprojRefIdeal.τ).loc Cert.FprojRefIdeal.main_arg1))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2) = v0 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v20) = v0 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Mix_MixIdeal : Prop :=
  IdealRules.named_const.Statement Cert.MixIdeal.κ "scale" .f32 0x3A3504F3#32 (((Real.sqrt 2097152)⁻¹ : ℝ) : EReal)

def algebraic_MixIdeal_MixRefIdeal_pre_finite_parts [hMixIdeal : Cert.MixIdeal.Facts] [hMixRefIdeal : Cert.MixRefIdeal.Facts] [hPre_finite_parts : Cert.Pre_finite_parts.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_parts m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v74)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v74) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v24) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v11) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hFinal : Cert.Final.Facts) (hFinalIdeal : Cert.FinalIdeal.Facts) (hFinalRefIdeal : Cert.FinalRefIdeal.Facts) (hFproj : Cert.Fproj.Facts) (hFprojIdeal : Cert.FprojIdeal.Facts) (hFprojRefIdeal : Cert.FprojRefIdeal.Facts) (hLn : Cert.Ln.Facts) (hLnIdeal : Cert.LnIdeal.Facts) (hLnRefIdeal : Cert.LnRefIdeal.Facts) (hMix : Cert.Mix.Facts) (hMixIdeal : Cert.MixIdeal.Facts) (hMixRefIdeal : Cert.MixRefIdeal.Facts) (hMod : Cert.Mod.Facts) (hModIdeal : Cert.ModIdeal.Facts) (hModRefIdeal : Cert.ModRefIdeal.Facts) (hPre_finite_scores : Cert.Pre_finite_scores.Facts) (hPre_finite_parts : Cert.Pre_finite_parts.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Final (hFinal := hFinal)
    ∧ quiescent_FinalIdeal (hFinalIdeal := hFinalIdeal)
    ∧ quiescent_FinalRefIdeal (hFinalRefIdeal := hFinalRefIdeal)
    ∧ quiescent_Fproj (hFproj := hFproj)
    ∧ quiescent_FprojIdeal (hFprojIdeal := hFprojIdeal)
    ∧ quiescent_FprojRefIdeal (hFprojRefIdeal := hFprojRefIdeal)
    ∧ quiescent_Ln (hLn := hLn)
    ∧ quiescent_LnIdeal (hLnIdeal := hLnIdeal)
    ∧ quiescent_LnRefIdeal (hLnRefIdeal := hLnRefIdeal)
    ∧ quiescent_Mix (hMix := hMix)
    ∧ quiescent_MixIdeal (hMixIdeal := hMixIdeal)
    ∧ quiescent_MixIdeal_pre_finite_parts (hMixIdeal := hMixIdeal) (hPre_finite_parts := hPre_finite_parts)
    ∧ quiescent_MixRefIdeal (hMixRefIdeal := hMixRefIdeal)
    ∧ quiescent_MixRefIdeal_pre_finite_parts (hMixRefIdeal := hMixRefIdeal) (hPre_finite_parts := hPre_finite_parts)
    ∧ quiescent_Mod (hMod := hMod)
    ∧ quiescent_ModIdeal (hModIdeal := hModIdeal)
    ∧ quiescent_ModRefIdeal (hModRefIdeal := hModRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_Final_FinalIdeal
    ∧ algebraic_FinalIdeal_FinalRefIdeal (hFinalIdeal := hFinalIdeal) (hFinalRefIdeal := hFinalRefIdeal)
    ∧ preserves_Fproj_FprojIdeal
    ∧ algebraic_FprojIdeal_FprojRefIdeal (hFprojIdeal := hFprojIdeal) (hFprojRefIdeal := hFprojRefIdeal)
    ∧ preserves_Ln_LnIdeal
    ∧ algebraic_LnIdeal_LnRefIdeal (hLnIdeal := hLnIdeal) (hLnRefIdeal := hLnRefIdeal)
    ∧ preserves_Mix_MixIdeal
    ∧ algebraic_MixIdeal_MixRefIdeal_pre_finite_parts (hMixIdeal := hMixIdeal) (hMixRefIdeal := hMixRefIdeal) (hPre_finite_parts := hPre_finite_parts)
    ∧ preserves_Mod_ModIdeal
    ∧ algebraic_ModIdeal_ModRefIdeal (hModIdeal := hModIdeal) (hModRefIdeal := hModRefIdeal)
-- ==== Pre_finite_parts.lean ====
abbrev S2x8192x2048 : Shape := ⟨3, ![2, 8192, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel

variable [Facts]

def fn {F : FTy → Type} [FloatOps F] (main_arg0 : FVec F S2x8192x2048 .f32) (main_arg1 : FVec F S2x8192x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2x8192x2048 .f32 := Host.absf main_arg1
  let main_cst_0 : FVec F S_ .f32 := constant S_ .f32 0x7F800000#32
  let main_v5 : FVec F S2x8192x2048 .f32 := broadcastInDim S2x8192x2048 ![] bcast_S_S2x8192x2048 main_cst_0
  let main_v6 : IVec S2x8192x2048 1 := cmpf .olt main_v4 main_v5
  let main_c_1 : IVec S_ 1 := constantI S_ 1 1#1
  let main_v7 : IVec S_ 1 := (fun x v => Host.reduce IntOp.andi x v reducesTo_S2x8192x2048_S_d0_1_2 h_S_) main_v6 main_c_1
  let main_v8 : IVec S_ 1 := andi main_v3 main_v7
  main_v8
-- ==== Pre_finite_scores.lean ====
abbrev S2x8192x32x128 : Shape := ⟨4, ![2, 8192, 32, 128]⟩
abbrev S2x8192x8x128 : Shape := ⟨4, ![2, 8192, 8, 128]⟩
abbrev S2x8192x8192 : Shape := ⟨3, ![2, 8192, 8192]⟩
abbrev S_ : Shape := ⟨0, ![]⟩

class Facts : Prop where
  bcast_S_S2x8192x32x128 : S_.BroadcastsInDim S2x8192x32x128 (![] : Fin 0 → Fin S2x8192x32x128.rank)
  reducesTo_S2x8192x32x128_S_d0_1_2_3 : S2x8192x32x128.ReducesTo [0, 1, 2, 3] S_
  h_S_ : 0 < S_.numel
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_

variable [Facts]

def fn {F : FTy → Type} [FloatOps F] (main_arg0 : FVec F S2x8192x32x128 .f32) (main_arg1 : FVec F S2x8192x8x128 .f32) (main_arg2 : FVec F S2x8192x8x128 .f32) (main_arg3 : FVec F S2x8192x8192 .f32) : IVec S_ 1 :=
  let main_v0 : FVec F S2x8192x32x128 .f32 := Host.absf main_arg0
  let main_cst : FVec F S_ .f32 := constant S_ .f32 0x7F800000#32
  let main_v1 : FVec F S2x8192x32x128 .f32 := broadcastInDim S2x8192x32x128 ![] bcast_S_S2x8192x32x128 main_cst
  let main_v2 : IVec S2x8192x32x128 1 := cmpf .olt main_v0 main_v1
  let main_c : IVec S_ 1 := constantI S_ 1 1#1
  let main_v3 : IVec S_ 1 := (fun x v => Host.reduce IntOp.andi x v reducesTo_S2x8192x32x128_S_d0_1_2_3 h_S_) main_v2 main_c
  let main_v4 : FVec F S2x8192x8x128 .f32 := Host.absf main_arg1
  let main_cst_0 : FVec F S_ .f32 := constant S_ .f32 0x7F800000#32
  let main_v5 : FVec F S2x8192x8x128 .f32 := broadcastInDim S2x8192x8x128 ![] bcast_S_S2x8192x8x128 main_cst_0
  let main_v6 : IVec S2x8192x8x128 1 := cmpf .olt main_v4 main_v5
  let main_c_1 : IVec S_ 1 := constantI S_ 1 1#1
  let main_v7 : IVec S_ 1 := (fun x v => Host.reduce IntOp.andi x v reducesTo_S2x8192x8x128_S_d0_1_2_3 h_S_) main_v6 main_c_1
  let main_v8 : IVec S_ 1 := andi main_v3 main_v7
  main_v8
-- ==== Kernel.lean ====
abbrev S2x8192x32x128 : Shape := ⟨4, ![2, 8192, 32, 128]⟩
abbrev S2x8192x8x128 : Shape := ⟨4, ![2, 8192, 8, 128]⟩
abbrev S2x8192x8192 : Shape := ⟨3, ![2, 8192, 8192]⟩
abbrev S_ : Shape := ⟨0, ![]⟩
abbrev S16384x4096 : Shape := ⟨2, ![16384, 4096]⟩
abbrev S16384x1024 : Shape := ⟨2, ![16384, 1024]⟩
abbrev S16384x8192 : Shape := ⟨2, ![16384, 8192]⟩
abbrev S16384x14336 : Shape := ⟨2, ![16384, 14336]⟩
abbrev S512x512 : Shape := ⟨2, ![512, 512]⟩
abbrev S8192x128 : Shape := ⟨2, ![8192, 128]⟩
abbrev S1x2048 : Shape := ⟨2, ![1, 2048]⟩
abbrev S144x2048 : Shape := ⟨2, ![144, 2048]⟩
abbrev S128x2048 : Shape := ⟨2, ![128, 2048]⟩
abbrev S1024x2048 : Shape := ⟨2, ![1024, 2048]⟩
abbrev S512x128 : Shape := ⟨2, ![512, 128]⟩
abbrev S128x512 : Shape := ⟨2, ![128, 512]⟩
abbrev S16x1024 : Shape := ⟨2, ![16, 1024]⟩
abbrev S1024x128 : Shape := ⟨2, ![1024, 128]⟩
abbrev S2048 : Shape := ⟨1, ![2048]⟩
abbrev S128x1024 : Shape := ⟨2, ![128, 1024]⟩
abbrev S144x1024 : Shape := ⟨2, ![144, 1024]⟩

abbrev nBuf : Space → Nat
  | .hbm => 18
  | .vmem => 13
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x8x128, .f32⟩
  | .hbm, ⟨2, _⟩ => ⟨S2x8192x8x128, .f32⟩
  | .hbm, ⟨3, _⟩ => ⟨S2x8192x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x8192x32x128, .f32⟩
  | .hbm, ⟨10, _⟩ => ⟨S2x8192x32x128, .f32⟩
  | .hbm, ⟨11, _⟩ => ⟨S16384x4096, .f32⟩
  | .hbm, ⟨12, _⟩ => ⟨S16384x1024, .f32⟩
  | .hbm, ⟨13, _⟩ => ⟨S16384x1024, .f32⟩
  | .hbm, ⟨14, _⟩ => ⟨S16384x8192, .f32⟩
  | .hbm, ⟨15, _⟩ => ⟨S16384x14336, .f32⟩
  | .hbm, ⟨16, _⟩ => ⟨S16384x14336, .bf16⟩
  | .hbm, ⟨17, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x512, .bf16⟩
  | .local _ .vmem, ⟨7, _⟩ => ⟨S512x512, .bf16⟩
  | .local _ .vmem, ⟨8, _⟩ => ⟨S1x2048, .f32⟩
  | .local _ .vmem, ⟨9, _⟩ => ⟨S144x2048, .f32⟩
  | .local _ .vmem, ⟨10, _⟩ => ⟨S128x2048, .fp8e4m3⟩
  | .local _ .vmem, ⟨11, _⟩ => ⟨S1024x2048, .f32⟩
  | .local _ .vmem, ⟨12, _⟩ => ⟨S1024x2048, .f32⟩
  | _, _ => ⟨S2x8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32 : BitVec 32 := 0#32
  c0_i32
@[reducible] def k0_t1_loop : Scf.Loop 32 :=
  let c0_i32_21 : BitVec 32 := 0#32
  let c3_i32 : BitVec 32 := 3#32
  let v51 : BitVec 32 := Scalar.addi c0_i32_21 c3_i32
  let c1_i32 : BitVec 32 := 1#32
  ⟨c0_i32_21, v51, c1_i32⟩
def k0_mult2 (k0_t1 : Fin k0_t1_loop.trips) : BitVec 32 :=
  let c2_i32 : BitVec 32 := 2#32
  let c0_i32_21 : BitVec 32 := 0#32
  let c1_i32 : BitVec 32 := 1#32
  let arg12 : BitVec 32 := Scf.iv c0_i32_21 c1_i32 k0_t1
  let v143 : BitVec 32 := Scalar.muli c2_i32 arg12
  let c1_i32_66 : BitVec 32 := 1#32
  let v144 : BitVec 32 := Scalar.addi v143 c1_i32_66
  let c1024_i32 : BitVec 32 := 1024#32
  let v145 : BitVec 32 := Scalar.muli v144 c1024_i32
  v145
def k0_off1 (k0_t1 : Fin k0_t1_loop.trips) (c1_i32_66 : BitVec 32) : Fin 2 → Nat :=
  let c2_i32 : BitVec 32 := 2#32
  let c0_i32_21 : BitVec 32 := 0#32
  let c1_i32 : BitVec 32 := 1#32
  let arg12 : BitVec 32 := Scf.iv c0_i32_21 c1_i32 k0_t1
  let v143 : BitVec 32 := Scalar.muli c2_i32 arg12
  let v144 : BitVec 32 := Scalar.addi v143 c1_i32_66
  let c1024_i32 : BitVec 32 := 1024#32
  let v145 : BitVec 32 := Scalar.muli v144 c1024_i32
  let v146 : BitVec 32 := v145
  let v147 : Index := Scalar.indexCast v146
  let c0_67 : Index := 0#32
  ![v147.toNat, 0]
def k0_mult3 (k0_t1 : Fin k0_t1_loop.trips) : BitVec 32 :=
  let c2_i32 : BitVec 32 := 2#32
  let c0_i32_21 : BitVec 32 := 0#32
  let c1_i32 : BitVec 32 := 1#32
  let arg12 : BitVec 32 := Scf.iv c0_i32_21 c1_i32 k0_t1
  let v143 : BitVec 32 := Scalar.muli c2_i32 arg12
  let c1024_i32_73 : BitVec 32 := 1024#32
  let v156 : BitVec 32 := Scalar.muli v143 c1024_i32_73
  v156
def k0_off2 (k0_t1 : Fin k0_t1_loop.trips) : Fin 2 → Nat :=
  let c2_i32 : BitVec 32 := 2#32
  let c0_i32_21 : BitVec 32 := 0#32
  let c1_i32 : BitVec 32 := 1#32
  let arg12 : BitVec 32 := Scf.iv c0_i32_21 c1_i32 k0_t1
  let v143 : BitVec 32 := Scalar.muli c2_i32 arg12
  let c1024_i32_73 : BitVec 32 := 1024#32
  let v156 : BitVec 32 := Scalar.muli v143 c1024_i32_73
  let v157 : BitVec 32 := v156
  let v158 : Index := Scalar.indexCast v157
  let c0_74 : Index := 0#32
  ![v158.toNat, 0]
def k0_mult4 (k0_t1 : Fin k0_t1_loop.trips) : BitVec 32 :=
  let c2_i32 : BitVec 32 := 2#32
  let c0_i32_21 : BitVec 32 := 0#32
  let c1_i32 : BitVec 32 := 1#32
  let arg12 : BitVec 32 := Scf.iv c0_i32_21 c1_i32 k0_t1
  let v143 : BitVec 32 := Scalar.muli c2_i32 arg12
  let c2_i32_87 : BitVec 32 := 2#32
  let v187 : BitVec 32 := Scalar.addi v143 c2_i32_87
  let c1024_i32_88 : BitVec 32 := 1024#32
  let v188 : BitVec 32 := Scalar.muli v187 c1024_i32_88
  v188
def k0_mult5 (k0_t1 : Fin k0_t1_loop.trips) : BitVec 32 :=
  let c2_i32 : BitVec 32 := 2#32
  let c0_i32_21 : BitVec 32 := 0#32
  let c1_i32 : BitVec 32 := 1#32
  let arg12 : BitVec 32 := Scf.iv c0_i32_21 c1_i32 k0_t1
  let v143 : BitVec 32 := Scalar.muli c2_i32 arg12
  let c1_i32_95 : BitVec 32 := 1#32
  let v199 : BitVec 32 := Scalar.addi v143 c1_i32_95
  let c1024_i32_96 : BitVec 32 := 1024#32
  let v200 : BitVec 32 := Scalar.muli v199 c1024_i32_96
  v200
def k0_mult6 : BitVec 32 :=
  let c7168_i32 : BitVec 32 := 7168#32
  c7168_i32
def k0_mult7 : BitVec 32 :=
  let c6144_i32 : BitVec 32 := 6144#32
  c6144_i32
def k0_mult8 : BitVec 32 :=
  let c7168_i32_42 : BitVec 32 := 7168#32
  c7168_i32_42
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8192x32x128 : Shape := ⟨4, ![2, 8192, 32, 128]⟩
abbrev S2x8192x8x128 : Shape := ⟨4, ![2, 8192, 8, 128]⟩
abbrev S2x8192x8192 : Shape := ⟨3, ![2, 8192, 8192]⟩
abbrev S2x8192x8x4x128 : Shape := ⟨5, ![2, 8192, 8, 4, 128]⟩
abbrev S2x8x8192x8192x4 : Shape := ⟨5, ![2, 8, 8192, 8192, 4]⟩
abbrev S2x8x4x8192x8192 : Shape := ⟨5, ![2, 8, 4, 8192, 8192]⟩
abbrev S_ : Shape := ⟨0, ![]⟩
abbrev S2x8x4x8192 : Shape := ⟨4, ![2, 8, 4, 8192]⟩
abbrev S2x8x4x8192x1 : Shape := ⟨5, ![2, 8, 4, 8192, 1]⟩
abbrev S2x8x128x4x8192 : Shape := ⟨5, ![2, 8, 128, 4, 8192]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x8x128, .f32⟩
  | .hbm, ⟨2, _⟩ => ⟨S2x8192x8x128, .f32⟩
  | .hbm, ⟨3, _⟩ => ⟨S2x8192x8192, .f32⟩
  | .hbm, ⟨4, _⟩ => ⟨S2x8192x8x4x128, .f32⟩
  | .hbm, ⟨5, _⟩ => ⟨S2x8x8192x8192x4, .f32⟩
  | .hbm, ⟨6, _⟩ => ⟨S2x8x4x8192x8192, .f32⟩
  | .hbm, ⟨7, _⟩ => ⟨S_, .f32⟩
  | .hbm, ⟨8, _⟩ => ⟨S_, .f32⟩
  | .hbm, ⟨9, _⟩ => ⟨S2x8x4x8192x8192, .f32⟩
  | .hbm, ⟨10, _⟩ => ⟨S2x8x4x8192x8192, .f32⟩
  | .hbm, ⟨11, _⟩ => ⟨S_, .f32⟩
  | .hbm, ⟨12, _⟩ => ⟨S2x8x4x8192, .f32⟩
  | .hbm, ⟨13, _⟩ => ⟨S_, .f32⟩
  | .hbm, ⟨14, _⟩ => ⟨S2x8x4x8192, .f32⟩
  | .hbm, ⟨15, _⟩ => ⟨S2x8x4x8192, .f32⟩
  | .hbm, ⟨16, _⟩ => ⟨S2x8x4x8192x1, .f32⟩
  | .hbm, ⟨17, _⟩ => ⟨S2x8x4x8192x8192, .f32⟩
  | .hbm, ⟨18, _⟩ => ⟨S2x8x4x8192x8192, .f32⟩
  | .hbm, ⟨19, _⟩ => ⟨S2x8x4x8192x8192, .f32⟩
  | .hbm, ⟨20, _⟩ => ⟨S_, .f32⟩
  | .hbm, ⟨21, _⟩ => ⟨S2x8x4x8192, .f32⟩
  | .hbm, ⟨22, _⟩ => ⟨S2x8x4x8192x1, .f32⟩
  | .hbm, ⟨23, _⟩ => ⟨S2x8x4x8192x8192, .f32⟩
  | .hbm, ⟨24, _⟩ => ⟨S2x8x4x8192x8192, .f32⟩
  | .hbm, ⟨25, _⟩ => ⟨S2x8x128x4x8192, .f32⟩
  | .hbm, ⟨26, _⟩ => ⟨S2x8192x8x4x128, .f32⟩
  | .hbm, ⟨27, _⟩ => ⟨S16384x4096, .f32⟩
  | .hbm, ⟨28, _⟩ => ⟨S16384x4096, .bf16⟩
  | _, _ => ⟨S2x8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Inproj.lean ====
abbrev S2x8192x4096 : Shape := ⟨3, ![2, 8192, 4096]⟩
abbrev S4096x16384 : Shape := ⟨2, ![4096, 16384]⟩
abbrev S128 : Shape := ⟨1, ![128]⟩
abbrev S4096x4096 : Shape := ⟨2, ![4096, 4096]⟩
abbrev S4096x32x128 : Shape := ⟨3, ![4096, 32, 128]⟩
abbrev S_ : Shape := ⟨0, ![]⟩
abbrev S128x1 : Shape := ⟨2, ![128, 1]⟩
abbrev S4096x1024 : Shape := ⟨2, ![4096, 1024]⟩
abbrev S4096x8x128 : Shape := ⟨3, ![4096, 8, 128]⟩
abbrev S4096x8192 : Shape := ⟨2, ![4096, 8192]⟩
abbrev S4096x14336 : Shape := ⟨2, ![4096, 14336]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S16384x4096 : Shape := ⟨2, ![16384, 4096]⟩
abbrev S1x128 : Shape := ⟨2, ![1, 128]⟩
abbrev S16384x14336 : Shape := ⟨2, ![16384, 14336]⟩
abbrev S1024x4096 : Shape := ⟨2, ![1024, 4096]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 87
  | .vmem => 12
  | .smem => 0
  | _ => 0

abbrev bufTy : (tb : Table) → Fin (tcTables nBuf tb) → BufTy
  | .hbm, ⟨0, _⟩ => ⟨S2x8192x4096, .f32⟩
  | .hbm, ⟨1, _⟩ => ⟨S4096x16384, .f32⟩
  | .hbm, ⟨2, _⟩ => ⟨S128, .f32⟩
  | .hbm, ⟨3, _⟩ => ⟨S128, .f32⟩
  | .hbm, ⟨4, _⟩ => ⟨S128, .i32⟩
  | .hbm, ⟨5, _⟩ => ⟨S128, .i1⟩
  | .hbm, ⟨6, _⟩ => ⟨S128, .i1⟩
  | .hbm, ⟨7, _⟩ => ⟨S128, .i1⟩
  | .hbm, ⟨8, _⟩ => ⟨S128, .i1⟩
  | .hbm, ⟨9, _⟩ => ⟨S4096x4096, .f32⟩
  | .hbm, ⟨10, _⟩ => ⟨S4096x32x128, .f32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128x1, .i32⟩
  | .hbm, ⟨16, _⟩ => ⟨S4096x32x128, .f32⟩
  | .hbm, ⟨17, _⟩ => ⟨S4096x4096, .f32⟩
  | .hbm, ⟨18, _⟩ => ⟨S4096x1024, .f32⟩
  | .hbm, ⟨19, _⟩ => ⟨S4096x8x128, .f32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S4096x8x128, .f32⟩
  | .hbm, ⟨26, _⟩ => ⟨S4096x1024, .f32⟩
  | .hbm, ⟨27, _⟩ => ⟨S4096x1024, .f32⟩
  | .hbm, ⟨28, _⟩ => ⟨S4096x8192, .f32⟩
  | .hbm, ⟨29, _⟩ => ⟨S4096x14336, .f32⟩
  | .hbm, ⟨30, _⟩ => ⟨S4096x14336, .bf16⟩
  | .hbm, ⟨31, _⟩ => ⟨S128, .i32⟩
  | .hbm, ⟨32, _⟩ => ⟨S128x64, .i32⟩
  | .hbm, ⟨33, _⟩ => ⟨S8192, .i32⟩
  | .hbm, ⟨34, _⟩ => ⟨S8192, .f32⟩
  | .hbm, ⟨35, _⟩ => ⟨S64, .i32⟩
  | .hbm, ⟨36, _⟩ => ⟨S1x64, .i32⟩
  | .hbm, ⟨37, _⟩ => ⟨S128x64, .i32⟩
  | .hbm, ⟨38, _⟩ => ⟨S8192, .i32⟩
  | .hbm, ⟨39, _⟩ => ⟨S8192, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S8192x1, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x1, .f32⟩
  | .hbm, ⟨60, _⟩ => ⟨S1x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x64, .f32⟩
  | .hbm, ⟨65, _⟩ => ⟨S8192x64, .f32⟩
  | .hbm, ⟨66, _⟩ => ⟨S8192x64, .f32⟩
  | .hbm, ⟨67, _⟩ => ⟨S8192x128, .f32⟩
  | .hbm, ⟨68, _⟩ => ⟨S8192x64, .f32⟩
  | .hbm, ⟨69, _⟩ => ⟨S8192x128, .f32⟩
  | .hbm, ⟨70, _⟩ => ⟨S16384x4096, .f32⟩
  | .hbm, ⟨71, _⟩ => ⟨S16384x4096, .bf16⟩
  | .hbm, ⟨72, _⟩ => ⟨S_, .i32⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S128x1, .i32⟩
  | .hbm, ⟨77, _⟩ => ⟨S128, .f32⟩
  | .hbm, ⟨78, _⟩ => ⟨S1x128, .f32⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S128, .i32⟩
  | .hbm, ⟨83, _⟩ => ⟨S128x1, .i32⟩
  | .hbm, ⟨84, _⟩ => ⟨S128, .f32⟩
  | .hbm, ⟨85, _⟩ => ⟨S1x128, .f32⟩
  | .hbm, ⟨86, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v0 : Ref sig .tc := ⟨.hbm, 9, rfl⟩
abbrev main_v1 : Ref sig .tc := ⟨.hbm, 10, rfl⟩
abbrev main_c_4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 14], ![false, false]⟩

def k0_cond1 (i : grid0.Coords) : BitVec 1 :=
  let arg1 : BitVec 32 := BitVec.ofNat 32 (i 1).val
  let c4_i32 : BitVec 32 := 4#32
  let v5 : BitVec 1 := Scalar.cmpi .slt arg1 c4_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c4_i32_3 : BitVec 32 := 4#32
  let v8 : BitVec 1 := Scalar.cmpi .sge arg1 c4_i32_3
  let c5_i32 : BitVec 32 := 5#32
  let v9 : BitVec 1 := Scalar.cmpi .slt arg1 c5_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c5_i32_5 : BitVec 32 := 5#32
  let v13 : BitVec 1 := Scalar.cmpi .sge arg1 c5_i32_5
  let c6_i32 : BitVec 32 := 6#32
  let v14 : BitVec 1 := Scalar.cmpi .slt arg1 c6_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond4 (i : grid0.Coords) : BitVec 1 :=
  let arg1 : BitVec 32 := BitVec.ofNat 32 (i 1).val
  let c6_i32_7 : BitVec 32 := 6#32
  let v18 : BitVec 1 := Scalar.cmpi .sge arg1 c6_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InprojRefIdeal.lean ====
abbrev S2x8192x4096 : Shape := ⟨3, ![2, 8192, 4096]⟩
abbrev S4096x16384 : Shape := ⟨2, ![4096, 16384]⟩
abbrev S128 : Shape := ⟨1, ![128]⟩
abbrev S2x8192x16384 : Shape := ⟨3, ![2, 8192, 16384]⟩
abbrev S2x8192x1024 : Shape := ⟨3, ![2, 8192, 1024]⟩
abbrev S2x8192x2048 : Shape := ⟨3, ![2, 8192, 2048]⟩
abbrev S2x8192x32x128 : Shape := ⟨4, ![2, 8192, 32, 128]⟩
abbrev S_ : Shape := ⟨0, ![]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S2x8192x32x64x2 : Shape := ⟨5, ![2, 8192, 32, 64, 2]⟩
abbrev S2x8192x32x64x1 : Shape := ⟨5, ![2, 8192, 32, 64, 1]⟩
abbrev S2x8192x32x64 : Shape := ⟨4, ![2, 8192, 32, 64]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S2x8192x8x64x2 : Shape := ⟨5, ![2, 8192, 8, 64, 2]⟩
abbrev S2x8192x8x64x1 : Shape := ⟨5, ![2, 8192, 8, 64, 1]⟩
abbrev S2x8192x8x64 : Shape := ⟨4, ![2, 8192, 8, 64]⟩
abbrev S2x8192x32x2x64 : Shape := ⟨5, ![2, 8192, 32, 2, 64]⟩
abbrev S2x8192x8x2x64 : Shape := ⟨5, ![2, 8192, 8, 2, 64]⟩
abbrev S2x8192x14336 : Shape := ⟨3, ![2, 8192, 14336]⟩
abbrev S16384x14336 : Shape := ⟨2, ![16384, 14336]⟩

abbrev nBuf : Space → Nat
  | .hbm => 184
  | .vmem => 0
  | .smem => 0
  | _ => 0

abbrev hbmTy0_0 (i : Nat) : BufTy := match i % 128 with
  | 0 => ⟨S2x8192x4096, .f32⟩
  | 1 => ⟨S4096x16384, .f32⟩
  | 2 => ⟨S128, .f32⟩
  | 3 => ⟨S128, .f32⟩
  | 4 => ⟨S2x8192x16384, .f32⟩
  | 5 => ⟨S2x8192x4096, .f32⟩
  | 6 => ⟨S2x8192x1024, .f32⟩
  | 7 => ⟨S2x8192x1024, .f32⟩
  | 8 => ⟨S2x8192x2048, .f32⟩
  | 9 => ⟨S2x8192x4096, .f32⟩
  | 10 => ⟨S2x8192x4096, .f32⟩
  | 11 => ⟨S2x8192x32x128, .f32⟩
  | 12 => ⟨S2x8192x32x128, .f32⟩
  | 13 => ⟨S_, .f32⟩
  | 14 => ⟨S2x8192x32, .f32⟩
  | 15 => ⟨S2x8192x32x1, .f32⟩
  | 16 => ⟨S_, .f32⟩
  | 17 => ⟨S2x8192x32x1, .f32⟩
  | 18 => ⟨S2x8192x32x1, .f32⟩
  | 19 => ⟨S_, .f32⟩
  | 20 => ⟨S2x8192x32x1, .f32⟩
  | 21 => ⟨S2x8192x32x1, .f32⟩
  | 22 => ⟨S2x8192x32x1, .f32⟩
  | 23 => ⟨S2x8192x32x128, .f32⟩
  | 24 => ⟨S2x8192x32x128, .f32⟩
  | 25 => ⟨S1x1x1x128, .f32⟩
  | 26 => ⟨S2x8192x32x128, .f32⟩
  | 27 => ⟨S2x8192x32x128, .f32⟩
  | 28 => ⟨S128, .i32⟩
  | 29 => ⟨S128x64, .i32⟩
  | 30 => ⟨S8192, .i32⟩
  | 31 => ⟨S8192, .f32⟩
  | 32 => ⟨S64, .i32⟩
  | 33 => ⟨S1x64, .i32⟩
  | 34 => ⟨S128x64, .i32⟩
  | 35 => ⟨S8192, .i32⟩
  | 36 => ⟨S8192, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S8192x1, .f32⟩
  | 52 => ⟨S1x32, .f32⟩
  | 53 => ⟨S8192x32, .f32⟩
  | 54 => ⟨S8192x32, .f32⟩
  | 55 => ⟨S8192x32, .f32⟩
  | 56 => ⟨S8192x1, .f32⟩
  | 57 => ⟨S1x32, .f32⟩
  | 58 => ⟨S8192x32, .f32⟩
  | 59 => ⟨S8192x32, .f32⟩
  | 60 => ⟨S8192x32, .f32⟩
  | 61 => ⟨S8192x64, .f32⟩
  | 62 => ⟨S8192x64, .f32⟩
  | 63 => ⟨S1x8192x1x64, .f32⟩
  | 64 => ⟨S8192x64, .f32⟩
  | 65 => ⟨S1x8192x1x64, .f32⟩
  | 66 => ⟨S2x8192x32x64x2, .f32⟩
  | 67 => ⟨S2x8192x32x64x1, .f32⟩
  | 68 => ⟨S2x8192x32x64, .f32⟩
  | 69 => ⟨S2x8192x32x64x1, .f32⟩
  | 70 => ⟨S2x8192x32x64, .f32⟩
  | 71 => ⟨S2x8192x32x64, .f32⟩
  | 72 => ⟨S2x8192x32x64, .f32⟩
  | 73 => ⟨S2x8192x32x64, .f32⟩
  | 74 => ⟨S2x8192x32x64, .f32⟩
  | 75 => ⟨S2x8192x32x64, .f32⟩
  | 76 => ⟨S2x8192x32x64, .f32⟩
  | 77 => ⟨S2x8192x32x64, .f32⟩
  | 78 => ⟨S2x8192x32x64, .f32⟩
  | 79 => ⟨S2x8192x32x64, .f32⟩
  | 80 => ⟨S2x8192x32x64, .f32⟩
  | 81 => ⟨S2x8192x32x64x1, .f32⟩
  | 82 => ⟨S2x8192x32x64x1, .f32⟩
  | 83 => ⟨S2x8192x32x64x2, .f32⟩
  | 84 => ⟨S2x8192x32x128, .f32⟩
  | 85 => ⟨S2x8192x8x128, .f32⟩
  | 86 => ⟨S2x8192x8x128, .f32⟩
  | 87 => ⟨S_, .f32⟩
  | 88 => ⟨S2x8192x8, .f32⟩
  | 89 => ⟨S2x8192x8x1, .f32⟩
  | 90 => ⟨S_, .f32⟩
  | 91 => ⟨S2x8192x8x1, .f32⟩
  | 92 => ⟨S2x8192x8x1, .f32⟩
  | 93 => ⟨S_, .f32⟩
  | 94 => ⟨S2x8192x8x1, .f32⟩
  | 95 => ⟨S2x8192x8x1, .f32⟩
  | 96 => ⟨S2x8192x8x1, .f32⟩
  | 97 => ⟨S2x8192x8x128, .f32⟩
  | 98 => ⟨S2x8192x8x128, .f32⟩
  | 99 => ⟨S1x1x1x128, .f32⟩
  | 100 => ⟨S2x8192x8x128, .f32⟩
  | 101 => ⟨S2x8192x8x128, .f32⟩
  | 102 => ⟨S128, .i32⟩
  | 103 => ⟨S128x64, .i32⟩
  | 104 => ⟨S8192, .i32⟩
  | 105 => ⟨S8192, .f32⟩
  | 106 => ⟨S64, .i32⟩
  | 107 => ⟨S1x64, .i32⟩
  | 108 => ⟨S128x64, .i32⟩
  | 109 => ⟨S8192, .i32⟩
  | 110 => ⟨S8192, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S8192x1, .f32⟩
  | 126 => ⟨S1x32, .f32⟩
  | 127 => ⟨S8192x32, .f32⟩
  | _ => ⟨S2x8192x4096, .f32⟩

abbrev hbmTy0_1 (i : Nat) : BufTy := match i % 128 with
  | 0 => ⟨S8192x32, .f32⟩
  | 1 => ⟨S8192x32, .f32⟩
  | 2 => ⟨S8192x1, .f32⟩
  | 3 => ⟨S1x32, .f32⟩
  | 4 => ⟨S8192x32, .f32⟩
  | 5 => ⟨S8192x32, .f32⟩
  | 6 => ⟨S8192x32, .f32⟩
  | 7 => ⟨S8192x64, .f32⟩
  | 8 => ⟨S8192x64, .f32⟩
  | 9 => ⟨S1x8192x1x64, .f32⟩
  | 10 => ⟨S8192x64, .f32⟩
  | 11 => ⟨S1x8192x1x64, .f32⟩
  | 12 => ⟨S2x8192x8x64x2, .f32⟩
  | 13 => ⟨S2x8192x8x64x1, .f32⟩
  | 14 => ⟨S2x8192x8x64, .f32⟩
  | 15 => ⟨S2x8192x8x64x1, .f32⟩
  | 16 => ⟨S2x8192x8x64, .f32⟩
  | 17 => ⟨S2x8192x8x64, .f32⟩
  | 18 => ⟨S2x8192x8x64, .f32⟩
  | 19 => ⟨S2x8192x8x64, .f32⟩
  | 20 => ⟨S2x8192x8x64, .f32⟩
  | 21 => ⟨S2x8192x8x64, .f32⟩
  | 22 => ⟨S2x8192x8x64, .f32⟩
  | 23 => ⟨S2x8192x8x64, .f32⟩
  | 24 => ⟨S2x8192x8x64, .f32⟩
  | 25 => ⟨S2x8192x8x64, .f32⟩
  | 26 => ⟨S2x8192x8x64, .f32⟩
  | 27 => ⟨S2x8192x8x64x1, .f32⟩
  | 28 => ⟨S2x8192x8x64x1, .f32⟩
  | 29 => ⟨S2x8192x8x64x2, .f32⟩
  | 30 => ⟨S2x8192x8x128, .f32⟩
  | 31 => ⟨S2x8192x32x64x2, .f32⟩
  | 32 => ⟨S2x8192x32x2x64, .f32⟩
  | 33 => ⟨S2x8192x4096, .f32⟩
  | 34 => ⟨S2x8192x8x64x2, .f32⟩
  | 35 => ⟨S2x8192x8x2x64, .f32⟩
  | 36 => ⟨S2x8192x1024, .f32⟩
  | 37 => ⟨S2x8192x4096, .f32⟩
  | 38 => ⟨S2x8192x4096, .f32⟩
  | 39 => ⟨S_, .f32⟩
  | 40 => ⟨S2x8192x4096, .f32⟩
  | 41 => ⟨S2x8192x4096, .f32⟩
  | 42 => ⟨S_, .f32⟩
  | 43 => ⟨S2x8192x4096, .f32⟩
  | 44 => ⟨S2x8192x4096, .f32⟩
  | 45 => ⟨S2x8192x4096, .f32⟩
  | 46 => ⟨S2x8192x4096, .f32⟩
  | 47 => ⟨S_, .f32⟩
  | 48 => ⟨S2x8192x4096, .f32⟩
  | 49 => ⟨S2x8192x4096, .f32⟩
  | 50 => ⟨S_, .f32⟩
  | 51 => ⟨S2x8192x4096, .f32⟩
  | 52 => ⟨S2x8192x4096, .f32⟩
  | 53 => ⟨S2x8192x14336, .f32⟩
  | 54 => ⟨S16384x14336, .f32⟩
  | 55 => ⟨S16384x14336, .bf16⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_cst_6 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_cst_8 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_9 : Ref sig .tc := ⟨.hbm, 112, rfl⟩
abbrev main_v98 : Ref sig .tc := ⟨.hbm, 113, rfl⟩
abbrev main_v99 : Ref sig .tc := ⟨.hbm, 114, rfl⟩
abbrev main_cst_10 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_11 : Ref sig .tc := ⟨.hbm, 119, rfl⟩
abbrev main_v103 : Ref sig .tc := ⟨.hbm, 120, rfl⟩
abbrev main_v104 : Ref sig .tc := ⟨.hbm, 121, rfl⟩
abbrev main_cst_12 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_cst_13 : Ref sig .tc := ⟨.hbm, 167, rfl⟩
abbrev main_v149 : Ref sig .tc := ⟨.hbm, 168, rfl⟩
abbrev main_v150 : Ref sig .tc := ⟨.hbm, 169, rfl⟩
abbrev main_cst_14 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_cst_15 : Ref sig .tc := ⟨.hbm, 175, rfl⟩
abbrev main_v155 : Ref sig .tc := ⟨.hbm, 176, rfl⟩
abbrev main_v156 : Ref sig .tc := ⟨.hbm, 177, rfl⟩
abbrev main_cst_16 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S4096x4096 : Shape := ⟨2, ![4096, 4096]⟩
abbrev S2048x4096 : Shape := ⟨2, ![2048, 4096]⟩
abbrev S16384x6144 : Shape := ⟨2, ![16384, 6144]⟩
abbrev S16384x14336 : Shape := ⟨2, ![16384, 14336]⟩
abbrev S1024x4096 : Shape := ⟨2, ![1024, 4096]⟩
abbrev S1024x2048 : Shape := ⟨2, ![1024, 2048]⟩
abbrev S4096x512 : Shape := ⟨2, ![4096, 512]⟩
abbrev S2048x512 : Shape := ⟨2, ![2048, 512]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S4096x4096, .f32⟩
  | .hbm, ⟨3, _⟩ => ⟨S2048x4096, .f32⟩
  | .hbm, ⟨4, _⟩ => ⟨S16384x6144, .f32⟩
  | .hbm, ⟨5, _⟩ => ⟨S16384x4096, .f32⟩
  | .hbm, ⟨6, _⟩ => ⟨S16384x4096, .f32⟩
  | .hbm, ⟨7, _⟩ => ⟨S16384x14336, .f32⟩
  | .hbm, ⟨8, _⟩ => ⟨S16384x14336, .bf16⟩
  | .hbm, ⟨9, _⟩ => ⟨S16384x4096, .bf16⟩
  | .hbm, ⟨10, _⟩ => ⟨S16384x2048, .bf16⟩
  | .hbm, ⟨11, _⟩ => ⟨S4096x4096, .bf16⟩
  | .hbm, ⟨12, _⟩ => ⟨S2048x4096, .bf16⟩
  | .hbm, ⟨13, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x4096 : Shape := ⟨2, ![16384, 4096]⟩
abbrev S16384x2048 : Shape := ⟨2, ![16384, 2048]⟩
abbrev S4096x4096 : Shape := ⟨2, ![4096, 4096]⟩
abbrev S2048x4096 : Shape := ⟨2, ![2048, 4096]⟩
abbrev S16384x6144 : Shape := ⟨2, ![16384, 6144]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S4096x4096, .f32⟩
  | .hbm, ⟨3, _⟩ => ⟨S2048x4096, .f32⟩
  | .hbm, ⟨4, _⟩ => ⟨S16384x6144, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Outproj.lean ====
abbrev S2x8192x4096 : Shape := ⟨3, ![2, 8192, 4096]⟩
abbrev S4096x4096 : Shape := ⟨2, ![4096, 4096]⟩
abbrev S2x1x4096 : Shape := ⟨3, ![2, 1, 4096]⟩
abbrev S16384x4096 : Shape := ⟨2, ![16384, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S4096x4096, .f32⟩
  | .hbm, ⟨2, _⟩ => ⟨S2x8192x4096, .f32⟩
  | .hbm, ⟨3, _⟩ => ⟨S2x1x4096, .f32⟩
  | .hbm, ⟨4, _⟩ => ⟨S16384x4096, .f32⟩
  | .hbm, ⟨5, _⟩ => ⟨S16384x4096, .bf16⟩
  | .hbm, ⟨6, _⟩ => ⟨S4096x4096, .bf16⟩
  | .hbm, ⟨7, _⟩ => ⟨S16384x4096, .f32⟩
  | .hbm, ⟨8, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutprojRefIdeal.lean ====
abbrev S2x8192x4096 : Shape := ⟨3, ![2, 8192, 4096]⟩
abbrev S4096x4096 : Shape := ⟨2, ![4096, 4096]⟩
abbrev S2x1x4096 : Shape := ⟨3, ![2, 1, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x4096, .f32⟩
  | .hbm, ⟨2, _⟩ => ⟨S2x8192x4096, .f32⟩
  | .hbm, ⟨3, _⟩ => ⟨S2x1x4096, .f32⟩
  | .hbm, ⟨4, _⟩ => ⟨S2x8192x4096, .f32⟩
  | .hbm, ⟨5, _⟩ => ⟨S2x8192x4096, .f32⟩
  | .hbm, ⟨6, _⟩ => ⟨S2x8192x4096, .f32⟩
  | .hbm, ⟨7, _⟩ => ⟨S2x8192x4096, .f32⟩
  | .hbm, ⟨8, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Final.lean ====
abbrev S2x8192x4096 : Shape := ⟨3, ![2, 8192, 4096]⟩
abbrev S2x1x4096 : Shape := ⟨3, ![2, 1, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .f32⟩
  | .hbm, ⟨2, _⟩ => ⟨S2x1x4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S1x4096, .f32⟩
  | .hbm, ⟨7, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S2x8192x4096 : Shape := ⟨3, ![2, 8192, 4096]⟩
abbrev S2x1x4096 : Shape := ⟨3, ![2, 1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .f32⟩
  | .hbm, ⟨2, _⟩ => ⟨S2x1x4096, .f32⟩
  | .hbm, ⟨3, _⟩ => ⟨S4096, .f32⟩
  | .hbm, ⟨4, _⟩ => ⟨S2x8192x4096, .f32⟩
  | .hbm, ⟨5, _⟩ => ⟨S2x8192x4096, .f32⟩
  | .hbm, ⟨6, _⟩ => ⟨S2x8192x4096, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S1x1x4096, .f32⟩
  | .hbm, ⟨21, _⟩ => ⟨S2x8192x4096, .f32⟩
  | .hbm, ⟨22, _⟩ => ⟨S2x8192x4096, .f32⟩
  | .hbm, ⟨23, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Fproj.lean ====
abbrev S2x8192x4096 : Shape := ⟨3, ![2, 8192, 4096]⟩
abbrev S4096x16384 : Shape := ⟨2, ![4096, 16384]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S16384x4096 : Shape := ⟨2, ![16384, 4096]⟩
abbrev S4096x2048 : Shape := ⟨2, ![4096, 2048]⟩
abbrev S16384x2048 : Shape := ⟨2, ![16384, 2048]⟩
abbrev S512x4096 : Shape := ⟨2, ![512, 4096]⟩
abbrev S4096x1024 : Shape := ⟨2, ![4096, 1024]⟩
abbrev S512x1024 : Shape := ⟨2, ![512, 1024]⟩
abbrev S512x256 : Shape := ⟨2, ![512, 256]⟩
abbrev S512x512 : Shape := ⟨2, ![512, 512]⟩

abbrev nBuf : Space → Nat
  | .hbm => 51
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S4096x16384, .f32⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S_, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x512, .f32⟩
  | .hbm, ⟨44, _⟩ => ⟨S256x512, .bf16⟩
  | .hbm, ⟨45, _⟩ => ⟨S16384x4096, .f32⟩
  | .hbm, ⟨46, _⟩ => ⟨S16384x4096, .bf16⟩
  | .hbm, ⟨47, _⟩ => ⟨S4096x2048, .f32⟩
  | .hbm, ⟨48, _⟩ => ⟨S4096x2048, .bf16⟩
  | .hbm, ⟨49, _⟩ => ⟨S16384x2048, .bf16⟩
  | .hbm, ⟨50, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x512, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23_0 : Ref sig .tc := ⟨.hbm, 49, rfl⟩
abbrev main_v23_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FprojRefIdeal.lean ====
abbrev S2x8192x4096 : Shape := ⟨3, ![2, 8192, 4096]⟩
abbrev S4096x16384 : Shape := ⟨2, ![4096, 16384]⟩
abbrev S2x8192x16384 : Shape := ⟨3, ![2, 8192, 16384]⟩
abbrev S2x8192x1024 : Shape := ⟨3, ![2, 8192, 1024]⟩
abbrev S2x8192x2048 : Shape := ⟨3, ![2, 8192, 2048]⟩
abbrev S2x8192x8x256 : Shape := ⟨4, ![2, 8192, 8, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x16384, .f32⟩
  | .hbm, ⟨2, _⟩ => ⟨S2x8192x16384, .f32⟩
  | .hbm, ⟨3, _⟩ => ⟨S2x8192x4096, .f32⟩
  | .hbm, ⟨4, _⟩ => ⟨S2x8192x1024, .f32⟩
  | .hbm, ⟨5, _⟩ => ⟨S2x8192x1024, .f32⟩
  | .hbm, ⟨6, _⟩ => ⟨S2x8192x2048, .f32⟩
  | .hbm, ⟨7, _⟩ => ⟨S2x8192x4096, .f32⟩
  | .hbm, ⟨8, _⟩ => ⟨S2x8192x4096, .f32⟩
  | .hbm, ⟨9, _⟩ => ⟨S2x8192x8x256, .f32⟩
  | .hbm, ⟨10, _⟩ => ⟨S256, .i32⟩
  | .hbm, ⟨11, _⟩ => ⟨S256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x1, .f32⟩
  | .hbm, ⟨17, _⟩ => ⟨S1x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S2x8192x8x256, .f32⟩
  | .hbm, ⟨28, _⟩ => ⟨S256x256, .f32⟩
  | .hbm, ⟨29, _⟩ => ⟨S2x8192x8x256, .f32⟩
  | .hbm, ⟨30, _⟩ => ⟨S16384x2048, .f32⟩
  | .hbm, ⟨31, _⟩ => ⟨S16384x2048, .bf16⟩
  | .hbm, ⟨32, _⟩ => ⟨S16384x2048, .f32⟩
  | .hbm, ⟨33, _⟩ => ⟨S16384x2048, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Ln.lean ====
abbrev S2x8192x4096 : Shape := ⟨3, ![2, 8192, 4096]⟩
abbrev S4096 : Shape := ⟨1, ![4096]⟩
abbrev S2x1x4096 : Shape := ⟨3, ![2, 1, 4096]⟩
abbrev S16384x4096 : Shape := ⟨2, ![16384, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S16384x4096, .f32⟩
  | .hbm, ⟨5, _⟩ => ⟨S1x4096, .f32⟩
  | .hbm, ⟨6, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnRefIdeal.lean ====
abbrev S2x8192x4096 : Shape := ⟨3, ![2, 8192, 4096]⟩
abbrev S4096 : Shape := ⟨1, ![4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | .hbm, ⟨20, _⟩ => ⟨S_, .f32⟩
  | .hbm, ⟨21, _⟩ => ⟨S2x1x4096, .f32⟩
  | .hbm, ⟨22, _⟩ => ⟨S2x1x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S16384x4096, .f32⟩
  | .hbm, ⟨28, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Mix.lean ====
abbrev S2x8192x2048 : Shape := ⟨3, ![2, 8192, 2048]⟩
abbrev S16384x2048 : Shape := ⟨2, ![16384, 2048]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S64x128 : Shape := ⟨2, ![64, 128]⟩
abbrev S128x256 : Shape := ⟨2, ![128, 256]⟩
abbrev S128x64 : Shape := ⟨2, ![128, 64]⟩
abbrev S128x64x1 : Shape := ⟨3, ![128, 64, 1]⟩
abbrev S128x64x128 : Shape := ⟨3, ![128, 64, 128]⟩
abbrev S2x64x262144 : Shape := ⟨3, ![2, 64, 262144]⟩
abbrev S1x64x8192 : Shape := ⟨3, ![1, 64, 8192]⟩
abbrev S4x64x128 : Shape := ⟨3, ![4, 64, 128]⟩
abbrev S64x8192 : Shape := ⟨2, ![64, 8192]⟩
abbrev S128x8192 : Shape := ⟨2, ![128, 8192]⟩
abbrev S64x2048 : Shape := ⟨2, ![64, 2048]⟩
abbrev S1x64x128 : Shape := ⟨3, ![1, 64, 128]⟩
abbrev S1x64x2048 : Shape := ⟨3, ![1, 64, 2048]⟩
abbrev S2x64x128x2048 : Shape := ⟨4, ![2, 64, 128, 2048]⟩
abbrev S2x128x131072 : Shape := ⟨3, ![2, 128, 131072]⟩
abbrev S1x1x128x2048 : Shape := ⟨4, ![1, 1, 128, 2048]⟩
abbrev S1x128x2048 : Shape := ⟨3, ![1, 128, 2048]⟩
abbrev S128x2048 : Shape := ⟨2, ![128, 2048]⟩
abbrev S256x2048 : Shape := ⟨2, ![256, 2048]⟩

abbrev nBuf : Space → Nat
  | .hbm => 89
  | .vmem => 20
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S16384x2048, .f32⟩
  | .hbm, ⟨3, _⟩ => ⟨S16384x2048, .bf16⟩
  | .hbm, ⟨4, _⟩ => ⟨S16384x2048, .f32⟩
  | .hbm, ⟨5, _⟩ => ⟨S16384x2048, .bf16⟩
  | .hbm, ⟨6, _⟩ => ⟨S64, .i32⟩
  | .hbm, ⟨7, _⟩ => ⟨S64x1, .i32⟩
  | .hbm, ⟨8, _⟩ => ⟨S64, .i32⟩
  | .hbm, ⟨9, _⟩ => ⟨S1x64, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S128, .i32⟩
  | .hbm, ⟨29, _⟩ => ⟨S128x1, .i32⟩
  | .hbm, ⟨30, _⟩ => ⟨S128, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S64x64, .f32⟩
  | .hbm, ⟨51, _⟩ => ⟨S64x128, .f32⟩
  | .hbm, ⟨52, _⟩ => ⟨S64x64, .f32⟩
  | .hbm, ⟨53, _⟩ => ⟨S64x64, .f32⟩
  | .hbm, ⟨54, _⟩ => ⟨S64x128, .f32⟩
  | .hbm, ⟨55, _⟩ => ⟨S128x128, .f32⟩
  | .hbm, ⟨56, _⟩ => ⟨S128x128, .bf16⟩
  | .hbm, ⟨57, _⟩ => ⟨S128x256, .f32⟩
  | .hbm, ⟨58, _⟩ => ⟨S128x256, .bf16⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S128, .i32⟩
  | .hbm, ⟨64, _⟩ => ⟨S128x1, .i32⟩
  | .hbm, ⟨65, _⟩ => ⟨S64, .i32⟩
  | .hbm, ⟨66, _⟩ => ⟨S1x64, .i32⟩
  | .hbm, ⟨67, _⟩ => ⟨S128x64, .i32⟩
  | .hbm, ⟨68, _⟩ => ⟨S128x64, .i32⟩
  | .hbm, ⟨69, _⟩ => ⟨S128x64, .i32⟩
  | .hbm, ⟨70, _⟩ => ⟨S128x64, .f32⟩
  | .hbm, ⟨71, _⟩ => ⟨S128x64, .f32⟩
  | .hbm, ⟨72, _⟩ => ⟨S128x64, .f32⟩
  | .hbm, ⟨73, _⟩ => ⟨S_, .f32⟩
  | .hbm, ⟨74, _⟩ => ⟨S128x64, .f32⟩
  | .hbm, ⟨75, _⟩ => ⟨S128x64, .f32⟩
  | .hbm, ⟨76, _⟩ => ⟨S128x64, .f32⟩
  | .hbm, ⟨77, _⟩ => ⟨S128x64x1, .f32⟩
  | .hbm, ⟨78, _⟩ => ⟨S128x64x128, .f32⟩
  | .hbm, ⟨79, _⟩ => ⟨S128x64, .f32⟩
  | .hbm, ⟨80, _⟩ => ⟨S128x64x1, .f32⟩
  | .hbm, ⟨81, _⟩ => ⟨S128x64x128, .f32⟩
  | .hbm, ⟨82, _⟩ => ⟨S2x64x262144, .bf16⟩
  | .hbm, ⟨83, _⟩ => ⟨S2x64x262144, .bf16⟩
  | .hbm, ⟨84, _⟩ => ⟨S2x64x262144, .bf16⟩
  | .hbm, ⟨85, _⟩ => ⟨S2x64x262144, .bf16⟩
  | .hbm, ⟨86, _⟩ => ⟨S2x64x128x2048, .bf16⟩
  | .hbm, ⟨87, _⟩ => ⟨S2x64x128x2048, .bf16⟩
  | .hbm, ⟨88, _⟩ => ⟨S2x128x131072, .bf16⟩
  | .local _ .vmem, ⟨0, _⟩ => ⟨S128x128, .bf16⟩
  | .local _ .vmem, ⟨1, _⟩ => ⟨S1x64x8192, .bf16⟩
  | .local _ .vmem, ⟨2, _⟩ => ⟨S1x64x8192, .bf16⟩
  | .local _ .vmem, ⟨3, _⟩ => ⟨S1x64x8192, .bf16⟩
  | .local _ .vmem, ⟨4, _⟩ => ⟨S1x64x8192, .bf16⟩
  | .local _ .vmem, ⟨5, _⟩ => ⟨S4x64x128, .f32⟩
  | .local _ .vmem, ⟨6, _⟩ => ⟨S4x64x128, .f32⟩
  | .local _ .vmem, ⟨7, _⟩ => ⟨S4x64x128, .f32⟩
  | .local _ .vmem, ⟨8, _⟩ => ⟨S4x64x128, .f32⟩
  | .local _ .vmem, ⟨9, _⟩ => ⟨S1x64x8192, .bf16⟩
  | .local _ .vmem, ⟨10, _⟩ => ⟨S1x64x8192, .bf16⟩
  | .local _ .vmem, ⟨11, _⟩ => ⟨S1x64x8192, .bf16⟩
  | .local _ .vmem, ⟨12, _⟩ => ⟨S1x64x8192, .bf16⟩
  | .local _ .vmem, ⟨13, _⟩ => ⟨S128x256, .bf16⟩
  | .local _ .vmem, ⟨14, _⟩ => ⟨S1x1x128x2048, .bf16⟩
  | .local _ .vmem, ⟨15, _⟩ => ⟨S1x1x128x2048, .bf16⟩
  | .local _ .vmem, ⟨16, _⟩ => ⟨S1x1x128x2048, .bf16⟩
  | .local _ .vmem, ⟨17, _⟩ => ⟨S1x1x128x2048, .bf16⟩
  | .local _ .vmem, ⟨18, _⟩ => ⟨S1x128x2048, .bf16⟩
  | .local _ .vmem, ⟨19, _⟩ => ⟨S1x128x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71_0 : Ref sig .tc := ⟨.hbm, 84, rfl⟩
abbrev main_v71_1 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x64x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MixIdeal.lean ====
variable {F : FTy → Type} [FloatOps F] [Named F]
def κ : String → Option EReal := fun
  | "scale" => some (((Real.sqrt 2097152)⁻¹ : ℝ) : EReal)
  | _ => none
-- ==== MixRefIdeal.lean ====
abbrev S2x8192x2048 : Shape := ⟨3, ![2, 8192, 2048]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8192x2x2048 : Shape := ⟨3, ![8192, 2, 2048]⟩
abbrev S2x128x131072 : Shape := ⟨3, ![2, 128, 131072]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S8192, .i32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x2x2048, .f32⟩
  | .hbm, ⟨20, _⟩ => ⟨S2x8192x2048, .f32⟩
  | .hbm, ⟨21, _⟩ => ⟨S8192x8192, .f32⟩
  | .hbm, ⟨22, _⟩ => ⟨S8192x2x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S_, .f32⟩
  | .hbm, ⟨27, _⟩ => ⟨S2x8192x2048, .f32⟩
  | .hbm, ⟨28, _⟩ => ⟨S2x8192x2048, .f32⟩
  | .hbm, ⟨29, _⟩ => ⟨S2x128x131072, .f32⟩
  | .hbm, ⟨30, _⟩ => ⟨S2x128x131072, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Mod.lean ====
abbrev S2x4096 : Shape := ⟨2, ![2, 4096]⟩
abbrev S4096x24576 : Shape := ⟨2, ![4096, 24576]⟩
abbrev S24576 : Shape := ⟨1, ![24576]⟩
abbrev S4x4096 : Shape := ⟨2, ![4, 4096]⟩
abbrev S_ : Shape := ⟨0, ![]⟩
abbrev S8x4096 : Shape := ⟨2, ![8, 4096]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩

abbrev nBuf : Space → Nat
  | .hbm => 10
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S4096x24576, .f32⟩
  | .hbm, ⟨3, _⟩ => ⟨S24576, .f32⟩
  | .hbm, ⟨4, _⟩ => ⟨S4x4096, .f32⟩
  | .hbm, ⟨5, _⟩ => ⟨S_, .i32⟩
  | .hbm, ⟨6, _⟩ => ⟨S_, .f32⟩
  | .hbm, ⟨7, _⟩ => ⟨S8x4096, .f32⟩
  | .hbm, ⟨8, _⟩ => ⟨S1x24576, .f32⟩
  | .hbm, ⟨9, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S2x4096 : Shape := ⟨2, ![2, 4096]⟩
abbrev S4096x24576 : Shape := ⟨2, ![4096, 24576]⟩
abbrev S24576 : Shape := ⟨1, ![24576]⟩
abbrev S_ : Shape := ⟨0, ![]⟩
abbrev S2x24576 : Shape := ⟨2, ![2, 24576]⟩
abbrev S1x24576 : Shape := ⟨2, ![1, 24576]⟩
abbrev S4x24576 : Shape := ⟨2, ![4, 24576]⟩
abbrev S8x24576 : Shape := ⟨2, ![8, 24576]⟩

abbrev nBuf : Space → Nat
  | .hbm => 32
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S4096x24576, .f32⟩
  | .hbm, ⟨3, _⟩ => ⟨S24576, .f32⟩
  | .hbm, ⟨4, _⟩ => ⟨S2x4096, .f32⟩
  | .hbm, ⟨5, _⟩ => ⟨S2x4096, .f32⟩
  | .hbm, ⟨6, _⟩ => ⟨S_, .f32⟩
  | .hbm, ⟨7, _⟩ => ⟨S2x4096, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S2x4096, .f32⟩
  | .hbm, ⟨13, _⟩ => ⟨S2x24576, .f32⟩
  | .hbm, ⟨14, _⟩ => ⟨S1x24576, .f32⟩
  | .hbm, ⟨15, _⟩ => ⟨S2x24576, .f32⟩
  | .hbm, ⟨16, _⟩ => ⟨S2x24576, .f32⟩
  | .hbm, ⟨17, _⟩ => ⟨S2x4096, .f32⟩
  | .hbm, ⟨18, _⟩ => ⟨S2x4096, .f32⟩
  | .hbm, ⟨19, _⟩ => ⟨S_, .f32⟩
  | .hbm, ⟨20, _⟩ => ⟨S2x4096, .f32⟩
  | .hbm, ⟨21, _⟩ => ⟨S2x4096, .f32⟩
  | .hbm, ⟨22, _⟩ => ⟨S_, .f32⟩
  | .hbm, ⟨23, _⟩ => ⟨S2x4096, .f32⟩
  | .hbm, ⟨24, _⟩ => ⟨S2x4096, .f32⟩
  | .hbm, ⟨25, _⟩ => ⟨S2x4096, .f32⟩
  | .hbm, ⟨26, _⟩ => ⟨S2x24576, .f32⟩
  | .hbm, ⟨27, _⟩ => ⟨S1x24576, .f32⟩
  | .hbm, ⟨28, _⟩ => ⟨S2x24576, .f32⟩
  | .hbm, ⟨29, _⟩ => ⟨S2x24576, .f32⟩
  | .hbm, ⟨30, _⟩ => ⟨S4x24576, .f32⟩
  | .hbm, ⟨31, _⟩ => ⟨S8x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Proof.Attn.Body.lean ====
/-
  What the attention kernel's body computes at one grid point, over any float operations.

  The body stages the four query heads of its block side by side, transposed, then walks the eight chunks of 1024
  keys: the scores of a chunk are formed one step ahead of their use, in two buffers that change roles; each chunk is
  folded into the running maximum and the running sums. `fold n` is that pair after `n` chunks, `outBlock` is what the
  four stores leave in the output block, and `body_triple` says that the printed body does this.
-/
module

public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit.Basic
public import Idealize.ShloMosaic.Lib.Pipeline.ValueKit.Acc
public import Idealize.ShloMosaic.Lib.Pipeline.Kit
public import Idealize.ShloMosaic.Lib.Ring
public import Idealize.ShloMosaic.Lib.Exec
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `1024 n, …, 1024 n + 1023` of a block of keys or values. -/
def chunk (x : Vec F S8192x128 .bf16) (n : ℕ) : Vec F S1024x128 .bf16 := fun j =>
  x (Fin.cons (⟨(1024 * n + (j 0).val) % 8192, Nat.mod_lt _ (by decide)⟩ : Fin 8192) (Fin.cons (j 1) finZeroElim))

/-- A load of 1024 rows from row `1024 n` reads chunk `n`. -/
theorem ld_chunk (x : Vec F S8192x128 .bf16) {off : Fin 2 → ℕ} (n : ℕ) (hn : n < 8) (ho : off = ![1024 * n, 0])
    (inb : ∀ a, off a + S1024x128.size a ≤ S8192x128.size a) :
    View.ld x (Rect.unit (s := S8192x128) off S1024x128.size inb) = chunk x n := by
  subst ho
  funext j
  show x _ = x _
  congr 1
  funext a
  apply Fin.ext
  have h0 : (j 0).val < 1024 := (j 0).isLt
  match a with
  | ⟨0, _⟩ =>
    show 1024 * n + 1 * (j 0).val = (1024 * n + (j 0).val) % 8192
    rw [Nat.mod_eq_of_lt (by omega)]; omega
  | ⟨1, _⟩ => show 0 + 1 * (j 1).val = (j 1).val; omega

/-- The same with the offset a literal row and the extents free, as `simp` meets them. -/
theorem ld_chunk' (x : Vec F S8192x128 .bf16) (n : ℕ) (hn : n < 8)
    (inb : ∀ a, ![1024 * n, 0] a + S1024x128.size a ≤ S8192x128.size a) :
    View.ld x (Rect.unit (s := S8192x128) ![1024 * n, 0] (no_index S1024x128.size) inb) = chunk x n := ld_chunk x n hn rfl inb

/-- A buffer whose last store was whole reads that store's payload. -/
theorem read_store {sp : Space} {S : Shape} {e : EltTy} (v : View sig .tc sp S e) (f : v.ty.Contents (Elt F))
    {off : Fin S.rank → ℕ} (inb : ∀ a, off a + S.size a ≤ S.size a) (w : S.Idx → Elt F e) (L : List (View.Piece (Elt F) S e))
    (h : ∀ a, off a = 0) : v.read (Elt F) (v.writes (Elt F) f (⟨Rect.unit off S.size inb, w⟩ :: L)) = w := by
  rw [View.read_writes_eq_canon _ _ _ (fun y => ⟨_, List.mem_cons_self, by
    rw [Rect.mem_set_unit]; intro a; rw [h a]; exact ⟨Nat.zero_le _, by simpa using (y a).isLt⟩⟩)]
  exact View.canon_cons_unit_lit inb w L h

/-! The same value is printed under several names: each text of the program that folds a chunk has its own. -/

theorem pay4_eq (a : FVec F S144x2048 .f32) : k0_pay4 a = a := by unfold k0_pay4; exact shapeCast_self _ _
theorem pay5_eq (a : FVec F S1x2048 .f32) : k0_pay5 a = a := by unfold k0_pay5; exact shapeCast_self _ _
theorem pay16_eq (a : FVec F S1x2048 .f32) : k0_pay16 a = a := by unfold k0_pay16; exact shapeCast_self _ _
theorem pay21_eq (a : FVec F S1x2048 .f32) : k0_pay21 a = a := by unfold k0_pay21; exact shapeCast_self _ _
theorem pay30_eq (a : FVec F S1x2048 .f32) : k0_pay30 a = a := by unfold k0_pay30; exact shapeCast_self _ _
theorem pay26_eq (a : Vec F S1024x128 .bf16) : k0_pay26 a = a := by unfold k0_pay26; exact shapeCast_self _ _
theorem pay6_eq (a : Vec F S1024x128 .bf16) (q : Vec F S128x2048 .fp8e4m3) : k0_pay6 a q = k0_pay1 a q := rfl
theorem pay19_eq (a : Vec F S1024x128 .bf16) (q : Vec F S128x2048 .fp8e4m3) : k0_pay19 a q = k0_pay1 a q := rfl
theorem pay22_eq (a : Vec F S1024x128 .bf16) (q : Vec F S128x2048 .fp8e4m3) : k0_pay22 a q = k0_pay1 a q := rfl
theorem pay7_eq (s : Vec F S1024x2048 .f32) (x : Vec F S1x2048 .f32) : k0_pay7 s x = k0_pay2 s x := rfl
theorem pay23_eq (s : Vec F S1024x2048 .f32) (x : Vec F S1x2048 .f32) : k0_pay23 s x = k0_pay2 s x := rfl
theorem pay27_eq (s : Vec F S1024x2048 .f32) (x : Vec F S1x2048 .f32) : k0_pay27 s x = k0_pay2 s x := rfl
theorem pay25_eq (s : Vec F S1024x2048 .f32) (x : Vec F S1x2048 .f32) : k0_pay25 s x = k0_pay2 s x := by
  unfold k0_pay25; exact shapeCast_self _ _
theorem pay20_eq (s : Vec F S1024x2048 .f32) (x : Vec F S1x2048 .f32) (w : Vec F S1024x128 .bf16) (a : Vec F S144x2048 .f32) :
    k0_pay20 (k0_pay8 s x) (k0_pay9 s x) (k0_pay10 w) a = k0_pay3 k0_pay18 w s x a := by
  unfold k0_pay20; exact shapeCast_self _ _
theorem pay24_eq (o : FVec F S16x1024 .bf16) (s : Vec F S1024x2048 .f32) (x : Vec F S1x2048 .f32) (w : Vec F S1024x128 .bf16)
    (a : Vec F S144x2048 .f32) : k0_pay24 o w s x a = k0_pay3 o w s x a := by
  unfold k0_pay24; exact shapeCast_self _ _
theorem pay29_eq (o : FVec F S16x1024 .bf16) (s : Vec F S1024x2048 .f32) (x : Vec F S1x2048 .f32) (w : Vec F S1024x128 .bf16)
    (a : Vec F S144x2048 .f32) :
    k0_pay29 o (k0_pay26 w) x (k0_pay2 s x) (k0_pay28 s x) a = k0_pay3 o w s x a := by
  unfold k0_pay29; exact shapeCast_self _ _

/-- The four query heads of the block, transposed, side by side: one column per query. -/
def queries (x0 : Vec F S512x512 .bf16) : Vec F S128x2048 .fp8e4m3 :=
  View.canon (Val := Elt F)
    [⟨Rect.unit (s := S128x2048) ![0, 1536] S128x512.size inb_S128x2048_S128x512_0_1536, k0_pay14 (View.ld x0 (Rect.unit (s := S512x512) ![0, 384] S512x128.size inb_S512x512_S512x128_0_384))⟩,
     ⟨Rect.unit (s := S128x2048) ![0, 1024] S128x512.size inb_S128x2048_S128x512_0_1024, k0_pay13 (View.ld x0 (Rect.unit (s := S512x512) ![0, 256] S512x128.size inb_S512x512_S512x128_0_256))⟩,
     ⟨Rect.unit (s := S128x2048) ![0, 512] S128x512.size inb_S128x2048_S128x512_0_512, k0_pay12 (View.ld x0 (Rect.unit (s := S512x512) ![0, 128] S512x128.size inb_S512x512_S512x128_0_128))⟩,
     ⟨Rect.unit (s := S128x2048) ![0, 0] S128x512.size inb_S128x2048_S128x512_0_0, k0_pay11 (View.ld x0 (Rect.unit (s := S512x512) ![0, 0] S512x128.size inb_S512x512_S512x128_0_0))⟩]

/-- The scores of the keys of chunk `n` against every query. -/
def scores (x1 : Vec F S8192x128 .bf16) (qt : Vec F S128x2048 .fp8e4m3) (n : ℕ) : Vec F S1024x2048 .f32 :=
  k0_pay1 (chunk x1 n) qt

/-- The running maximum and the running sums after `n` chunks. -/
def fold (x1 x2 : Vec F S8192x128 .bf16) (qt : Vec F S128x2048 .fp8e4m3) : ℕ → Vec F S1x2048 .f32 × Vec F S144x2048 .f32
  | 0 => (k0_pay15, k0_pay17)
  | n + 1 => (k0_pay2 (scores x1 qt n) (fold x1 x2 qt n).1,
      k0_pay3 k0_pay18 (chunk x2 n) (scores x1 qt n) (fold x1 x2 qt n).1 (fold x1 x2 qt n).2)

/-- The output block from the final sums: one store of 128 columns per query head. -/
def outBlock (a : Vec F S144x2048 .f32) : Vec F S512x512 .bf16 :=
  View.canon (Val := Elt F)
    [⟨Rect.unit (s := S512x512) ![0, 384] S512x128.size inb_S512x512_S512x128_0_384, k0_pay35 a⟩,
     ⟨Rect.unit (s := S512x512) ![0, 256] S512x128.size inb_S512x512_S512x128_0_256, k0_pay34 a⟩,
     ⟨Rect.unit (s := S512x512) ![0, 128] S512x128.size inb_S512x512_S512x128_0_128, k0_pay33 a⟩,
     ⟨Rect.unit (s := S512x512) ![0, 0] S512x128.size inb_S512x512_S512x128_0_0, k0_pay32 a⟩]

/-- What one trip of the loop needs and leaves, after `n` chunks have been folded in. -/
abbrev Held (c : Dev nD) (arg4 : Memref sig .tc .vmem S8192x128 .bf16) (arg5 : Memref sig .tc .vmem S8192x128 .bf16) (arg7 : Memref sig .tc .vmem S1x2048 .f32) (arg8 : Memref sig .tc .vmem S144x2048 .f32) (arg9 : Memref sig .tc .vmem S128x2048 .fp8e4m3) (arg10 : Memref sig .tc .vmem S1024x2048 .f32) (arg11 : Memref sig .tc .vmem S1024x2048 .f32)
    (x1 x2 : Vec F S8192x128 .bf16) (qt : Vec F S128x2048 .fp8e4m3) (n : ℕ) : sProp 𝕄 :=
  iprop(owns (c : Thread nD τ) arg4 fullShare x1 ∗ owns (c : Thread nD τ) arg5 fullShare x2
    ∗ owns (c : Thread nD τ) arg9 fullShare qt
    ∗ owns (c : Thread nD τ) arg7 fullShare (fold x1 x2 qt n).1 ∗ owns (c : Thread nD τ) arg8 fullShare (fold x1 x2 qt n).2
    ∗ owns (c : Thread nD τ) arg10 fullShare (scores x1 qt n) ∗ (∃ d, owns (c : Thread nD τ) arg11 fullShare d))

set_option maxHeartbeats 1000000 in
/-- One trip of the loop folds in two chunks and leaves the scores of the next one in the first buffer. -/
theorem trip_triple (c : Dev nD) (i : grid0.Coords) (arg3 : Memref sig .tc .vmem S512x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x512 .bf16) (harg6 : arg6.IsWhole) (arg7 : Memref sig .tc .vmem S1x2048 .f32) (harg7 : arg7.IsWhole) (arg8 : Memref sig .tc .vmem S144x2048 .f32) (harg8 : arg8.IsWhole) (arg9 : Memref sig .tc .vmem S128x2048 .fp8e4m3) (harg9 : arg9.IsWhole) (arg10 : Memref sig .tc .vmem S1024x2048 .f32) (harg10 : arg10.IsWhole) (arg11 : Memref sig .tc .vmem S1024x2048 .f32) (harg11 : arg11.IsWhole)
    (x1 x2 : Vec F S8192x128 .bf16) (qt : Vec F S128x2048 .fp8e4m3) (v32 : FVec F S1x2048 .f32) (v33 : Vec F S1x2048 .f32)
    (k : Fin k0_t1_loop.trips) (E : Set ℕ) :
    Held c arg4 arg5 arg7 arg8 arg9 arg10 arg11 x1 x2 qt (2 * k.val)
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 v32 v33 k PUnit.unit)
          (fun _ => Held c arg4 arg5 arg7 arg8 arg9 arg10 arg11 x1 x2 qt (2 * (k.val + 1))) := by
  have hk : k.val < 3 := Nat.lt_of_lt_of_le k.isLt k0_t1_abs.2.1
  unfold Held k0_t1_body owns
  iintro ⟨⟨%f1, %hf1, H1⟩, ⟨%f2, %hf2, H2⟩, ⟨%fq, %hfq, Hq⟩, ⟨%fm, %hfm, Hm⟩, ⟨%fa, %hfa, Ha⟩, ⟨%fs, %hfs, Hs⟩, ⟨%d, %ft, -, Ht⟩⟩
  sl_exec
  sl_step
  have e1 : k0_off1 k 1#32 = ![1024 * (2 * k.val + 1), 0] := (k0_off1_eq k 0).trans (by congr 1; simp; omega)
  have e2 : k0_off1 k 2#32 = ![1024 * (2 * k.val + 1 + 1), 0] := (k0_off1_eq k 1).trans (by congr 1; simp; omega)
  have e3 : k0_off2 k = ![1024 * (2 * k.val), 0] := (k0_off2_eq k).trans (by congr 1; omega)
  isplitl [H1]
  · iexists _; isplitr; swap; · iexact H1
    ipureintro; exact hf1
  isplitl [H2]
  · iexists _; isplitr; swap; · iexact H2
    ipureintro; exact hf2
  isplitl [Hq]
  · iexists _; isplitr; swap; · iexact Hq
    ipureintro; exact hfq
  isplitl [Hm]
  · iexists _; isplitr; swap; · iexact Hm
    ipureintro
    rw [read_store _ _ _ _ _ (by decide), show 2 * (k.val + 1) = 2 * k.val + 1 + 1 by omega]
    sl_unfold_words
    simp (disch := decide) only [View.readAt_eq_ld, hf1, hf2, hfq, hfm, hfa, hfs, View.ld_unit_lit',
      View.readCov_unit_lit', View.readCov_cons_unit_lit', pay21_eq, pay5_eq, pay7_eq]
    show k0_pay2 (k0_pay1 (View.ld x1 (Rect.unit (s := S8192x128) (k0_off1 k 1#32) S1024x128.size (k0_off1_inb k 0))) qt) (k0_pay2 (scores x1 qt (2 * k.val)) (fold x1 x2 qt (2 * k.val)).1) = _
    rw [ld_chunk x1 (2 * k.val + 1) (by omega) e1]
    rfl
  isplitl [Ha]
  · iexists _; isplitr; swap; · iexact Ha
    ipureintro
    rw [read_store _ _ _ _ _ (by decide), show 2 * (k.val + 1) = 2 * k.val + 1 + 1 by omega]
    sl_unfold_words
    simp (disch := decide) only [View.readAt_eq_ld, hf1, hf2, hfq, hfm, hfa, hfs, View.ld_unit_lit',
      View.readCov_unit_lit', View.readCov_cons_unit_lit', pay4_eq, pay5_eq, pay20_eq]
    show k0_pay3 k0_pay18 (View.ld x2 (Rect.unit (s := S8192x128) (k0_off1 k 1#32) S1024x128.size (k0_off1_inb k 0))) (k0_pay1 (View.ld x1 (Rect.unit (s := S8192x128) (k0_off1 k 1#32) S1024x128.size (k0_off1_inb k 0))) qt) (k0_pay2 (scores x1 qt (2 * k.val)) (fold x1 x2 qt (2 * k.val)).1)
      (k0_pay3 k0_pay18 (View.ld x2 (Rect.unit (s := S8192x128) (k0_off2 k) S1024x128.size (k0_off2_inb k))) (scores x1 qt (2 * k.val)) (fold x1 x2 qt (2 * k.val)).1 (fold x1 x2 qt (2 * k.val)).2) = _
    rw [ld_chunk x1 (2 * k.val + 1) (by omega) e1, ld_chunk x2 (2 * k.val + 1) (by omega) e1, ld_chunk x2 (2 * k.val) (by omega) e3]
    rfl
  isplitl [Hs]
  · iexists _; isplitr; swap; · iexact Hs
    ipureintro
    rw [read_store _ _ _ _ _ (by decide), show 2 * (k.val + 1) = 2 * k.val + 1 + 1 by omega]
    simp (disch := decide) only [View.readAt_eq_ld, hf1, hf2, hfq, hfm, hfa, hfs, View.ld_unit_lit', pay6_eq]
    rw [ld_chunk x1 (2 * k.val + 1 + 1) (by omega) e2]
    rfl
  iexists _, _; isplitr; swap; · iexact Ht
  ipureintro; rfl

set_option maxHeartbeats 1000000 in
/-- The printed body at a grid point: the output block's buffer ends holding `outBlock` of the sums after eight chunks. -/
theorem body_triple (c : Dev nD) (i : grid0.Coords) (arg3 : Memref sig .tc .vmem S512x512 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x512 .bf16) (harg6 : arg6.IsWhole) (arg7 : Memref sig .tc .vmem S1x2048 .f32) (harg7 : arg7.IsWhole) (arg8 : Memref sig .tc .vmem S144x2048 .f32) (harg8 : arg8.IsWhole) (arg9 : Memref sig .tc .vmem S128x2048 .fp8e4m3) (harg9 : arg9.IsWhole) (arg10 : Memref sig .tc .vmem S1024x2048 .f32) (harg10 : arg10.IsWhole) (arg11 : Memref sig .tc .vmem S1024x2048 .f32) (harg11 : arg11.IsWhole)
    (x0 : Vec F S512x512 .bf16) (x1 x2 : Vec F S8192x128 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (outBlock (fold x1 x2 (queries x0) 8).2)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d)) -∗ K ⟨⟩))
      ⊢ wp frame (wpE (defs₀ (F := F)) Variants.none (c : Thread nD τ) none) E (cc0_attn (F := F) i arg3 harg3 arg4 harg4 arg5 harg5 arg6 harg6 arg7 harg7 arg8 harg8 arg9 harg9 arg10 harg10 arg11 harg11) K := by
  simp only [cc0_attn_eq_skeleton]; unfold cc0_attn_skel
  simp only [k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%ds0, %fm, -, Hm⟩, ⟨%ds1, %fa, -, Ha⟩, ⟨%ds2, %fq, -, Hq⟩, ⟨%ds3, %fs, -, Hs⟩, ⟨%ds4, %ft, -, Ht⟩, Hk⟩
  sl_exec
  sl_for (fun k (_ : Unit) => Held c arg4 arg5 arg7 arg8 arg9 arg10 arg11 x1 x2 (queries x0) (2 * k)) $$ [H1 H2 Hm Ha Hq Hs Ht]
  · intro k acc
    exact trip_triple (F := F) c i arg3 harg3 arg4 harg4 arg5 harg5 arg6 harg6 arg7 harg7 arg8 harg8 arg9 harg9 arg10 harg10 arg11 harg11 x1 x2 (queries x0) _ _ k E
  · unfold Held owns
    isplitl [H1]
    · iexists _; isplitr; swap; · iexact H1
      ipureintro; exact hf1
    isplitl [H2]
    · iexists _; isplitr; swap; · iexact H2
      ipureintro; exact hf2
    isplitl [Hq]
    · iexists _; isplitr; swap; · iexact Hq
      ipureintro
      sl_unfold_words
      simp only [View.readAt_eq_ld, hf0]
      exact View.read_writes_eq_canon arg9.view _ _ (View.cover_of_tiledL _ S128x512.size (by sl_kernel_rfl))
    isplitl [Hm]
    · iexists _; isplitr; swap; · iexact Hm
      ipureintro
      sl_unfold_words
      rw [read_store _ _ _ _ _ (by decide), pay16_eq]; rfl
    isplitl [Ha]
    · iexists _; isplitr; swap; · iexact Ha
      ipureintro
      sl_unfold_words
      rw [read_store _ _ _ _ _ (by decide)]; rfl
    isplitl [Hs]
    · iexists _; isplitr; swap; · iexact Hs
      ipureintro
      sl_unfold_words
      rw [read_store _ _ _ _ _ (by decide)]
      simp only [View.readAt_eq_ld, hf0, hf1, pay19_eq]
      rw [View.readCov_eq_canon', ld_chunk' x1 0 (by omega)]
      exact congrArg (k0_pay1 (chunk x1 0)) (View.ld_unit_lit (S := S128x2048) inb_S128x2048_S128x2048_0_0 (queries x0) (by decide))
    iexists _, _; isplitr; swap; · iexact Ht
    ipureintro; rfl
  · iintro %acc HI
    unfold Held owns
    icases HI with ⟨⟨%g1, %hg1, H1⟩, ⟨%g2, %hg2, H2⟩, ⟨%gq, %hgq, Hq⟩, ⟨%gm, %hgm, Hm⟩, ⟨%ga, %hga, Ha⟩, ⟨%gs, %hgs, Hs⟩, ⟨%dt, %gt, -, Ht⟩⟩
    sl_exec
    sl_step
    have t3 : 2 * Scf.trips k0_t1_loop.lb k0_t1_loop.ub k0_t1_loop.st = 6 := by decide
    rw [t3] at hgm hga hgs
    have w6 : View.ld x2 (Rect.unit (s := S8192x128) ![6144, 0] S1024x128.size inb_S8192x128_S1024x128_6144_0) = chunk x2 6 :=
      ld_chunk x2 6 (by omega) rfl _
    have w7 : View.ld x2 (Rect.unit (s := S8192x128) ![7168, 0] S1024x128.size inb_S8192x128_S1024x128_7168_0) = chunk x2 7 :=
      ld_chunk x2 7 (by omega) rfl _
    have w7' : View.ld x1 (Rect.unit (s := S8192x128) ![7168, 0] S1024x128.size inb_S8192x128_S1024x128_7168_0) = chunk x1 7 :=
      ld_chunk x1 7 (by omega) rfl _
    iapply Hk
    isplitl [H0]
    · iexists _; isplitr; swap; · iexact H0
      ipureintro; exact hf0
    isplitl [H1]
    · iexists _; isplitr; swap; · iexact H1
      ipureintro; exact hg1
    isplitl [H2]
    · iexists _; isplitr; swap; · iexact H2
      ipureintro; exact hg2
    isplitl [H3]
    · iexists _; isplitr; swap; · iexact H3
      ipureintro
      refine (View.read_writes_eq_canon arg6.view _ _ (View.cover_of_tiledL _ S512x128.size (by sl_kernel_rfl))).trans ?_
      have ea : body_triple.sl.v122 c arg4 arg5 arg7 arg8 arg9 arg10 arg11 g1 g2 gq gm ga gs = (fold x1 x2 (queries x0) 8).2 := by
        sl_unfold_words
        simp (disch := decide) only [View.readAt_eq_ld, hg1, hg2, hgq, hgm, hga, hgs, View.ld_unit_lit',
          View.readCov_unit_lit', View.readCov_cons_unit_lit', pay25_eq, pay24_eq, pay29_eq, pay27_eq, pay22_eq]
        rw [w6, w7, w7']
        rfl
      exact congrArg outBlock ea
    isplitl [Hm]
    · iexists _, _; isplitr; swap; · iexact Hm
      ipureintro; rfl
    isplitl [Ha]
    · iexists _, _; isplitr; swap; · iexact Ha
      ipureintro; rfl
    isplitl [Hq]
    · iexists _, _; isplitr; swap; · iexact Hq
      ipureintro; rfl
    isplitl [Hs]
    · iexists _, _; isplitr; swap; · iexact Hs
      ipureintro; rfl
    iexists _, _; isplitr; swap; · iexact Ht
    ipureintro; rfl

end Cert.KernelIdeal.Attn

end
-- ==== Proof.Attn.Launch.lean ====
/-
  The launch of the attention kernel over any float operations: what each block of the output is given
  (`outsAt`), the frame, and the run whose final state has the output array at what the blocks were given.
-/
module

public import proofs.«01_k».proof.Proof.Attn.Body
public import proofs.«01_k».proof.Proof.Gen.KernelIdeal.Frame.Runs
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in the output's buffer: the attention of its query block over the keys and values it was given. -/
def outsAt (c : Dev nD) (t : Fin cfg0.N) : Vec F S512x512 .bf16 :=
  outBlock (fold (iblk m c 1 t) (iblk m c 2 t) (queries (iblk m c 0 t)) 8).2

/-- The launch's data: inputs stay at their blocks, the output's buffer ends at `outsAt`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q w := Pipeline.shareOf spec0 w
  owed _ := 0

theorem data_A (c : Dev nD) (w : Fin cfg0.W) : (data m 0 c).A w = V m c (Pipeline.arrRef spec0 w) := by
  dsimp only [data]

theorem after_in0 (c : Dev nD) (t : Fin cfg0.N) : (data m 0 c).after 0 t = iblk m c 0 t := by dsimp only [data]
theorem after_in1 (c : Dev nD) (t : Fin cfg0.N) : (data m 0 c).after 1 t = iblk m c 1 t := by dsimp only [data]
theorem after_in2 (c : Dev nD) (t : Fin cfg0.N) : (data m 0 c).after 2 t = iblk m c 2 t := by dsimp only [data]
theorem after_out (c : Dev nD) (t : Fin cfg0.N) : (data m 0 c).after 3 t = outsAt m c t := by dsimp only [data]

theorem before_in0 (c : Dev nD) (t : Fin cfg0.N) (d) : (data m 0 c).before 0 t d = iblk m c 0 t :=
  before0_0_of m (data m 0 c) (data_A m c 0) (after_in0 m c) t d
theorem before_in1 (c : Dev nD) (t : Fin cfg0.N) (d) : (data m 0 c).before 1 t d = iblk m c 1 t :=
  before0_1_of m (data m 0 c) (data_A m c 1) (after_in1 m c) t d
theorem before_in2 (c : Dev nD) (t : Fin cfg0.N) (d) : (data m 0 c).before 2 t d = iblk m c 2 t :=
  before0_2_of m (data m 0 c) (data_A m c 2) (after_in2 m c) t d

set_option maxHeartbeats 800000 in
/-- At any point the body runs from the fetched blocks to the output's block at `outsAt`. -/
theorem point_triple (c : Dev nD) (t : Fin cfg0.N) :
    iprop((data m 0 c).Φ t.castSucc ∗ (data m 0 c).owesAt () t.castSucc
        ∗ (∃ d, owns (c : Thread nD τ) (ms0_0 t) fullShare ((data m 0 c).before 0 t d))
        ∗ (∃ d, owns (c : Thread nD τ) (ms0_1 t) fullShare ((data m 0 c).before 1 t d))
        ∗ (∃ d, owns (c : Thread nD τ) (ms0_2 t) fullShare ((data m 0 c).before 2 t d))
        ∗ (∃ d, owns (c : Thread nD τ) (ms0_3 t) fullShare ((data m 0 c).before 3 t d)))
      ⊢ wp frame (wpE (defs₀ (F := F)) Variants.none c none) Set.univ (bodyAt0 t) (fun _ =>
        iprop((data m 0 c).Φ t.succ ∗ (data m 0 c).owesAt () t.succ
          ∗ owns (c : Thread nD τ) (ms0_0 t) fullShare ((data m 0 c).after 0 t)
          ∗ owns (c : Thread nD τ) (ms0_1 t) fullShare ((data m 0 c).after 1 t)
          ∗ owns (c : Thread nD τ) (ms0_2 t) fullShare ((data m 0 c).after 2 t)
          ∗ owns (c : Thread nD τ) (ms0_3 t) fullShare ((data m 0 c).after 3 t))) := by
  unfold bodyAt0
  simp only [before_in0, before_in1, before_in2]
  rw [show (data m 0 c).Φ t.succ = (data m 0 c).Φ t.castSucc from rfl,
    show (data m 0 c).owesAt () t.succ = (data m 0 c).owesAt () t.castSucc from rfl,
    after_in0, after_in1, after_in2, after_out]
  rw [show (data m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩⟩
  iapply (body_triple (F := F) c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  iexact H3

/-- The body the pipeline calls at point `t` is the printed one on the point's buffers. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row_eq]
  exact triple_restated (point_triple m c t) rfl .rfl fun _ => .rfl

set_option backward.isDefEq.respectTransparency.types false in
/-- The run of the whole program: the pipeline's arrays at what the data gives, the counters at zero. -/
theorem run_all : θ_run defs (onTc (τ := τ) (main (F := F))) (s₀ m ρ)
    (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hΦ := fun _ _ => rfl)

/-- The frame: the arguments end as they were, the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_A m) ((θ_run defs _ _).mono (fun _ h => h.1) (run_all m ρ)))
    ((θ_run defs _ _).mono (fun _ h => h.2) (run_all m ρ))

/-- The run with the output array named: it ends at what its blocks were given, the arguments as they were. -/
theorem run_value : θ_run defs (onTc (τ := τ) (main (F := F))) ⟨m, fun _ => 0, ρ⟩ (fun r => ∀ c : Dev nD,
      r.2.mem ((c.tc : Thread nD τ).loc main_v11) = (data m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1 c, h.2.1 c⟩) (θ_run_and
    ((θ_run defs _ _).mono (fun _ h c => (h.1 c).1 3) (run_all m ρ) :
      θ_run defs (onTc (τ := τ) (main (F := F))) ⟨m, fun _ => 0, ρ⟩ (fun r => ∀ c : Dev nD,
        r.2.mem ((c.tc : Thread nD τ).loc main_v11) = (data m 0 c).arrAt 3 cfg0.N))
    (frame_all m ρ))

end Cert.KernelIdeal.Attn

end
-- ==== Proof.Attn.Softmax.lean ====
/-
  The mathematics of the attention claim, over extended reals and without any program.

  A row of scores is walked in chunks. What is kept is a reference level (the running maximum) and a sum of
  `value * 2 ^ (score - level)`; when the level moves, the sum is multiplied by `2 ^ (old level - new level)`. After any
  number of chunks the sum is the one a single pass at the last level would give (`sums_eq`), and the quotient of two
  such sums is the softmax average whatever the level (`quotient_eq`). The scores are real; the values may be infinite.
-/
module

public import Idealize.ShloMosaic.PureOps.Ideal
public import Idealize.ShloMosaic.PureOps.Ideal.Laws
public import Idealize.ShloMosaic.Lib.IdealHost
public import Idealize.ShloMosaic.Lib.Pointwise.Sums

@[expose] public section

set_option maxRecDepth 16384

noncomputable section

namespace Cert.Softmax

open Idealize.ShloMosaic

/-- `2 ^ x` for a real `x`. -/
abbrev pw (x : ℝ) : ℝ := Real.rpow 2 x

theorem pw_pos (x : ℝ) : 0 < pw x := Real.rpow_pos_of_pos two_pos x

theorem pw_add (x y : ℝ) : pw (x + y) = pw x * pw y := Real.rpow_add two_pos x y

/-- A nonnegative real goes into a sum of extended reals. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of `value * 2 ^ (score - level)` over the first `n` chunks of `w` scores. -/
def level (w : ℕ) (v : ℕ → EReal) (s : ℕ → ℝ) (M : ℝ) (n : ℕ) : EReal :=
  ∑ k ∈ Finset.range (w * n), v k * (pw (s k - M) : EReal)

/-- Moving the level multiplies the sum. -/
theorem level_move (w : ℕ) (v : ℕ → EReal) (s : ℕ → ℝ) (M M' : ℝ) (n : ℕ) :
    (pw (M - M') : EReal) * level w v s M n = level w v s M' n := by
  unfold level
  rw [coe_mul_sum _ (pw_pos _).le]
  refine Finset.sum_congr rfl fun k _ => ?_
  rw [mul_left_comm, ← EReal.coe_mul, ← pw_add]
  congr 3
  ring

/-- The running sums are those of one pass at the last level. -/
theorem sums_eq (w : ℕ) (v : ℕ → EReal) (s : ℕ → ℝ) (m : ℕ → EReal) (a : ℕ → EReal) (M : ℕ → ℝ)
    (m0 : m 0 = ⊥) (hm : ∀ n, m (n + 1) = (M (n + 1) : EReal)) (a0 : a 0 = 0)
    (ha : ∀ n, a (n + 1) = Ideal.exp2 (m n - m (n + 1)) * a n
      + ∑ k : Fin w, v (w * n + k.val) * Ideal.exp2 ((s (w * n + k.val) : EReal) - m (n + 1))) (n : ℕ) :
    a (n + 1) = level w v s (M (n + 1)) (n + 1) := by
  have hstep : ∀ n, level w v s (M (n + 1)) n
      + ∑ k : Fin w, v (w * n + k.val) * Ideal.exp2 ((s (w * n + k.val) : EReal) - m (n + 1)) = level w v s (M (n + 1)) (n + 1) := by
    intro n
    unfold level
    rw [Nat.mul_succ, Finset.sum_range_add, ← Fin.sum_univ_eq_sum_range (fun k => v (w * n + k) * (pw (s (w * n + k) - M (n + 1)) : EReal))]
    congr 1
    refine Finset.sum_congr rfl fun k _ => ?_
    rw [hm, ← EReal.coe_sub, Ideal.exp2_coe]
  induction n with
  | zero =>
    rw [ha, a0, mul_zero, ← hstep 0]
    congr 1
  | succ n ih =>
    rw [ha, ih, ← hstep (n + 1), hm, hm, ← EReal.coe_sub, Ideal.exp2_coe, level_move]

/-- The quotient of the two sums is the average of the values with the softmax weights, taken in base `e` at any level. -/
theorem quotient_eq (w n N : ℕ) (hN : w * n = N) (hn : 0 < N) (v : ℕ → EReal) (s : ℕ → ℝ) (M M' : ℝ) :
    Ideal.div (level w v s M n) (level w (fun _ => 1) s M n)
      = ∑ k : Fin N, v k.val * Ideal.div (Ideal.exp (((s k.val * Real.log 2 : ℝ) : EReal) - (M' : EReal)))
          (0 + ∑ j : Fin N, Ideal.exp (((s j.val * Real.log 2 : ℝ) : EReal) - (M' : EReal))) := by
  subst hN
  set L : ℝ := ∑ k ∈ Finset.range (w * n), pw (s k - M) with hL
  set E : ℝ := ∑ k : Fin (w * n), Real.exp (s k.val * Real.log 2 - M') with hE
  have hLpos : 0 < L := Finset.sum_pos (fun k _ => pw_pos _) (Finset.nonempty_range_iff.mpr hn.ne')
  have hEpos : 0 < E := Finset.sum_pos (fun k _ => Real.exp_pos _) ⟨⟨0, hn⟩, Finset.mem_univ _⟩
  have hden : level w (fun _ => 1) s M n = (L : EReal) := by
    unfold level
    simp only [one_mul]
    exact coe_sum _ _
  have hsum : (0 : EReal) + ∑ j : Fin (w * n), Ideal.exp (((s j.val * Real.log 2 : ℝ) : EReal) - (M' : EReal)) = (E : EReal) := by
    rw [zero_add]
    simp only [← EReal.coe_sub, Ideal.exp_coe]
    exact coe_sum _ _
  have hexp : ∀ x, Real.exp (x * Real.log 2 - M') = pw (x - M) * Real.exp (M * Real.log 2 - M') := by
    intro x
    show _ = (2 : ℝ) ^ (x - M) * _
    rw [Real.rpow_def_of_pos two_pos, ← Real.exp_add]
    congr 1
    ring
  have hEL : E = L * Real.exp (M * Real.log 2 - M') := by
    rw [hE, hL, ← Fin.sum_univ_eq_sum_range (fun k => pw (s k - M)), Finset.sum_mul]
    exact Finset.sum_congr rfl fun k _ => hexp _
  rw [hden, hsum, Ideal.div_coe hLpos.ne', level, mul_comm, coe_mul_sum _ (by positivity),
    ← Fin.sum_univ_eq_sum_range (fun k => ((1 / L : ℝ) : EReal) * (v k * (pw (s k - M) : EReal)))]
  refine Finset.sum_congr rfl fun k _ => ?_
  rw [← EReal.coe_sub, Ideal.exp_coe, Ideal.div_coe hEpos.ne', mul_left_comm, ← EReal.coe_mul, ← EReal.coe_mul]
  congr 2
  rw [hexp, hEL]
  have := (Real.exp_pos (M * Real.log 2 - M')).ne'
  field_simp

/-- The largest of finitely many reals, started from below everything, is a real. -/
theorem fold_max_real {ι : Type} [Fintype ι] [Nonempty ι] (f : ι → EReal) (hf : ∀ k, ∃ r : ℝ, f k = (r : EReal)) :
    ∃ M : ℝ, Finset.univ.fold max (⊥ : EReal) f = (M : EReal) := by
  classical
  have key : ∀ s : Finset ι, s.Nonempty → ∃ M : ℝ, s.fold max (⊥ : EReal) f = (M : EReal) := by
    intro s hs
    induction s using Finset.induction_on with
    | empty => exact absurd hs (by simp)
    | insert a s ha ih =>
      obtain ⟨r, hr⟩ := hf a
      rw [Finset.fold_insert ha, hr]
      rcases s.eq_empty_or_nonempty with h | h
      · subst h; exact ⟨r, by simp⟩
      · obtain ⟨M, hM⟩ := ih h
        exact ⟨max r M, by rw [hM]; exact (EReal.coe_strictMono.monotone.map_max).symm⟩
  exact key _ Finset.univ_nonempty

/-- The word of minus infinity is read as the least extended real. -/
theorem ofBits_neg_inf : Ideal.ofBits .f32 0xFF800000#32 = ⊥ := by simp [Ideal.ofBits, Ideal.ieee]

/-- The host's maximum along one axis of real entries, started from minus infinity, is real. -/
theorem hostMax_real {s t u : Shape} {a : Fin s.rank} (x : FVec Ideal s .f32) (init : FVec Ideal u .f32)
    (h' : s.ReducesTo [a] t) (h : s.Reduces [a] t) (hu : 0 < u.numel) (hi : init (Shape.Idx.first hu) = (⊥ : EReal)) (ha : 0 < s.size a)
    (j : t.Idx) (hx : ∀ k, ∃ r : ℝ, x (h.lift j k) = (r : EReal)) :
    ∃ M : ℝ, Host.reduce FloatOps.maximumf x init h' hu j = (M : EReal) := by
  haveI : Nonempty (Fin (s.size a)) := ⟨⟨0, ha⟩⟩
  rw [Host.reduce_eq_fold_single FloatOps.maximumf x init h' h hu j, hi]
  exact fold_max_real _ hx

/-- The same for the maximum along one axis inside a kernel. -/
theorem kernelMax_real {s t : Shape} {a : Fin s.rank} (x : FVec Ideal s .f32) (h : s.Reduces [a] t)
    (hφ : FKind.Formats .f32) (hacc : 0xFF800000#32 = FKind.maximumf.neutral .f32 hφ) (ha : 0 < s.size a)
    (j : t.Idx) (hx : ∀ k, ∃ r : ℝ, x (h.lift j k) = (r : EReal)) :
    ∃ M : ℝ, multiReduction .maximumf [a] t x 0xFF800000#32 h hφ hacc j = (M : EReal) := by
  haveI : Nonempty (Fin (s.size a)) := ⟨⟨0, ha⟩⟩
  rw [Ideal.multiReduction_maximumf_single]
  obtain ⟨M, hM⟩ := fold_max_real _ hx
  refine ⟨M, Eq.trans ?_ hM⟩
  exact congrArg (fun z => Finset.univ.fold max z (fun k => x (h.lift j k))) ofBits_neg_inf

end Cert.Softmax

end
-- ==== Proof.Attn.Points.lean ====
/-
  The body's values at an index, over extended reals.
-/
module

public import proofs.«01_k».proof.Proof.Attn.Body
public import proofs.«01_k».proof.Proof.Attn.Softmax
public import Idealize.ShloMosaic.Lib.Pointwise

@[expose] public section

set_option maxRecDepth 16384

noncomputable section

namespace Cert.KernelIdeal.Attn

open Cert.KernelIdeal Cert.KernelIdeal.Gen
open Idealize.ShloMosaic

theorem chunk_at (x : Vec Ideal S8192x128 .bf16) (n : ℕ) (k : Fin 1024) (d : Fin 128) :
    chunk x n (ix2 k d) = x (ix2 ⟨(1024 * n + k.val) % 8192, Nat.mod_lt _ (by decide)⟩ d) := by
  unfold chunk
  congr 1
  funext a
  match a with
  | ⟨0, _⟩ => rfl
  | ⟨1, _⟩ => rfl

theorem scores_at (x1 : Vec Ideal S8192x128 .bf16) (qt : Vec Ideal S128x2048 .fp8e4m3) (n : ℕ) (k : Fin 1024) (l : Fin 2048) :
    scores x1 qt n (ix2 k l) = ∑ d : Fin 128, x1 (ix2 ⟨(1024 * n + k.val) % 8192, Nat.mod_lt _ (by decide)⟩ d) * qt (ix2 d l) := by
  unfold scores
  pointwise [k0_pay1, chunk_at]

/-- The running maximum after real scores is real, whether it was real or minus infinity before. -/
theorem max_real (s : FVec Ideal S1024x2048 .f32) (m : Vec Ideal S1x2048 .f32) (l : Fin 2048)
    (hs : ∀ k, ∃ r : ℝ, s (ix2 k l) = (r : EReal)) (hm : m (ix2 0 l) = ⊥ ∨ ∃ r : ℝ, m (ix2 0 l) = (r : EReal)) :
    ∃ M : ℝ, k0_pay2 s m (ix2 0 l) = (M : EReal) := by
  obtain ⟨M, hM⟩ := Softmax.kernelMax_real s reduces_S1024x2048_S2048 (.inl rfl) rfl (by decide) (ix1 l) (fun k => by
    obtain ⟨r, hr⟩ := hs k
    refine ⟨r, Eq.trans (congrArg s ?_) hr⟩
    funext c; apply Fin.ext
    match c with
    | ⟨0, _⟩ => rfl
    | ⟨1, _⟩ => rfl)
  have h1 : k0_pay2 s m (ix2 0 l) = max (m (ix2 0 l)) (M : EReal) := by
    unfold k0_pay2
    rw [← hM]
    generalize multiReduction .maximumf [0] S2048 s 0xFF800000#32 reduces_S1024x2048_S2048 (.inl rfl) rfl = z
    pointwise
  rw [h1]
  rcases hm with h | ⟨r, h⟩
  · exact ⟨M, by rw [h]; exact max_eq_right bot_le⟩
  · exact ⟨max r M, by rw [h]; exact (EReal.coe_strictMono.monotone.map_max).symm⟩

theorem sum_at (v : Vec Ideal S1024x128 .bf16) (s : Vec Ideal S1024x2048 .f32) (m : Vec Ideal S1x2048 .f32) (a : Vec Ideal S144x2048 .f32) (d : Fin 144) (l : Fin 2048) :
    k0_pay3 k0_pay18 v s m a (ix2 d l) = Ideal.exp2 (m (ix2 0 l) - k0_pay2 s m (ix2 0 l)) * a (ix2 d l)
      + ∑ k : Fin 1024, (if h : d.val < 128 then v (ix2 k ⟨d.val, h⟩) else 1) * Ideal.exp2 (s (ix2 k l) - k0_pay2 s m (ix2 0 l)) := by
  pointwise [k0_pay3, k0_pay18]
  rfl

theorem queries_at (x0 : Vec Ideal S512x512 .bf16) (d : Fin 128) (l : Fin 2048) :
    queries x0 (ix2 d l) = x0 (ix2 ⟨l.val % 512, Nat.mod_lt _ (by decide)⟩ ⟨128 * (l.val / 512) + d.val, by omega⟩) := by
  unfold queries
  apply View.canon_apply_of_pieces (Val := Elt Ideal) (S := S128x2048) (e := .fp8e4m3)
    (fun y => x0 (ix2 ⟨(y 1).val % 512, Nat.mod_lt _ (by decide)⟩ ⟨128 * ((y 1).val / 512) + (y 0).val, by
      have h0 : (y 0).val < 128 := (y 0).isLt
      have h1 : (y 1).val < 2048 := (y 1).isLt
      omega⟩))
  · simp only [List.forall_mem_cons, List.not_mem_nil, false_implies, implies_true, and_true]
    refine ⟨fun x => ?_, fun x => ?_, fun x => ?_, fun x => ?_⟩
    · idx_vars x
      pointwise [k0_pay14]
      refine congrArg _ (congrArg₂ (ix2 (n0 := 512) (n1 := 512)) (Fin.ext ?_) (Fin.ext ?_))
      · show x1.val = (1536 + 1 * x1.val) % 512
        omega
      · show 384 + x0.val = 128 * ((1536 + 1 * x1.val) / 512) + (0 + 1 * x0.val)
        omega
    · idx_vars x
      pointwise [k0_pay13]
      refine congrArg _ (congrArg₂ (ix2 (n0 := 512) (n1 := 512)) (Fin.ext ?_) (Fin.ext ?_))
      · show x1.val = (1024 + 1 * x1.val) % 512
        omega
      · show 256 + x0.val = 128 * ((1024 + 1 * x1.val) / 512) + (0 + 1 * x0.val)
        omega
    · idx_vars x
      pointwise [k0_pay12]
      refine congrArg _ (congrArg₂ (ix2 (n0 := 512) (n1 := 512)) (Fin.ext ?_) (Fin.ext ?_))
      · show x1.val = (512 + 1 * x1.val) % 512
        omega
      · show 128 + x0.val = 128 * ((512 + 1 * x1.val) / 512) + (0 + 1 * x0.val)
        omega
    · idx_vars x
      pointwise [k0_pay11]
      refine congrArg _ (congrArg₂ (ix2 (n0 := 512) (n1 := 512)) (Fin.ext ?_) (Fin.ext ?_))
      · show x1.val = (0 + 1 * x1.val) % 512
        omega
      · show x0.val = 128 * ((0 + 1 * x1.val) / 512) + (0 + 1 * x0.val)
        omega
  · exact View.cover_of_tiledL (s := S128x2048) (Val := Elt Ideal) (e := .fp8e4m3) _ S128x512.size (by sl_kernel_rfl) _

theorem out_at (a : Vec Ideal S144x2048 .f32) (r : Fin 512) (j : Fin 512) :
    outBlock a (ix2 r j) = Ideal.div (a (ix2 ⟨j.val % 128, by omega⟩ ⟨512 * (j.val / 128) + r.val, by omega⟩))
      (a (ix2 ⟨128, by decide⟩ ⟨512 * (j.val / 128) + r.val, by omega⟩)) := by
  unfold outBlock
  apply View.canon_apply_of_pieces (Val := Elt Ideal) (S := S512x512) (e := .bf16)
    (fun y => Ideal.div (a (ix2 ⟨(y 1).val % 128, by omega⟩ ⟨512 * ((y 1).val / 128) + (y 0).val, by
      have h0 : (y 0).val < 512 := (y 0).isLt
      have h1 : (y 1).val < 512 := (y 1).isLt
      omega⟩)) (a (ix2 ⟨128, by decide⟩ ⟨512 * ((y 1).val / 128) + (y 0).val, by
      have h0 : (y 0).val < 512 := (y 0).isLt
      have h1 : (y 1).val < 512 := (y 1).isLt
      omega⟩)))
  · simp only [List.forall_mem_cons, List.not_mem_nil, false_implies, implies_true, and_true]
    refine ⟨fun x => ?_, fun x => ?_, fun x => ?_, fun x => ?_⟩
    · idx_vars x
      pointwise [k0_pay35, k0_pay31]
      refine congrArg₂ (fun y z : (S144x2048).Idx => Ideal.div (a y) (a z))
        (congrArg₂ (ix2 (n0 := 144) (n1 := 2048)) (Fin.ext ?_) (Fin.ext ?_)) (congrArg₂ (ix2 (n0 := 144) (n1 := 2048)) rfl (Fin.ext ?_))
      · show x1.val = (384 + 1 * x1.val) % 128
        omega
      · show 1536 + x0.val = 512 * ((384 + 1 * x1.val) / 128) + (0 + 1 * x0.val)
        omega
      · show 1536 + x0.val = 512 * ((384 + 1 * x1.val) / 128) + (0 + 1 * x0.val)
        omega
    · idx_vars x
      pointwise [k0_pay34, k0_pay31]
      refine congrArg₂ (fun y z : (S144x2048).Idx => Ideal.div (a y) (a z))
        (congrArg₂ (ix2 (n0 := 144) (n1 := 2048)) (Fin.ext ?_) (Fin.ext ?_)) (congrArg₂ (ix2 (n0 := 144) (n1 := 2048)) rfl (Fin.ext ?_))
      · show x1.val = (256 + 1 * x1.val) % 128
        omega
      · show 1024 + x0.val = 512 * ((256 + 1 * x1.val) / 128) + (0 + 1 * x0.val)
        omega
      · show 1024 + x0.val = 512 * ((256 + 1 * x1.val) / 128) + (0 + 1 * x0.val)
        omega
    · idx_vars x
      pointwise [k0_pay33, k0_pay31]
      refine congrArg₂ (fun y z : (S144x2048).Idx => Ideal.div (a y) (a z))
        (congrArg₂ (ix2 (n0 := 144) (n1 := 2048)) (Fin.ext ?_) (Fin.ext ?_)) (congrArg₂ (ix2 (n0 := 144) (n1 := 2048)) rfl (Fin.ext ?_))
      · show x1.val = (128 + 1 * x1.val) % 128
        omega
      · show 512 + x0.val = 512 * ((128 + 1 * x1.val) / 128) + (0 + 1 * x0.val)
        omega
      · show 512 + x0.val = 512 * ((128 + 1 * x1.val) / 128) + (0 + 1 * x0.val)
        omega
    · idx_vars x
      pointwise [k0_pay32, k0_pay31]
      refine congrArg₂ (fun y z : (S144x2048).Idx => Ideal.div (a y) (a z))
        (congrArg₂ (ix2 (n0 := 144) (n1 := 2048)) (Fin.ext ?_) (Fin.ext ?_)) (congrArg₂ (ix2 (n0 := 144) (n1 := 2048)) rfl (Fin.ext ?_))
      · show x1.val = (0 + 1 * x1.val) % 128
        omega
      · show x0.val = 512 * ((0 + 1 * x1.val) / 128) + (0 + 1 * x0.val)
        omega
      · show x0.val = 512 * ((0 + 1 * x1.val) / 128) + (0 + 1 * x0.val)
        omega
  · exact View.cover_of_tiledL (s := S512x512) (Val := Elt Ideal) (e := .bf16) _ S512x128.size (by sl_kernel_rfl) _

end Cert.KernelIdeal.Attn

end
-- ==== Proof.Attn.Column.lean ====
/-
  One query's column of the body's fold, and the quotient that the output block holds there.
-/
module

public import proofs.«01_k».proof.Proof.Attn.Points

@[expose] public section

set_option maxRecDepth 16384

noncomputable section

namespace Cert.KernelIdeal.Attn

open Cert.KernelIdeal Cert.KernelIdeal.Gen
open Idealize.ShloMosaic

variable (x1 x2 : Vec Ideal S8192x128 .bf16) (qt : Vec Ideal S128x2048 .fp8e4m3) (l : Fin 2048)

/-- Key row `k`, counted modulo the number of rows. -/
abbrev wrap (k : ℕ) : Fin 8192 := ⟨k % 8192, Nat.mod_lt _ (by decide)⟩

/-- Entry `d` of value row `k`; from entry 128 on, the ones that are put under the values. -/
def valueOf (d : Fin 144) (k : ℕ) : EReal := if h : d.val < 128 then x2 (ix2 (wrap k) ⟨d.val, h⟩) else 1

/-- The running maximum of query `l` is minus infinity at first and real after every chunk, if the scores are real. -/
theorem level_real (s : ℕ → ℝ) (hs : ∀ n k, scores x1 qt n (ix2 k l) = (s (1024 * n + k.val) : EReal)) :
    ∃ M : ℕ → ℝ, ∀ n, (fold x1 x2 qt (n + 1)).1 (ix2 0 l) = (M (n + 1) : EReal) := by
  have key : ∀ n, ∃ M : ℝ, (fold x1 x2 qt (n + 1)).1 (ix2 0 l) = (M : EReal) := by
    intro n
    refine max_real (scores x1 qt n) (fold x1 x2 qt n).1 l (fun k => ⟨_, hs n k⟩) ?_
    induction n with
    | zero =>
      left
      show k0_pay15 (F := Ideal) (ix2 0 l) = _
      pointwise [k0_pay15]
      exact Softmax.ofBits_neg_inf
    | succ n ih =>
      right
      exact max_real (scores x1 qt n) (fold x1 x2 qt n).1 l (fun k => ⟨_, hs n k⟩) ih
  choose M hM using key
  exact ⟨fun n => M (n - 1), fun n => hM n⟩

/-- After every chunk the running sums of query `l` are those of one pass over the rows so far. -/
theorem sums_at (s : ℕ → ℝ) (hs : ∀ n k, scores x1 qt n (ix2 k l) = (s (1024 * n + k.val) : EReal))
    (M : ℕ → ℝ) (hM : ∀ n, (fold x1 x2 qt (n + 1)).1 (ix2 0 l) = (M (n + 1) : EReal)) (d : Fin 144) (n : ℕ) :
    (fold x1 x2 qt (n + 1)).2 (ix2 d l) = Softmax.level 1024 (valueOf x2 d) s (M (n + 1)) (n + 1) := by
  refine Softmax.sums_eq 1024 (valueOf x2 d) s (fun n => (fold x1 x2 qt n).1 (ix2 0 l)) (fun n => (fold x1 x2 qt n).2 (ix2 d l)) M ?_ hM ?_ ?_ n
  · show k0_pay15 (F := Ideal) (ix2 0 l) = _
    pointwise [k0_pay15]
    exact Softmax.ofBits_neg_inf
  · show k0_pay17 (F := Ideal) (ix2 d l) = _
    pointwise [k0_pay17]
  · intro n
    refine (sum_at (chunk x2 n) (scores x1 qt n) (fold x1 x2 qt n).1 (fold x1 x2 qt n).2 d l).trans ?_
    refine congrArg (fun z : EReal => Ideal.exp2 ((fold x1 x2 qt n).1 (ix2 0 l) - k0_pay2 (scores x1 qt n) (fold x1 x2 qt n).1 (ix2 0 l)) * (fold x1 x2 qt n).2 (ix2 d l) + z) ?_
    refine Finset.sum_congr rfl fun k _ => ?_
    rw [hs n k]
    refine congrArg (fun z : EReal => z * Ideal.exp2 ((s (1024 * n + k.val) : EReal) - k0_pay2 (scores x1 qt n) (fold x1 x2 qt n).1 (ix2 0 l))) ?_
    unfold valueOf
    split
    · exact chunk_at x2 n k _
    · rfl

theorem valueOf_key (d : Fin 128) (k : Fin 8192) : valueOf x2 ⟨d.val, by omega⟩ k.val = x2 (ix2 k d) := by
  have hw : wrap k.val = k := Fin.ext (Nat.mod_eq_of_lt k.isLt)
  unfold valueOf
  rw [dif_pos (show d.val < 128 from d.isLt), hw]

/-- The quotient of the value sums and the sum of the ones, after the last chunk, is the softmax average of the values. -/
theorem average_at (s : ℕ → ℝ) (hs : ∀ n k, scores x1 qt n (ix2 k l) = (s (1024 * n + k.val) : EReal)) (M' : ℝ) (d : Fin 128) :
    Ideal.div ((fold x1 x2 qt 8).2 (ix2 ⟨d.val, by omega⟩ l)) ((fold x1 x2 qt 8).2 (ix2 ⟨128, by decide⟩ l))
      = ∑ k : Fin 8192, x2 (ix2 k d) * Ideal.div (Ideal.exp (((s k.val * Real.log 2 : ℝ) : EReal) - (M' : EReal)))
          (0 + ∑ j : Fin 8192, Ideal.exp (((s j.val * Real.log 2 : ℝ) : EReal) - (M' : EReal))) := by
  obtain ⟨M, hM⟩ := level_real x1 x2 qt l s hs
  rw [sums_at x1 x2 qt l s hs M hM _ 7, sums_at x1 x2 qt l s hs M hM _ 7]
  have hone : valueOf x2 ⟨128, by decide⟩ = fun _ => 1 := by
    funext k
    exact dif_neg (by decide)
  rw [hone]
  refine (Softmax.quotient_eq 1024 8 8192 (by decide) (by decide) _ s (M 8) M').trans ?_
  refine Finset.sum_congr rfl fun k _ => ?_
  rw [valueOf_key]

end Cert.KernelIdeal.Attn

end
-- ==== Proof.Attn.Arrays.lean ====
/-
  What the launch's blocks hold, entry by entry, in terms of the program's arguments.
-/
module

public import proofs.«01_k».proof.Proof.Attn.Launch
public import Idealize.ShloMosaic.Lib.Pointwise
public import Idealize.ShloMosaic.Lib.StableHlo.ReadAt
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Pipeline

variable (m : (ℓ : Loc nD τ sig) → Buf (Elt Ideal) ℓ) (c : Dev nD)

/-- The scale of the queries: the square root of the head's width, times the logarithm of two. -/
def scale : EReal := Ideal.sqrt (Ideal.ofBits .f32 0x43000000#32) * Ideal.log (Ideal.ofBits .f32 0x40000000#32)

/-- Indices with the same coordinates are equal. -/
theorem ix4_ext {n0 n1 n2 n3 : ℕ} {a a' : Fin n0} {b b' : Fin n1} {e e' : Fin n2} {f f' : Fin n3}
    (ha : a.val = a'.val) (hb : b.val = b'.val) (he : e.val = e'.val) (hf : f.val = f'.val) : ix4 a b e f = ix4 a' b' e' f' := by
  obtain rfl := Fin.ext ha
  obtain rfl := Fin.ext hb
  obtain rfl := Fin.ext he
  obtain rfl := Fin.ext hf
  rfl

/-- The queries, the keys and the values that the program is given on device `c`. -/
abbrev argQ : FVec Ideal S2x8192x32x128 .f32 := m ((c.tc : Thread nD τ).loc main_arg0)
abbrev argK : FVec Ideal S2x8192x8x128 .f32 := m ((c.tc : Thread nD τ).loc main_arg1)
abbrev argV : FVec Ideal S2x8192x8x128 .f32 := m ((c.tc : Thread nD τ).loc main_arg2)

/-- The array that the three windows read. -/
abbrev staged : FVec Ideal S16384x14336 .bf16 := V m c main_v10

theorem staged_q (r : Fin 16384) (j : Fin 14336) (h : j.val < 4096) :
    staged m c (ix2 r j) = Ideal.div (argQ m c (ix4 ⟨r.val / 8192, by omega⟩ ⟨r.val % 8192, by omega⟩ ⟨j.val / 128, by omega⟩ ⟨j.val % 128, by omega⟩)) scale := by
  unfold staged V scale
  after_reads_at
  rw [dif_pos h]
  after_reads_at

theorem staged_k (r : Fin 16384) (j : Fin 14336) (h : 4096 ≤ j.val) (h' : j.val < 5120) :
    staged m c (ix2 r j) = argK m c (ix4 ⟨r.val / 8192, by omega⟩ ⟨r.val % 8192, by omega⟩ ⟨(j.val - 4096) / 128, by omega⟩ ⟨(j.val - 4096) % 128, by omega⟩) := by
  unfold staged V
  after_reads_at
  rw [dif_neg (by omega), dif_pos (by omega)]
  after_reads_at

theorem staged_v (r : Fin 16384) (j : Fin 14336) (h : 5120 ≤ j.val) (h' : j.val < 6144) :
    staged m c (ix2 r j) = argV m c (ix4 ⟨r.val / 8192, by omega⟩ ⟨r.val % 8192, by omega⟩ ⟨(j.val - 5120) / 128, by omega⟩ ⟨(j.val - 5120) % 128, by omega⟩) := by
  unfold staged V
  after_reads_at
  rw [dif_neg (by omega), dif_neg (by omega), dif_pos (by omega)]
  after_reads_at
  simp only [Nat.sub_sub, Nat.reduceAdd]

theorem index_in0 (t : Fin cfg0.N) : (cfg0.win 0).index t = ![16 * (t.val / 128) + t.val % 16, t.val / 16 % 8] := by
  revert t; decide +kernel
theorem index_in1 (t : Fin cfg0.N) : (cfg0.win 1).index t = ![t.val / 128, 32 + t.val / 16 % 8] := by
  revert t; decide +kernel
theorem index_in2 (t : Fin cfg0.N) : (cfg0.win 2).index t = ![t.val / 128, 40 + t.val / 16 % 8] := by
  revert t; decide +kernel
theorem index_out (t : Fin cfg0.N) : (cfg0.win 3).index t = ![16 * (t.val / 128) + t.val % 16, t.val / 16 % 8] := by
  revert t; decide +kernel

theorem out_covered : (cfg0.win 3).Covers := by decide +kernel

theorem point_lt (t : Fin cfg0.N) : t.val < 256 := t.isLt

theorem block0_emb (t : Fin cfg0.N) (r : Fin 512) (j : Fin 512) :
    ((cfg0.win 0).blk t).view.emb (ix2 r j) = (ix2 ⟨(16 * (t.val / 128) + t.val % 16) * 512 + r.val, by have := point_lt t; omega⟩
      ⟨t.val / 16 % 8 * 512 + j.val, by omega⟩ : (S16384x14336).Idx) := by
  funext a
  apply Fin.ext
  match a with
  | ⟨0, _⟩ => blk_simp; rw [show win0_0.index t = _ from index_in0 t]; rfl
  | ⟨1, _⟩ => blk_simp; rw [show win0_0.index t = _ from index_in0 t]; rfl

theorem block1_emb (t : Fin cfg0.N) (r : Fin 8192) (j : Fin 128) :
    ((cfg0.win 1).blk t).view.emb (ix2 r j) = (ix2 ⟨t.val / 128 * 8192 + r.val, by have := point_lt t; omega⟩
      ⟨(32 + t.val / 16 % 8) * 128 + j.val, by omega⟩ : (S16384x14336).Idx) := by
  funext a
  apply Fin.ext
  match a with
  | ⟨0, _⟩ => blk_simp; rw [show win0_1.index t = _ from index_in1 t]; rfl
  | ⟨1, _⟩ => blk_simp; rw [show win0_1.index t = _ from index_in1 t]; rfl

theorem block2_emb (t : Fin cfg0.N) (r : Fin 8192) (j : Fin 128) :
    ((cfg0.win 2).blk t).view.emb (ix2 r j) = (ix2 ⟨t.val / 128 * 8192 + r.val, by have := point_lt t; omega⟩
      ⟨(40 + t.val / 16 % 8) * 128 + j.val, by omega⟩ : (S16384x14336).Idx) := by
  funext a
  apply Fin.ext
  match a with
  | ⟨0, _⟩ => blk_simp; rw [show win0_2.index t = _ from index_in2 t]; rfl
  | ⟨1, _⟩ => blk_simp; rw [show win0_2.index t = _ from index_in2 t]; rfl

theorem block3_emb (t : Fin cfg0.N) (r : Fin 512) (j : Fin 512) :
    ((cfg0.win 3).blk t).view.emb (ix2 r j) = (ix2 ⟨(16 * (t.val / 128) + t.val % 16) * 512 + r.val, by have := point_lt t; omega⟩
      ⟨t.val / 16 % 8 * 512 + j.val, by omega⟩ : (S16384x4096).Idx) := by
  funext a
  apply Fin.ext
  match a with
  | ⟨0, _⟩ => blk_simp; rw [show win0_3.index t = _ from index_out t]; rfl
  | ⟨1, _⟩ => blk_simp; rw [show win0_3.index t = _ from index_out t]; rfl

/-- A query entry of point `t`'s block: batch `t / 128`, head group `t / 16 % 8`, query block `t % 16`. -/
theorem block_q (t : Fin cfg0.N) (r : Fin 512) (j : Fin 512) :
    iblk m c 0 t (ix2 r j) = Ideal.div (argQ m c (ix4 ⟨t.val / 128, by have := point_lt t; omega⟩ ⟨512 * (t.val % 16) + r.val, by omega⟩
      ⟨4 * (t.val / 16 % 8) + j.val / 128, by omega⟩ ⟨j.val % 128, by omega⟩)) scale := by
  have h := point_lt t
  refine (congrArg (staged m c) (block0_emb t r j)).trans ((staged_q m c _ _ (by show t.val / 16 % 8 * 512 + j.val < 4096; omega)).trans ?_)
  exact congrArg (fun y => Ideal.div (argQ m c y) scale) (ix4_ext (by dsimp only; omega) (by dsimp only; omega) (by dsimp only; omega) (by dsimp only; omega))

/-- A key entry of point `t`'s block. -/
theorem block_k (t : Fin cfg0.N) (r : Fin 8192) (j : Fin 128) :
    iblk m c 1 t (ix2 r j) = argK m c (ix4 ⟨t.val / 128, by have := point_lt t; omega⟩ r ⟨t.val / 16 % 8, by omega⟩ j) := by
  have h := point_lt t
  refine (congrArg (staged m c) (block1_emb t r j)).trans ((staged_k m c _ _ (by show 4096 ≤ (32 + t.val / 16 % 8) * 128 + j.val; omega)
    (by show (32 + t.val / 16 % 8) * 128 + j.val < 5120; omega)).trans ?_)
  exact congrArg (argK m c) (ix4_ext (by dsimp only; omega) (by dsimp only; omega) (by dsimp only; omega) (by dsimp only; omega))

/-- A value entry of point `t`'s block. -/
theorem block_v (t : Fin cfg0.N) (r : Fin 8192) (j : Fin 128) :
    iblk m c 2 t (ix2 r j) = argV m c (ix4 ⟨t.val / 128, by have := point_lt t; omega⟩ r ⟨t.val / 16 % 8, by omega⟩ j) := by
  have h := point_lt t
  refine (congrArg (staged m c) (block2_emb t r j)).trans ((staged_v m c _ _ (by show 5120 ≤ (40 + t.val / 16 % 8) * 128 + j.val; omega)
    (by show (40 + t.val / 16 % 8) * 128 + j.val < 6144; omega)).trans ?_)
  exact congrArg (argV m c) (ix4_ext (by dsimp only; omega) (by dsimp only; omega) (by dsimp only; omega) (by dsimp only; omega))

end Cert.KernelIdeal.Attn

end
-- ==== Proof.Attn.Answer.lean ====
/-
  The reference's result at an index, over extended reals.
-/
module

public import proofs.«01_k».proof.Proof.Gen.ReferenceIdeal
public import Idealize.ShloMosaic.Lib.Pointwise
public import proofs.«01_k».proof.Proof.Attn.Softmax

@[expose] public section

set_option maxRecDepth 16384

noncomputable section

namespace Cert.ReferenceIdeal.Attn

open Cert.ReferenceIdeal Cert.ReferenceIdeal.Gen
open Idealize.ShloMosaic

/-- The scores, one for every query and key. -/
def sc (q : FVec Ideal S2x8192x32x128 .f32) (k : FVec Ideal S2x8192x8x128 .f32) : FVec Ideal S2x8x4x8192x8192 .f32 :=
  Host.divf (transpose S2x8x4x8192x8192 [0, 1, 4, 3, 2] (Host.dotGeneral dot_S2x8192x8x128_S2x8192x8x4x128_S2x8x8192x8192x4_3_4_1_13_02_02 none k (shapeCast _ q shapeCasts_S2x8192x32x128_S2x8192x8x4x128)) transposes_S2x8x8192x8192x4_S2x8x4x8192x8192_0_1_4_3_2) (broadcastInDim S2x8x4x8192x8192 ![] bcast_S_S2x8x4x8192x8192 (Host.sqrt (constant S_ .f32 0x43000000#32)))

/-- The largest score of every query. -/
def top (s : FVec Ideal S2x8x4x8192x8192 .f32) : FVec Ideal S2x8x4x8192 .f32 :=
  Host.reduce FloatOps.maximumf s (constant S_ .f32 0xFF800000#32) reducesTo_S2x8x4x8192x8192_S2x8x4x8192_d4 h_S_

/-- That maximum, raised to minus infinity. -/
def floored (z : FVec Ideal S2x8x4x8192 .f32) : FVec Ideal S2x8x4x8192 .f32 :=
  maximumf (broadcastInDim S2x8x4x8192 ![] bcast_S_S2x8x4x8192 (constant S_ .f32 0xFF800000#32)) z

/-- What is subtracted from the scores of every query. -/
def mx (s : FVec Ideal S2x8x4x8192x8192 .f32) : FVec Ideal S2x8x4x8192 .f32 := floored (top s)

/-- One number per query, along the keys. -/
def row (x : FVec Ideal S2x8x4x8192 .f32) : FVec Ideal S2x8x4x8192x8192 .f32 :=
  broadcastInDim S2x8x4x8192x8192 ![0, 1, 2, 3, 4] bcast_S2x8x4x8192x1_S2x8x4x8192x8192_0_1_2_3_4 (broadcastInDim S2x8x4x8192x1 ![0, 1, 2, 3] bcast_S2x8x4x8192_S2x8x4x8192x1_0_1_2_3 x)

/-- The exponentials. -/
def ex (s : FVec Ideal S2x8x4x8192x8192 .f32) : FVec Ideal S2x8x4x8192x8192 .f32 := Host.exp (subf s (row (mx s)))

/-- The weights. -/
def wt (s : FVec Ideal S2x8x4x8192x8192 .f32) : FVec Ideal S2x8x4x8192x8192 .f32 :=
  Host.divf (ex s) (row (Host.reduceAdd (ex s) (constant S_ .f32 0x00000000#32) reducesTo_S2x8x4x8192x8192_S2x8x4x8192_d4 h_S_))

/-- The reference's result. -/
def answer (q : FVec Ideal S2x8192x32x128 .f32) (k v : FVec Ideal S2x8192x8x128 .f32) : FVec Ideal S16384x4096 .bf16 :=
  truncf .bf16 (shapeCast _ (transpose S2x8192x8x4x128 [0, 4, 1, 3, 2] (Host.dotGeneral dot_S2x8192x8x128_S2x8x4x8192x8192_S2x8x128x4x8192_1_4_3_23_02_01 none v (wt (sc q k))) transposes_S2x8x128x4x8192_S2x8192x8x4x128_0_4_1_3_2) shapeCasts_S2x8192x8x4x128_S16384x4096) bitsLt_bf16_f32

theorem sc_at (q : FVec Ideal S2x8192x32x128 .f32) (k : FVec Ideal S2x8192x8x128 .f32) (b : Fin 2) (h : Fin 8) (g : Fin 4) (i j : Fin 8192) :
    sc q k (ix5 b h g i j) = Ideal.div (∑ d : Fin 128, k (ix4 b j h d) * q (ix4 b i ⟨h.val * 4 + g.val, by omega⟩ d)) (Ideal.sqrt (Ideal.ofBits .f32 0x43000000#32)) := by
  pointwise [sc]

theorem keys_reduce : S2x8x4x8192x8192.Reduces [4] S2x8x4x8192 := by decide

/-- The index of a query with a key put back. -/
theorem lift_key (b : Fin 2) (h : Fin 8) (g : Fin 4) (i : Fin 8192) (k : Fin (S2x8x4x8192x8192.size 4)) :
    keys_reduce.lift (ix4 b h g i) k = ix5 b h g i k := by
  funext c; apply Fin.ext
  match c with
  | ⟨0, _⟩ => rfl
  | ⟨1, _⟩ => rfl
  | ⟨2, _⟩ => rfl
  | ⟨3, _⟩ => rfl
  | ⟨4, _⟩ => rfl

theorem init_bot : (constant S_ .f32 0xFF800000#32 : FVec Ideal S_ .f32) (Shape.Idx.first h_S_) = (⊥ : EReal) := Softmax.ofBits_neg_inf

theorem floored_eq (z : FVec Ideal S2x8x4x8192 .f32) (j : S2x8x4x8192.Idx) : floored z j = z j := by
  unfold floored
  show max (Ideal.ofBits .f32 0xFF800000#32) (z j) = z j
  rw [Softmax.ofBits_neg_inf]; exact max_eq_right bot_le

/-- The largest of real scores is real. -/
theorem mx_real (s : FVec Ideal S2x8x4x8192x8192 .f32) (b : Fin 2) (h : Fin 8) (g : Fin 4) (i : Fin 8192)
    (hs : ∀ j, ∃ r : ℝ, s (ix5 b h g i j) = (r : EReal)) : ∃ M : ℝ, mx s (ix4 b h g i) = (M : EReal) := by
  unfold mx
  rw [floored_eq]
  exact Softmax.hostMax_real s _ _ keys_reduce h_S_ init_bot (by decide) (ix4 b h g i) (fun k => by
    rw [lift_key]; exact hs k)

theorem ex_at (s : FVec Ideal S2x8x4x8192x8192 .f32) (b : Fin 2) (h : Fin 8) (g : Fin 4) (i j : Fin 8192) :
    ex s (ix5 b h g i j) = Ideal.exp (s (ix5 b h g i j) - mx s (ix4 b h g i)) := by
  pointwise [ex, row]

theorem wt_at (s : FVec Ideal S2x8x4x8192x8192 .f32) (b : Fin 2) (h : Fin 8) (g : Fin 4) (i j : Fin 8192) :
    wt s (ix5 b h g i j) = Ideal.div (ex s (ix5 b h g i j)) (0 + ∑ j : Fin 8192, ex s (ix5 b h g i j)) := by
  pointwise [wt, row]

theorem answer_at (q : FVec Ideal S2x8192x32x128 .f32) (k v : FVec Ideal S2x8192x8x128 .f32) (r : Fin 16384) (c : Fin 4096) :
    answer q k v (ix2 r c) = ∑ j : Fin 8192, v (ix4 ⟨r.val / 8192, by omega⟩ j ⟨c.val / 512, by omega⟩ ⟨c.val % 128, by omega⟩)
      * wt (sc q k) (ix5 ⟨r.val / 8192, by omega⟩ ⟨c.val / 512, by omega⟩ ⟨c.val / 128 % 4, by omega⟩ ⟨r.val % 8192, by omega⟩ j) := by
  pointwise [answer]

end Cert.ReferenceIdeal.Attn

end
-- ==== Proof.Attn.Tie.lean ====
/-
  The launch's output array is the reference's result, for real queries and keys.
-/
module

public import proofs.«01_k».proof.Proof.Attn.Column
public import proofs.«01_k».proof.Proof.Attn.Arrays
public import proofs.«01_k».proof.Proof.Attn.Answer

@[expose] public section

set_option maxRecDepth 16384

noncomputable section

namespace Cert.KernelIdeal.Attn

open Cert.KernelIdeal Cert.KernelIdeal.Gen
open Idealize.ShloMosaic Idealize.ShloMosaic.TcCoe Idealize.ShloMosaic.Pipeline

/-- The square root of the head's width. -/
abbrev width : ℝ := Real.sqrt 128

theorem width_pos : 0 < width := Real.sqrt_pos.mpr (by norm_num)
theorem log_two_pos : 0 < Real.log 2 := Real.log_pos (by norm_num)

theorem word_128 : Ideal.ofBits .f32 0x43000000#32 = ((128 : ℝ) : EReal) := by
  simp [Ideal.ofBits, Ideal.ieee]
  rw [← EReal.coe_mul]
  norm_num
theorem word_2 : Ideal.ofBits .f32 0x40000000#32 = ((2 : ℝ) : EReal) := by
  simp [Ideal.ofBits, Ideal.ieee]
  rw [← EReal.coe_mul]
  norm_num

theorem width_eq : Ideal.sqrt (Ideal.ofBits .f32 0x43000000#32) = (width : EReal) := by
  rw [word_128, Ideal.sqrt_coe, if_neg (by norm_num)]

theorem scale_eq : scale = ((width * Real.log 2 : ℝ) : EReal) := by
  unfold scale
  rw [width_eq, word_2, Ideal.log_coe, if_neg (by norm_num), EReal.coe_mul]

/-- A score of the kernel, in base two, from real queries and keys. -/
def score (q k : Fin 128 → ℝ) : ℝ := ∑ d, k d * (q d * (1 / (width * Real.log 2)))

theorem score_kernel (q k : Fin 128 → ℝ) :
    ∑ d : Fin 128, (k d : EReal) * Ideal.div (q d : EReal) scale = (score q k : EReal) := by
  unfold score
  rw [← Softmax.coe_sum]
  refine Finset.sum_congr rfl fun d _ => ?_
  rw [scale_eq, Ideal.div_coe (mul_pos width_pos log_two_pos).ne', ← EReal.coe_mul, ← EReal.coe_mul]

theorem score_reference (q k : Fin 128 → ℝ) :
    Ideal.div (∑ d : Fin 128, (k d : EReal) * (q d : EReal)) (Ideal.sqrt (Ideal.ofBits .f32 0x43000000#32))
      = ((score q k * Real.log 2 : ℝ) : EReal) := by
  rw [width_eq, Ideal.div_coe width_pos.ne']
  simp only [← EReal.coe_mul]
  rw [Softmax.coe_sum, ← EReal.coe_mul]
  unfold score
  congr 1
  rw [Finset.sum_mul, Finset.sum_mul]
  refine Finset.sum_congr rfl fun d _ => ?_
  have h1 := width_pos.ne'
  have h2 := log_two_pos.ne'
  field_simp

variable (m : (ℓ : Loc nD τ sig) → Buf (Elt Ideal) ℓ) (c : Dev nD)

/-- The reference's result on the kernel's arguments. -/
abbrev wanted : FVec Ideal S16384x4096 .bf16 := Cert.ReferenceIdeal.Attn.answer (argQ m c) (argK m c) (argV m c)

/-- One entry: point `t`'s output block against the reference's result. -/
theorem entry (qr : (S2x8192x32x128).Idx → ℝ) (kr : (S2x8192x8x128).Idx → ℝ)
    (hq : ∀ i, argQ m c i = (qr i : EReal)) (hk : ∀ i, argK m c i = (kr i : EReal)) (t : Fin cfg0.N) (r j : Fin 512) :
    outsAt m c t (ix2 r j) = wanted m c (ix2 ⟨(16 * (t.val / 128) + t.val % 16) * 512 + r.val, by have := point_lt t; omega⟩
      ⟨t.val / 16 % 8 * 512 + j.val, by omega⟩) := by
  have ht := point_lt t
  -- the query's batch, key head, head of the group, row; the column of the staged queries; the entry of the value rows
  let b : Fin 2 := ⟨t.val / 128, by omega⟩
  let h : Fin 8 := ⟨t.val / 16 % 8, by omega⟩
  let g : Fin 4 := ⟨j.val / 128, by omega⟩
  let i : Fin 8192 := ⟨512 * (t.val % 16) + r.val, by omega⟩
  let l : Fin 2048 := ⟨512 * (j.val / 128) + r.val, by omega⟩
  let d : Fin 128 := ⟨j.val % 128, by omega⟩
  let qrow : Fin 128 → ℝ := fun e => qr (ix4 b i ⟨h.val * 4 + g.val, by omega⟩ e)
  let s : ℕ → ℝ := fun k => score qrow fun e => kr (ix4 b (wrap k) h e)
  have hqt : ∀ e : Fin 128, queries (iblk m c 0 t) (ix2 e l) = Ideal.div (qrow e : EReal) scale := by
    intro e
    refine (queries_at (iblk m c 0 t) e l).trans ((block_q m c t _ _).trans ?_)
    show Ideal.div (argQ m c _) scale = Ideal.div (qr _ : EReal) scale
    rw [hq]
    refine congrArg (fun y => Ideal.div (qr y : EReal) scale) (ix4_ext rfl ?_ ?_ ?_)
    · show 512 * (t.val % 16) + (512 * (j.val / 128) + r.val) % 512 = 512 * (t.val % 16) + r.val
      omega
    · show 4 * (t.val / 16 % 8) + (128 * ((512 * (j.val / 128) + r.val) / 512) + e.val) / 128 = t.val / 16 % 8 * 4 + j.val / 128
      omega
    · show (128 * ((512 * (j.val / 128) + r.val) / 512) + e.val) % 128 = e.val
      omega
  have hs : ∀ n k, scores (iblk m c 1 t) (queries (iblk m c 0 t)) n (ix2 k l) = (s (1024 * n + k.val) : EReal) := by
    intro n k
    refine (scores_at (iblk m c 1 t) (queries (iblk m c 0 t)) n k l).trans ?_
    refine Eq.trans ?_ (score_kernel qrow fun e => kr (ix4 b (wrap (1024 * n + k.val)) h e))
    refine Finset.sum_congr rfl fun e _ => ?_
    rw [hqt e, ← hk]
    exact congrArg (fun z : EReal => z * Ideal.div (qrow e : EReal) scale) (block_k m c t _ e)
  have hsc : ∀ k : Fin 8192, Cert.ReferenceIdeal.Attn.sc (argQ m c) (argK m c) (ix5 b h g i k) = ((s k.val * Real.log 2 : ℝ) : EReal) := by
    intro k
    have hw : wrap k.val = k := Fin.ext (Nat.mod_eq_of_lt k.isLt)
    refine (Cert.ReferenceIdeal.Attn.sc_at (argQ m c) (argK m c) b h g i k).trans ?_
    simp only [hq, hk]
    refine (score_reference qrow fun e => kr (ix4 b k h e)).trans ?_
    show _ = ((score qrow (fun e => kr (ix4 b (wrap k.val) h e)) * Real.log 2 : ℝ) : EReal)
    rw [hw]
  obtain ⟨M', hM'⟩ := Cert.ReferenceIdeal.Attn.mx_real _ b h g i fun k => ⟨_, hsc k⟩
  refine (out_at _ r j).trans ((average_at (iblk m c 1 t) (iblk m c 2 t) (queries (iblk m c 0 t)) l s hs M' d).trans ?_)
  refine Eq.trans ?_ (Cert.ReferenceIdeal.Attn.answer_at (argQ m c) (argK m c) (argV m c) _ _).symm
  have hb : (⟨((16 * (t.val / 128) + t.val % 16) * 512 + r.val) / 8192, by omega⟩ : Fin 2) = b := Fin.ext (show ((16 * (t.val / 128) + t.val % 16) * 512 + r.val) / 8192 = t.val / 128 by omega)
  have hh : (⟨(t.val / 16 % 8 * 512 + j.val) / 512, by omega⟩ : Fin 8) = h := Fin.ext (show (t.val / 16 % 8 * 512 + j.val) / 512 = t.val / 16 % 8 by omega)
  have hg : (⟨(t.val / 16 % 8 * 512 + j.val) / 128 % 4, by omega⟩ : Fin 4) = g := Fin.ext (show (t.val / 16 % 8 * 512 + j.val) / 128 % 4 = j.val / 128 by omega)
  have hi : (⟨((16 * (t.val / 128) + t.val % 16) * 512 + r.val) % 8192, by omega⟩ : Fin 8192) = i :=
    Fin.ext (show ((16 * (t.val / 128) + t.val % 16) * 512 + r.val) % 8192 = 512 * (t.val % 16) + r.val by omega)
  have hd : (⟨(t.val / 16 % 8 * 512 + j.val) % 128, by omega⟩ : Fin 128) = d := Fin.ext (show (t.val / 16 % 8 * 512 + j.val) % 128 = j.val % 128 by omega)
  refine Finset.sum_congr rfl fun k _ => ?_
  dsimp only
  rw [hb, hh, hg, hi, hd, Cert.ReferenceIdeal.Attn.wt_at]
  simp only [Cert.ReferenceIdeal.Attn.ex_at, hsc, hM']
  rw [block_v m c t k d]

/-- The launch's output array is the reference's result. -/
theorem final (hq : ∀ i, ∃ x : ℝ, argQ m c i = (x : EReal)) (hk : ∀ i, ∃ x : ℝ, argK m c i = (x : EReal)) :
    (data m 0 c).arrAt 3 cfg0.N = wanted m c := by
  choose qr hq using hq
  choose kr hk using hk
  refine (data m 0 c).arrAt_eq_of_covers 3 _ out_covered fun t hf y => ?_
  blk_simp
  rw [after_out]
  obtain ⟨r, j, rfl⟩ : ∃ (r : Fin 512) (j : Fin 512), y = ix2 r j := ⟨y 0, y 1, eq_ix2 y⟩
  exact (entry m c qr kr hq hk t r j).trans (congrArg (wanted m c) (block3_emb t r j)).symm

end Cert.KernelIdeal.Attn

end
-- ==== Proof.Attn.Finite.lean ====
/-
  What the precondition says: every query and every key is a real number.
-/
module

public import proofs.«01_k».proof.Proof.Attn.Arrays
public import proofs.«01_k».proof.Defs
public import proofs.«01_k».proof.Proof.Gen.Pre_finite_scores
public import Idealize.ShloMosaic.Lib.ReduceAll
public import Idealize.ShloMosaic.Lib.Pointwise

@[expose] public section

set_option maxRecDepth 16384

noncomputable section

namespace Cert.KernelIdeal.Attn

open Idealize.ShloMosaic Idealize.ShloMosaic.TcCoe

/-- An extended real whose absolute value is below infinity is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x with
  | bot => exact absurd h (by simp [FloatOps.cmpf, FloatOps.absf, Ideal.cmp])
  | coe r => exact ⟨r, rfl⟩
  | top => exact absurd h (by simp [FloatOps.cmpf, FloatOps.absf, Ideal.cmp])

theorem and_one {a b : BitVec 1} (h : IntOp.andi a b = 1#1) : a = 1#1 ∧ b = 1#1 := by
  revert a b; decide

instance : Subsingleton Cert.Pre_finite_scores.S_.Idx := ⟨fun a b => funext fun i => i.elim0⟩

/-- The precondition says that the queries and the keys are real. -/
theorem reals_of_pre (q : FVec Ideal Cert.Pre_finite_scores.S2x8192x32x128 .f32) (k v : FVec Ideal Cert.Pre_finite_scores.S2x8192x8x128 .f32)
    (w : FVec Ideal Cert.Pre_finite_scores.S2x8192x8192 .f32) (h : Cert.Pre_finite_scores.fn q k v w = fun _ => 1#1) :
    (∀ i, ∃ x : ℝ, q i = (x : EReal)) ∧ ∀ i, ∃ x : ℝ, k i = (x : EReal) := by
  have h0 := congrFun h (fun i => i.elim0)
  obtain ⟨h1, h2⟩ := and_one h0
  exact ⟨fun i => real_of_abs_lt _ (Host.reduce_andi_all _ _ _ _ _ h1 i), fun i => real_of_abs_lt _ (Host.reduce_andi_all _ _ _ _ _ h2 i)⟩

end Cert.KernelIdeal.Attn

end
-- ==== Proof.Calls.Rotary.lean ====
/-
  One entry of a head under norm and rotation, in the two layouts of its rotated pairs: side by side, and
  as the two halves of the head. And the gate's two forms.
-/
module

public import Idealize.ShloMosaic.Lib.Pointwise

@[expose] public section

set_option maxRecDepth 16384

noncomputable section
namespace Cert.Rotary

open Idealize.ShloMosaic

/-- One entry of a normed head: the head's entry by the root of its mean square, times the gain. -/
def nrm (row g : Fin 128 → EReal) (j : Fin 128) : EReal :=
  row j * Ideal.rsqrt (Ideal.div (∑ k : Fin 128, row k * row k) (Ideal.ofBits .f32 0x43000000#32) + Ideal.ofBits .f32 0x358637BD#32) * g j

/-- The entry half a head away from `j`. -/
def half (j : Fin 128) : Fin 128 := ⟨(j.val + 128 - 64) % 128, Nat.mod_lt _ (by decide)⟩

/-- One entry of a normed and rotated head whose pairs are its two halves. -/
def rot (row g cc ss : Fin 128 → EReal) (j : Fin 128) : EReal := nrm row g j * cc j + nrm row g (half j) * ss j

/-- The column that lands at place `j` of a head when its pairs become its halves: the even columns first, then the odd ones. -/
def src (j : Fin 128) : Fin 128 := ⟨if j.val < 64 then 2 * j.val else 2 * (j.val - 64) + 1, by split <;> omega⟩

/-- The place of `j` in its half. -/
def low (j : Fin 128) : Fin 64 := ⟨j.val % 64, Nat.mod_lt _ (by decide)⟩

/-- The even and the odd column of a pair. -/
def even (k : Fin 64) : Fin 128 := ⟨2 * k.val, by omega⟩
def odd (k : Fin 64) : Fin 128 := ⟨2 * k.val + 1, by omega⟩

/-- One entry of a normed and rotated head whose pairs lie side by side, the result's pairs as its two halves. -/
def turn (row g : Fin 128 → EReal) (c s : Fin 64 → EReal) (j : Fin 128) : EReal :=
  if j.val < 64 then nrm row g (even (low j)) * c (low j) - nrm row g (odd (low j)) * s (low j)
  else nrm row g (even (low j)) * s (low j) + nrm row g (odd (low j)) * c (low j)

theorem src_bijective : Function.Bijective src :=
  Finite.injective_iff_bijective.mp (by intro a b; revert a b; decide +kernel)

theorem nrm_src (row g : Fin 128 → EReal) (j : Fin 128) : nrm (fun k => row (src k)) (fun k => g (src k)) j = nrm row g (src j) := by
  unfold nrm
  rw [src_bijective.sum_comp fun k => row k * row k]

theorem src_first (j : Fin 128) (h : j.val < 64) : src j = even (low j) := by revert j; decide +kernel
theorem src_half_first (j : Fin 128) (h : j.val < 64) : src (half j) = odd (low j) := by revert j; decide +kernel
theorem src_last (j : Fin 128) (h : ¬j.val < 64) : src j = odd (low j) := by revert j; decide +kernel
theorem src_half_last (j : Fin 128) (h : ¬j.val < 64) : src (half j) = even (low j) := by revert j; decide +kernel

/-- The two layouts hold the same entries. -/
theorem rot_eq_turn (row g cc ss : Fin 128 → EReal) (c s : Fin 64 → EReal) (j : Fin 128) (hc : cc j = c (low j))
    (hs : ss j = if j.val < 64 then -s (low j) else s (low j)) :
    rot (fun k => row (src k)) (fun k => g (src k)) cc ss j = turn row g c s j := by
  unfold rot turn
  rw [nrm_src, nrm_src, hc, hs]
  by_cases h : j.val < 64
  · rw [if_pos h, if_pos h, src_first j h, src_half_first j h, mul_neg, sub_eq_add_neg]
  · rw [if_neg h, if_neg h, src_last j h, src_half_last j h, add_comm]

/-- The rotary frequency of pair `n`. -/
def freq (n : ℕ) : EReal :=
  Ideal.pow (Ideal.ofBits .f32 0x461C4000#32)
    (Ideal.div (-(Ideal.ofBits .f32 0x40000000#32 * FloatOps.sitofp (F := Ideal) .f32 (BitVec.ofNat 32 n))) (Ideal.ofBits .f32 0x42800000#32))

/-- The angle of position `i` in pair `j`: the row of the grid turns the first pairs, the column the others. -/
def angle (i : Fin 8192) (j : Fin 64) : EReal :=
  if j.val < 32 then FloatOps.sitofp (F := Ideal) .f32 (BitVec.ofNat 32 (i.val / 64)) * freq j.val
  else FloatOps.sitofp (F := Ideal) .f32 (BitVec.ofNat 32 (i.val % 64)) * freq (j.val - 32)

/-- The gate through the hyperbolic tangent is the gate through the exponential. -/
theorem gate_eq (x : EReal) :
    Ideal.ofBits .f32 0x3F000000#32 * Ideal.tanh (Ideal.ofBits .f32 0x3F000000#32 * x) + Ideal.ofBits .f32 0x3F000000#32
      = Ideal.div (Ideal.ofBits .f32 0x3F800000#32) (Ideal.ofBits .f32 0x3F800000#32 + Ideal.exp (-x)) := by
  have h1 : Ideal.ofBits .f32 0x3F000000#32 = ((1 / 2 : ℝ) : EReal) := by
    simp [Ideal.ofBits, Ideal.ieee]
    rw [← EReal.coe_mul]
    norm_num
  have h2 : Ideal.ofBits .f32 0x3F800000#32 = ((1 : ℝ) : EReal) := by
    simp [Ideal.ofBits, Ideal.ieee]
    rw [← EReal.coe_mul]
    norm_num
  rw [h1, h2]
  induction x using EReal.rec with
  | bot =>
    rw [EReal.coe_mul_bot_of_pos (by norm_num : (0 : ℝ) < 1 / 2), Ideal.tanh_bot, EReal.neg_bot, Ideal.exp_top, EReal.coe_add_top]
    simp [Ideal.div]
    rw [← EReal.coe_neg, ← EReal.coe_add]
    norm_num
  | top =>
    rw [EReal.coe_mul_top_of_pos (by norm_num : (0 : ℝ) < 1 / 2), Ideal.tanh_top, EReal.neg_top, Ideal.exp_bot]
    simp [Ideal.div]
    rw [← EReal.coe_add]
    norm_num
  | coe r =>
    rw [← EReal.coe_mul, Ideal.tanh_coe, ← EReal.coe_neg, Ideal.exp_coe, ← EReal.coe_add, ← EReal.coe_mul, ← EReal.coe_add,
      Ideal.div_coe (by positivity)]
    refine congrArg _ ?_
    rw [Real.tanh_eq_sinh_div_cosh, Real.sinh_eq, Real.cosh_eq]
    have e : Real.exp (-r) = Real.exp (-(1 / 2 * r)) / Real.exp (1 / 2 * r) := by
      rw [← Real.exp_sub]
      exact congrArg _ (by ring)
    have p1 := Real.exp_pos (1 / 2 * r)
    have p2 := Real.exp_pos (-(1 / 2 * r))
    rw [e]
    field_simp
    ring

end Cert.Rotary

end
-- ==== Proof.Calls.InprojRef.lean ====
/-
  The reference's projection in: its result, entry by entry.
-/
module

public import proofs.«01_k».proof.Proof.Gen.InprojRefIdeal.Run
public import proofs.«01_k».proof.Proof.Calls.Rotary
public import Idealize.ShloMosaic.Lib.Pointwise

@[expose] public section

set_option maxRecDepth 16384

noncomputable section
namespace Cert.InprojRefIdeal.Call

open Cert.InprojRefIdeal Cert.InprojRefIdeal.Gen Cert.Rotary
open Idealize.ShloMosaic Idealize.ShloMosaic.TcCoe

/-- The projection. -/
def prod (h : FVec Ideal S2x8192x4096 .f32) (w : FVec Ideal S4096x16384 .f32) : FVec Ideal S2x8192x16384 .f32 :=
  Host.dotGeneral (φ₁ := .f32) dot_S2x8192x4096_S4096x16384_S2x8192x16384_2_0_01_1_n_n none h w

/-- The rotary angles. -/
def ang : FVec Ideal S8192x64 .f32 :=
  concatenate S8192x64 1 [⟨S8192x32, (mulf (broadcastInDim S8192x32 ![0, 1] bcast_S8192x1_S8192x32_0_1 (broadcastInDim S8192x1 ![0] bcast_S8192_S8192x1_0 (sitofp .f32 (shapeCast _ (broadcastInDim S128x64 ![0] bcast_S128_S128x64_0 (iotaInDim S128 32 0)) shapeCasts_S128x64_S8192)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))⟩, ⟨S8192x32, (mulf (broadcastInDim S8192x32 ![0, 1] bcast_S8192x1_S8192x32_0_1 (broadcastInDim S8192x1 ![0] bcast_S8192_S8192x1_0 (sitofp .f32 (shapeCast _ (broadcastInDim S128x64 ![0, 1] bcast_S1x64_S128x64_0_1 (shapeCast _ (iotaInDim S64 32 0) shapeCasts_S64_S1x64)) shapeCasts_S128x64_S8192)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))⟩] concatenates_S8192x32_S8192x32_S8192x64_d1

/-- The projection's query heads and key heads. -/
def queries (P : FVec Ideal S2x8192x16384 .f32) : FVec Ideal S2x8192x32x128 .f32 :=
  shapeCast _ (extractStridedSlice S2x8192x4096 ![0, 0, 0] P slices_S2x8192x16384_S2x8192x4096_0_0_0) shapeCasts_S2x8192x4096_S2x8192x32x128
def keys (P : FVec Ideal S2x8192x16384 .f32) : FVec Ideal S2x8192x8x128 .f32 :=
  shapeCast _ (extractStridedSlice S2x8192x1024 ![0, 0, 4096] P slices_S2x8192x16384_S2x8192x1024_0_0_4096) shapeCasts_S2x8192x1024_S2x8192x8x128

/-- The heads normed. -/
def normedQ (z : FVec Ideal S2x8192x32x128 .f32) (gq : FVec Ideal S128 .f32) : FVec Ideal S2x8192x32x128 .f32 :=
  mulf (mulf z (broadcastInDim S2x8192x32x128 ![0, 1, 2, 3] bcast_S2x8192x32x1_S2x8192x32x128_0_1_2_3 (Host.rsqrt (addf (Host.divf (broadcastInDim S2x8192x32x1 ![0, 1, 2] bcast_S2x8192x32_S2x8192x32x1_0_1_2 (Host.reduceAdd (mulf z z) (constant S_ .f32 0x00000000#32) reducesTo_S2x8192x32x128_S2x8192x32_d3 h_S_)) (broadcastInDim S2x8192x32x1 ![] bcast_S_S2x8192x32x1 (constant S_ .f32 0x43000000#32))) (broadcastInDim S2x8192x32x1 ![] bcast_S_S2x8192x32x1 (constant S_ .f32 0x358637BD#32)))))) (broadcastInDim S2x8192x32x128 ![0, 1, 2, 3] bcast_S1x1x1x128_S2x8192x32x128_0_1_2_3 (broadcastInDim S1x1x1x128 ![3] bcast_S128_S1x1x1x128_3 gq))
def normedK (z : FVec Ideal S2x8192x8x128 .f32) (gk : FVec Ideal S128 .f32) : FVec Ideal S2x8192x8x128 .f32 :=
  mulf (mulf z (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf z z) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 gk))

/-- The heads rotated, then the two entries of each pair put in the two halves. -/
def turnedQ (z : FVec Ideal S2x8192x32x128 .f32) : FVec Ideal S2x8192x4096 .f32 :=
  shapeCast _ (transpose S2x8192x32x2x64 [0, 1, 2, 4, 3] (shapeCast _ (shapeCast _ (concatenate S2x8192x32x64x2 4 [⟨S2x8192x32x64x1, (broadcastInDim S2x8192x32x64x1 ![0, 1, 2, 3] bcast_S2x8192x32x64_S2x8192x32x64x1_0_1_2_3 (subf (mulf (shapeCast _ (extractStridedSlice S2x8192x32x64x1 ![0, 0, 0, 0, 0] (shapeCast _ z shapeCasts_S2x8192x32x128_S2x8192x32x64x2) slices_S2x8192x32x64x2_S2x8192x32x64x1_0_0_0_0_0) shapeCasts_S2x8192x32x64x1_S2x8192x32x64) (broadcastInDim S2x8192x32x64 ![0, 1, 2, 3] bcast_S1x8192x1x64_S2x8192x32x64_0_1_2_3 (broadcastInDim S1x8192x1x64 ![1, 3] bcast_S8192x64_S1x8192x1x64_1_3 (Host.cos ang)))) (mulf (shapeCast _ (extractStridedSlice S2x8192x32x64x1 ![0, 0, 0, 0, 1] (shapeCast _ z shapeCasts_S2x8192x32x128_S2x8192x32x64x2) slices_S2x8192x32x64x2_S2x8192x32x64x1_0_0_0_0_1) shapeCasts_S2x8192x32x64x1_S2x8192x32x64) (broadcastInDim S2x8192x32x64 ![0, 1, 2, 3] bcast_S1x8192x1x64_S2x8192x32x64_0_1_2_3 (broadcastInDim S1x8192x1x64 ![1, 3] bcast_S8192x64_S1x8192x1x64_1_3 (Host.sin ang))))))⟩, ⟨S2x8192x32x64x1, (broadcastInDim S2x8192x32x64x1 ![0, 1, 2, 3] bcast_S2x8192x32x64_S2x8192x32x64x1_0_1_2_3 (addf (mulf (shapeCast _ (extractStridedSlice S2x8192x32x64x1 ![0, 0, 0, 0, 0] (shapeCast _ z shapeCasts_S2x8192x32x128_S2x8192x32x64x2) slices_S2x8192x32x64x2_S2x8192x32x64x1_0_0_0_0_0) shapeCasts_S2x8192x32x64x1_S2x8192x32x64) (broadcastInDim S2x8192x32x64 ![0, 1, 2, 3] bcast_S1x8192x1x64_S2x8192x32x64_0_1_2_3 (broadcastInDim S1x8192x1x64 ![1, 3] bcast_S8192x64_S1x8192x1x64_1_3 (Host.sin ang)))) (mulf (shapeCast _ (extractStridedSlice S2x8192x32x64x1 ![0, 0, 0, 0, 1] (shapeCast _ z shapeCasts_S2x8192x32x128_S2x8192x32x64x2) slices_S2x8192x32x64x2_S2x8192x32x64x1_0_0_0_0_1) shapeCasts_S2x8192x32x64x1_S2x8192x32x64) (broadcastInDim S2x8192x32x64 ![0, 1, 2, 3] bcast_S1x8192x1x64_S2x8192x32x64_0_1_2_3 (broadcastInDim S1x8192x1x64 ![1, 3] bcast_S8192x64_S1x8192x1x64_1_3 (Host.cos ang))))))⟩] concatenates_S2x8192x32x64x1_S2x8192x32x64x1_S2x8192x32x64x2_d4) shapeCasts_S2x8192x32x64x2_S2x8192x32x128) shapeCasts_S2x8192x32x128_S2x8192x32x64x2) transposes_S2x8192x32x64x2_S2x8192x32x2x64_0_1_2_4_3) shapeCasts_S2x8192x32x2x64_S2x8192x4096
def turnedK (z : FVec Ideal S2x8192x8x128 .f32) : FVec Ideal S2x8192x1024 .f32 :=
  shapeCast _ (transpose S2x8192x8x2x64 [0, 1, 2, 4, 3] (shapeCast _ (shapeCast _ (concatenate S2x8192x8x64x2 4 [⟨S2x8192x8x64x1, (broadcastInDim S2x8192x8x64x1 ![0, 1, 2, 3] bcast_S2x8192x8x64_S2x8192x8x64x1_0_1_2_3 (subf (mulf (shapeCast _ (extractStridedSlice S2x8192x8x64x1 ![0, 0, 0, 0, 0] (shapeCast _ z shapeCasts_S2x8192x8x128_S2x8192x8x64x2) slices_S2x8192x8x64x2_S2x8192x8x64x1_0_0_0_0_0) shapeCasts_S2x8192x8x64x1_S2x8192x8x64) (broadcastInDim S2x8192x8x64 ![0, 1, 2, 3] bcast_S1x8192x1x64_S2x8192x8x64_0_1_2_3 (broadcastInDim S1x8192x1x64 ![1, 3] bcast_S8192x64_S1x8192x1x64_1_3 (Host.cos ang)))) (mulf (shapeCast _ (extractStridedSlice S2x8192x8x64x1 ![0, 0, 0, 0, 1] (shapeCast _ z shapeCasts_S2x8192x8x128_S2x8192x8x64x2) slices_S2x8192x8x64x2_S2x8192x8x64x1_0_0_0_0_1) shapeCasts_S2x8192x8x64x1_S2x8192x8x64) (broadcastInDim S2x8192x8x64 ![0, 1, 2, 3] bcast_S1x8192x1x64_S2x8192x8x64_0_1_2_3 (broadcastInDim S1x8192x1x64 ![1, 3] bcast_S8192x64_S1x8192x1x64_1_3 (Host.sin ang))))))⟩, ⟨S2x8192x8x64x1, (broadcastInDim S2x8192x8x64x1 ![0, 1, 2, 3] bcast_S2x8192x8x64_S2x8192x8x64x1_0_1_2_3 (addf (mulf (shapeCast _ (extractStridedSlice S2x8192x8x64x1 ![0, 0, 0, 0, 0] (shapeCast _ z shapeCasts_S2x8192x8x128_S2x8192x8x64x2) slices_S2x8192x8x64x2_S2x8192x8x64x1_0_0_0_0_0) shapeCasts_S2x8192x8x64x1_S2x8192x8x64) (broadcastInDim S2x8192x8x64 ![0, 1, 2, 3] bcast_S1x8192x1x64_S2x8192x8x64_0_1_2_3 (broadcastInDim S1x8192x1x64 ![1, 3] bcast_S8192x64_S1x8192x1x64_1_3 (Host.sin ang)))) (mulf (shapeCast _ (extractStridedSlice S2x8192x8x64x1 ![0, 0, 0, 0, 1] (shapeCast _ z shapeCasts_S2x8192x8x128_S2x8192x8x64x2) slices_S2x8192x8x64x2_S2x8192x8x64x1_0_0_0_0_1) shapeCasts_S2x8192x8x64x1_S2x8192x8x64) (broadcastInDim S2x8192x8x64 ![0, 1, 2, 3] bcast_S1x8192x1x64_S2x8192x8x64_0_1_2_3 (broadcastInDim S1x8192x1x64 ![1, 3] bcast_S8192x64_S1x8192x1x64_1_3 (Host.cos ang))))))⟩] concatenates_S2x8192x8x64x1_S2x8192x8x64x1_S2x8192x8x64x2_d4) shapeCasts_S2x8192x8x64x2_S2x8192x8x128) shapeCasts_S2x8192x8x128_S2x8192x8x64x2) transposes_S2x8192x8x64x2_S2x8192x8x2x64_0_1_2_4_3) shapeCasts_S2x8192x8x2x64_S2x8192x1024

/-- The logistic function. -/
def gate (x : FVec Ideal S2x8192x4096 .f32) : FVec Ideal S2x8192x4096 .f32 :=
  Host.divf (broadcastInDim S2x8192x4096 ![] bcast_S_S2x8192x4096 (constant S_ .f32 0x3F800000#32)) (addf (broadcastInDim S2x8192x4096 ![] bcast_S_S2x8192x4096 (constant S_ .f32 0x3F800000#32)) (Host.exp (Host.negf x)))

/-- The results side by side, one row a token. -/
def pack (q : FVec Ideal S2x8192x4096 .f32) (k v : FVec Ideal S2x8192x1024 .f32) (a f : FVec Ideal S2x8192x4096 .f32) : FVec Ideal S16384x14336 .bf16 :=
  truncf .bf16 (shapeCast _ ((concatenate S2x8192x14336 2 [⟨S2x8192x4096, (q : (⟨S2x8192x4096, .f32⟩ : BufTy).Contents (Elt Ideal))⟩, ⟨S2x8192x1024, (k : (⟨S2x8192x1024, .f32⟩ : BufTy).Contents (Elt Ideal))⟩, ⟨S2x8192x1024, (v : (⟨S2x8192x1024, .f32⟩ : BufTy).Contents (Elt Ideal))⟩, ⟨S2x8192x4096, (a : (⟨S2x8192x4096, .f32⟩ : BufTy).Contents (Elt Ideal))⟩, ⟨S2x8192x4096, (f : (⟨S2x8192x4096, .f32⟩ : BufTy).Contents (Elt Ideal))⟩] concatenates_S2x8192x4096_S2x8192x1024_S2x8192x1024_S2x8192x4096_S2x8192x4096_S2x8192x14336_d2 : (⟨S2x8192x14336, .f32⟩ : BufTy).Contents (Elt Ideal))) shapeCasts_S2x8192x14336_S16384x14336) bitsLt_bf16_f32

/-- The reference's result of its arguments. -/
def answer (h : FVec Ideal S2x8192x4096 .f32) (w : FVec Ideal S4096x16384 .f32) (gq gk : FVec Ideal S128 .f32) : FVec Ideal S16384x14336 .bf16 :=
  pack (turnedQ (normedQ (queries (prod h w)) gq)) (turnedK (normedK (keys (prod h w)) gk)) (extractStridedSlice S2x8192x1024 ![0, 0, 5120] (prod h w) slices_S2x8192x16384_S2x8192x1024_0_0_5120)
    (gate (extractStridedSlice S2x8192x4096 ![0, 0, 8192] (prod h w) slices_S2x8192x16384_S2x8192x4096_0_0_8192))
    (gate (extractStridedSlice S2x8192x4096 ![0, 0, 12288] (prod h w) slices_S2x8192x16384_S2x8192x4096_0_0_12288))

/-- The run's result is that. -/
theorem answer_eq (m : (ℓ : Loc nD τ sig) → Buf (Elt Ideal) ℓ) (c : Dev nD) :
    Cert.InprojRefIdeal.Value.res_main_v161 m c = answer (m ((c.tc : Thread nD τ).loc main_arg0)) (m ((c.tc : Thread nD τ).loc main_arg1)) (m ((c.tc : Thread nD τ).loc main_arg2))
      (m ((c.tc : Thread nD τ).loc main_arg3)) := by
  unfold Cert.InprojRefIdeal.Value.res_main_v161
  rfl

theorem prod_at (h : FVec Ideal S2x8192x4096 .f32) (w : FVec Ideal S4096x16384 .f32) (b : Fin 2) (i : Fin 8192) (n : Fin 16384) :
    prod h w (ix3 b i n) = ∑ d : Fin 4096, h (ix3 b i d) * w (ix2 d n) := by
  pointwise [prod]

theorem ang_at (i : Fin 8192) (j : Fin 64) : ang (ix2 i j) = angle i j := by
  unfold angle
  split <;> rename_i hj
  · pointwise [ang]
    rw [dif_pos hj]
    pointwise [freq]
  · pointwise [ang]
    rw [dif_neg hj]
    pointwise [freq]

theorem queries_at (P : FVec Ideal S2x8192x16384 .f32) (b : Fin 2) (i : Fin 8192) (h : Fin 32) (k : Fin 128) :
    queries P (ix4 b i h k) = P (ix3 b i ⟨h.val * 128 + k.val, by omega⟩) := by
  pointwise [queries]
theorem keys_at (P : FVec Ideal S2x8192x16384 .f32) (b : Fin 2) (i : Fin 8192) (h : Fin 8) (k : Fin 128) :
    keys P (ix4 b i h k) = P (ix3 b i ⟨4096 + (h.val * 128 + k.val), by omega⟩) := by
  pointwise [keys]

theorem normedQ_at (z : FVec Ideal S2x8192x32x128 .f32) (g : FVec Ideal S128 .f32) (b : Fin 2) (i : Fin 8192) (h : Fin 32) (k : Fin 128) :
    normedQ z g (ix4 b i h k) = nrm (fun k => z (ix4 b i h k)) (fun k => g (ix1 k)) k := by
  pointwise [normedQ, nrm]
theorem normedK_at (z : FVec Ideal S2x8192x8x128 .f32) (g : FVec Ideal S128 .f32) (b : Fin 2) (i : Fin 8192) (h : Fin 8) (k : Fin 128) :
    normedK z g (ix4 b i h k) = nrm (fun k => z (ix4 b i h k)) (fun k => g (ix1 k)) k := by
  pointwise [normedK, nrm]

theorem gate_at (x : FVec Ideal S2x8192x4096 .f32) (b : Fin 2) (i : Fin 8192) (j : Fin 4096) :
    gate x (ix3 b i j) = Ideal.div (Ideal.ofBits .f32 0x3F800000#32) (Ideal.ofBits .f32 0x3F800000#32 + Ideal.exp (-(x (ix3 b i j)))) := by
  pointwise [gate]

theorem turnedQ_at (z : FVec Ideal S2x8192x32x128 .f32) (b : Fin 2) (i : Fin 8192) (h : Fin 32) (k : Fin 128) :
    turnedQ z (ix3 b i ⟨h.val * 128 + k.val, by omega⟩) = if k.val < 64
      then z (ix4 b i h (even (low k))) * Ideal.cos (angle i (low k)) - z (ix4 b i h (odd (low k))) * Ideal.sin (angle i (low k))
      else z (ix4 b i h (even (low k))) * Ideal.sin (angle i (low k)) + z (ix4 b i h (odd (low k))) * Ideal.cos (angle i (low k)) := by
  have e1 : (⟨(h.val * 128 + k.val) % 64, by omega⟩ : Fin 64) = low k := Fin.ext (by simp only [low]; omega)
  have e2 : (⟨(h.val * 128 + k.val) % 64 * 2, by omega⟩ : Fin 128) = even (low k) := Fin.ext (by simp only [low, even]; omega)
  have e3 : (⟨(h.val * 128 + k.val) % 64 * 2 + 1, by omega⟩ : Fin 128) = odd (low k) := Fin.ext (by simp only [low, odd]; omega)
  pointwise [turnedQ]
  by_cases hk : k.val < 64
  · refine Eq.trans ?_ (if_pos hk).symm
    refine (dif_pos (by omega)).trans ?_
    simp only [ang_at]
    rw [e1, e2, e3]
  · refine Eq.trans ?_ (if_neg hk).symm
    refine (dif_neg (by omega)).trans ?_
    simp only [ang_at]
    rw [e1, e2, e3]
theorem turnedK_at (z : FVec Ideal S2x8192x8x128 .f32) (b : Fin 2) (i : Fin 8192) (h : Fin 8) (k : Fin 128) :
    turnedK z (ix3 b i ⟨h.val * 128 + k.val, by omega⟩) = if k.val < 64
      then z (ix4 b i h (even (low k))) * Ideal.cos (angle i (low k)) - z (ix4 b i h (odd (low k))) * Ideal.sin (angle i (low k))
      else z (ix4 b i h (even (low k))) * Ideal.sin (angle i (low k)) + z (ix4 b i h (odd (low k))) * Ideal.cos (angle i (low k)) := by
  have e1 : (⟨(h.val * 128 + k.val) % 64, by omega⟩ : Fin 64) = low k := Fin.ext (by simp only [low]; omega)
  have e2 : (⟨(h.val * 128 + k.val) % 64 * 2, by omega⟩ : Fin 128) = even (low k) := Fin.ext (by simp only [low, even]; omega)
  have e3 : (⟨(h.val * 128 + k.val) % 64 * 2 + 1, by omega⟩ : Fin 128) = odd (low k) := Fin.ext (by simp only [low, odd]; omega)
  pointwise [turnedK]
  by_cases hk : k.val < 64
  · refine Eq.trans ?_ (if_pos hk).symm
    refine (dif_pos (by omega)).trans ?_
    simp only [ang_at]
    rw [e1, e2, e3]
  · refine Eq.trans ?_ (if_neg hk).symm
    refine (dif_neg (by omega)).trans ?_
    simp only [ang_at]
    rw [e1, e2, e3]

theorem pack_q (q : FVec Ideal S2x8192x4096 .f32) (k v : FVec Ideal S2x8192x1024 .f32) (a f : FVec Ideal S2x8192x4096 .f32) (r : Fin 16384) (j : Fin 14336) (i : Fin 4096) (e : j.val = i.val) : pack q k v a f (ix2 r j) = q (ix3 ⟨r.val / 8192, by omega⟩ ⟨r.val % 8192, by omega⟩ i) := by
  obtain rfl : j = ⟨i.val, by clear e; omega⟩ := Fin.ext e
  unfold pack
  pointwise []
theorem pack_k (q : FVec Ideal S2x8192x4096 .f32) (k v : FVec Ideal S2x8192x1024 .f32) (a f : FVec Ideal S2x8192x4096 .f32) (r : Fin 16384) (j : Fin 14336) (i : Fin 1024) (e : j.val = 4096 + i.val) : pack q k v a f (ix2 r j) = k (ix3 ⟨r.val / 8192, by omega⟩ ⟨r.val % 8192, by omega⟩ i) := by
  obtain rfl : j = ⟨4096 + i.val, by clear e; omega⟩ := Fin.ext e
  unfold pack
  pointwise []
theorem pack_v (q : FVec Ideal S2x8192x4096 .f32) (k v : FVec Ideal S2x8192x1024 .f32) (a f : FVec Ideal S2x8192x4096 .f32) (r : Fin 16384) (j : Fin 14336) (i : Fin 1024) (e : j.val = 5120 + i.val) : pack q k v a f (ix2 r j) = v (ix3 ⟨r.val / 8192, by omega⟩ ⟨r.val % 8192, by omega⟩ i) := by
  obtain rfl : j = ⟨5120 + i.val, by clear e; omega⟩ := Fin.ext e
  unfold pack
  pointwise []
  rw [dif_neg (by omega), dif_neg (by omega), dif_pos (by omega)]
  simp only [Nat.add_sub_cancel_left, Nat.sub_sub, Nat.reduceAdd]
theorem pack_a (q : FVec Ideal S2x8192x4096 .f32) (k v : FVec Ideal S2x8192x1024 .f32) (a f : FVec Ideal S2x8192x4096 .f32) (r : Fin 16384) (j : Fin 14336) (i : Fin 4096) (e : j.val = 6144 + i.val) : pack q k v a f (ix2 r j) = a (ix3 ⟨r.val / 8192, by omega⟩ ⟨r.val % 8192, by omega⟩ i) := by
  obtain rfl : j = ⟨6144 + i.val, by clear e; omega⟩ := Fin.ext e
  unfold pack
  pointwise []
  rw [dif_neg (by omega), dif_neg (by omega), dif_neg (by omega), dif_pos (by omega)]
  simp only [Nat.add_sub_cancel_left, Nat.sub_sub, Nat.reduceAdd]
theorem pack_f (q : FVec Ideal S2x8192x4096 .f32) (k v : FVec Ideal S2x8192x1024 .f32) (a f : FVec Ideal S2x8192x4096 .f32) (r : Fin 16384) (j : Fin 14336) (i : Fin 4096) (e : j.val = 10240 + i.val) : pack q k v a f (ix2 r j) = f (ix3 ⟨r.val / 8192, by omega⟩ ⟨r.val % 8192, by omega⟩ i) := by
  obtain rfl : j = ⟨10240 + i.val, by clear e; omega⟩ := Fin.ext e
  unfold pack
  pointwise []
  rw [dif_neg (by omega), dif_neg (by omega), dif_neg (by omega), dif_neg (by omega)]
  simp only [Nat.add_sub_cancel_left, Nat.sub_sub, Nat.reduceAdd]

theorem answer_queries (h : FVec Ideal S2x8192x4096 .f32) (w : FVec Ideal S4096x16384 .f32) (gq gk : FVec Ideal S128 .f32) (r : Fin 16384) (t : Fin 32) (k : Fin 128) :
    answer h w gq gk (ix2 r ⟨t.val * 128 + k.val, by omega⟩) = turn (fun e => ∑ d : Fin 4096, h (ix3 ⟨r.val / 8192, by omega⟩ ⟨r.val % 8192, by omega⟩ d) * w (ix2 d ⟨t.val * 128 + e.val, by omega⟩)) (fun e => gq (ix1 e))
      (fun e => Ideal.cos (angle ⟨r.val % 8192, by omega⟩ e)) (fun e => Ideal.sin (angle ⟨r.val % 8192, by omega⟩ e)) k := by
  unfold answer
  rw [pack_q _ _ _ _ _ r _ ⟨t.val * 128 + k.val, by omega⟩ rfl, turnedQ_at]
  simp only [normedQ_at, queries_at, prod_at]
  rfl
theorem answer_keys (h : FVec Ideal S2x8192x4096 .f32) (w : FVec Ideal S4096x16384 .f32) (gq gk : FVec Ideal S128 .f32) (r : Fin 16384) (t : Fin 8) (k : Fin 128) :
    answer h w gq gk (ix2 r ⟨4096 + (t.val * 128 + k.val), by omega⟩) = turn (fun e => ∑ d : Fin 4096, h (ix3 ⟨r.val / 8192, by omega⟩ ⟨r.val % 8192, by omega⟩ d) * w (ix2 d ⟨4096 + (t.val * 128 + e.val), by omega⟩)) (fun e => gk (ix1 e))
      (fun e => Ideal.cos (angle ⟨r.val % 8192, by omega⟩ e)) (fun e => Ideal.sin (angle ⟨r.val % 8192, by omega⟩ e)) k := by
  unfold answer
  rw [pack_k _ _ _ _ _ r _ ⟨t.val * 128 + k.val, by omega⟩ rfl, turnedK_at]
  simp only [normedK_at, keys_at, prod_at]
  rfl
theorem answer_values (h : FVec Ideal S2x8192x4096 .f32) (w : FVec Ideal S4096x16384 .f32) (gq gk : FVec Ideal S128 .f32) (r : Fin 16384) (j : Fin 1024) :
    answer h w gq gk (ix2 r ⟨5120 + j.val, by omega⟩) = ∑ d : Fin 4096, h (ix3 ⟨r.val / 8192, by omega⟩ ⟨r.val % 8192, by omega⟩ d) * w (ix2 d ⟨5120 + j.val, by omega⟩) := by
  unfold answer
  rw [pack_v _ _ _ _ _ r _ j rfl]
  exact (show extractStridedSlice S2x8192x1024 ![0, 0, 5120] (prod h w) slices_S2x8192x16384_S2x8192x1024_0_0_5120 (ix3 ⟨r.val / 8192, by omega⟩ ⟨r.val % 8192, by omega⟩ j) = prod h w (ix3 ⟨r.val / 8192, by omega⟩ ⟨r.val % 8192, by omega⟩ ⟨5120 + j.val, by omega⟩) by pointwise []).trans (prod_at ..)

theorem answer_gates (h : FVec Ideal S2x8192x4096 .f32) (w : FVec Ideal S4096x16384 .f32) (gq gk : FVec Ideal S128 .f32) (r : Fin 16384) (j : Fin 8192) :
    answer h w gq gk (ix2 r ⟨6144 + j.val, by omega⟩) = Ideal.div (Ideal.ofBits .f32 0x3F800000#32)
      (Ideal.ofBits .f32 0x3F800000#32 + Ideal.exp (-(∑ d : Fin 4096, h (ix3 ⟨r.val / 8192, by omega⟩ ⟨r.val % 8192, by omega⟩ d) * w (ix2 d ⟨8192 + j.val, by omega⟩)))) := by
  unfold answer
  rw [← prod_at]
  by_cases h4 : j.val < 4096
  · rw [pack_a _ _ _ _ _ r _ ⟨j.val, h4⟩ rfl, gate_at]
    refine congrArg (fun x => Ideal.div _ (_ + Ideal.exp (-x))) ?_
    pointwise []
  · rw [pack_f _ _ _ _ _ r _ ⟨j.val - 4096, by omega⟩ (by show 6144 + j.val = 10240 + (j.val - 4096); omega), gate_at]
    refine congrArg (fun x => Ideal.div _ (_ + Ideal.exp (-x))) ?_
    have e : (⟨8192 + j.val, by omega⟩ : Fin 16384) = ⟨12288 + (j.val - 4096), by omega⟩ := Fin.ext (by show 8192 + j.val = 12288 + (j.val - 4096); omega)
    rw [e]
    pointwise []

end Cert.InprojRefIdeal.Call

end
-- ==== Proof.Calls.InprojBody.lean ====
/-
  What the body of the projection-in call computes in each of its four cases, entry by entry.
-/
module

public import proofs.«01_k».proof.Proof.Gen.InprojIdeal.Value
public import proofs.«01_k».proof.Proof.Calls.Rotary
public import Idealize.ShloMosaic.Lib.Pointwise
public import Idealize.ShloMosaic.Lib.Pipeline.ValueKit

@[expose] public section

set_option maxRecDepth 16384

noncomputable section
namespace Cert.InprojIdeal.Call

open Cert.InprojIdeal Cert.InprojIdeal.Gen
open Idealize.ShloMosaic Idealize.ShloMosaic.TcCoe Idealize.ShloMosaic.Pipeline
open Cert.Rotary

/-- Head `h` of row `r` of a block of eight heads. -/
def head (a : Vec Ideal S1024x1024 .f32) (r : Fin 1024) (h : Fin 8) (k : Fin 128) : EReal := a (ix2 r ⟨128 * h.val + k.val, by omega⟩)

/-- The rotated block: eight heads side by side. -/
def heads (a : Vec Ideal S1024x1024 .f32) (g : Vec Ideal S1x128 .f32) (cc ss : Vec Ideal S1024x128 .f32) (r : Fin 1024) (j : Fin 1024) : EReal :=
  rot (head a r ⟨j.val / 128, by omega⟩) (fun k => g (ix2 0 k)) (fun k => cc (ix2 r k)) (fun k => ss (ix2 r k)) ⟨j.val % 128, by omega⟩

theorem acc_at (x0 : Vec Ideal S1024x4096 .bf16) (x1 : Vec Ideal S4096x1024 .bf16) (r : Fin 1024) (j : Fin 1024) :
    k0_pay1 x0 x1 (ix2 r j) = ∑ k : Fin 4096, x0 (ix2 r k) * x1 (ix2 k j) := by
  pointwise [k0_pay1]

theorem heads_of (a : Vec Ideal S1024x1024 .f32) (g : Vec Ideal S1x128 .f32) (cc ss : Vec Ideal S1024x128 .f32) {r' j' : Fin 1024} (r : Fin 1024) (h : Fin 8) (k : Fin 128)
    (er : r' = r) (ej : j'.val = 128 * h.val + k.val) :
    heads a g cc ss r' j' = rot (head a r h) (fun k => g (ix2 0 k)) (fun k => cc (ix2 r k)) (fun k => ss (ix2 r k)) k := by
  subst er
  have e1 : (⟨j'.val / 128, by omega⟩ : Fin 8) = h := Fin.ext (show j'.val / 128 = h.val by omega)
  have e2 : (⟨j'.val % 128, by omega⟩ : Fin 128) = k := Fin.ext (show j'.val % 128 = k.val by omega)
  unfold heads
  rw [e1, e2]

/-- A block of query heads. -/
theorem body_A (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (hc0 : cond0_0 i) (hc1 : ¬cond0_1 i) (hc2 : ¬cond0_2 i) (hc3 : ¬cond0_3 i)
    (x0 : Vec Ideal S1024x4096 .bf16) (x1 : Vec Ideal S4096x1024 .bf16) (x2 x3 : Vec Ideal S1x128 .f32) (x4 x5 : Vec Ideal S1024x128 .f32) (r : Fin 1024) (j : Fin 1024) :
    out0_A_6 c i arg2 harg2 arg3 harg3 arg4 harg4 arg5 harg5 arg6 harg6 arg7 harg7 arg8 harg8 hc0 hc1 hc2 hc3 x0 x1 x2 x3 x4 x5 (ix2 r j) = heads (k0_pay1 x0 x1) x2 x4 x5 r j := by
  unfold out0_A_6
  rw [View.read_writes_eq_canon _ _ _ (cover0_A_6 c i arg2 harg2 arg3 harg3 arg4 harg4 arg5 harg5 arg6 harg6 arg7 harg7 arg8 harg8 hc0 hc1 hc2 hc3 x0 x1 x2 x3 x4 x5)]
  unfold kernelRun0_A
  dsimp only
  sl_unfold_words
  simp only [View.readAt_eq_ld, Memref.IsWhole.read_unread]
  simp (disch := decide) only [View.ld_unit_lit']
  apply View.canon_apply_of_pieces (Val := Elt Ideal) (S := S1024x1024) (e := .bf16) (fun y => heads (k0_pay1 x0 x1) x2 x4 x5 (y 0) (y 1))
  · simp only [List.forall_mem_cons, List.not_mem_nil, false_implies, implies_true, and_true]
    refine ⟨?_, ?_, ?_, ?_, ?_, ?_, ?_, ?_⟩
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 7 k (Fin.ext (show 0 + 1 * r.val = r.val by omega)) (show 896 + 1 * k.val = 128 * 7 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 6 k (Fin.ext (show 0 + 1 * r.val = r.val by omega)) (show 768 + 1 * k.val = 128 * 6 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 5 k (Fin.ext (show 0 + 1 * r.val = r.val by omega)) (show 640 + 1 * k.val = 128 * 5 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 4 k (Fin.ext (show 0 + 1 * r.val = r.val by omega)) (show 512 + 1 * k.val = 128 * 4 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 3 k (Fin.ext (show 0 + 1 * r.val = r.val by omega)) (show 384 + 1 * k.val = 128 * 3 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 2 k (Fin.ext (show 0 + 1 * r.val = r.val by omega)) (show 256 + 1 * k.val = 128 * 2 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 1 k (Fin.ext (show 0 + 1 * r.val = r.val by omega)) (show 128 + 1 * k.val = 128 * 1 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x2 x4 x5 r 0 k (Fin.ext (show 0 + 1 * r.val = r.val by omega)) (show 0 + 1 * k.val = 128 * 0 + k.val by omega)).symm
      pointwise [k0_pay2, k0_pay3, k0_pay8, k0_pay9, k0_pay10, k0_pay11, k0_pay12, k0_pay13, k0_pay14, k0_pay15, k0_pay16, k0_pay17, k0_pay18, k0_pay19, k0_pay20, rot, nrm, head, half]
  · exact View.cover_of_tiledL (s := S1024x1024) (Val := Elt Ideal) (e := .bf16) _ S1024x128.size (by sl_kernel_rfl) _

/-- A block of key heads. -/
theorem body_B (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (hc0 : ¬cond0_0 i) (hc1 : cond0_1 i) (hc2 : ¬cond0_2 i) (hc3 : ¬cond0_3 i)
    (x0 : Vec Ideal S1024x4096 .bf16) (x1 : Vec Ideal S4096x1024 .bf16) (x2 x3 : Vec Ideal S1x128 .f32) (x4 x5 : Vec Ideal S1024x128 .f32) (r : Fin 1024) (j : Fin 1024) :
    out0_B_6 c i arg2 harg2 arg3 harg3 arg4 harg4 arg5 harg5 arg6 harg6 arg7 harg7 arg8 harg8 hc0 hc1 hc2 hc3 x0 x1 x2 x3 x4 x5 (ix2 r j) = heads (k0_pay1 x0 x1) x3 x4 x5 r j := by
  unfold out0_B_6
  rw [View.read_writes_eq_canon _ _ _ (cover0_B_6 c i arg2 harg2 arg3 harg3 arg4 harg4 arg5 harg5 arg6 harg6 arg7 harg7 arg8 harg8 hc0 hc1 hc2 hc3 x0 x1 x2 x3 x4 x5)]
  unfold kernelRun0_B
  dsimp only
  sl_unfold_words
  simp only [View.readAt_eq_ld, Memref.IsWhole.read_unread]
  simp (disch := decide) only [View.ld_unit_lit']
  apply View.canon_apply_of_pieces (Val := Elt Ideal) (S := S1024x1024) (e := .bf16) (fun y => heads (k0_pay1 x0 x1) x3 x4 x5 (y 0) (y 1))
  · simp only [List.forall_mem_cons, List.not_mem_nil, false_implies, implies_true, and_true]
    refine ⟨?_, ?_, ?_, ?_, ?_, ?_, ?_, ?_⟩
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 7 k (Fin.ext (show 0 + 1 * r.val = r.val by omega)) (show 896 + 1 * k.val = 128 * 7 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 6 k (Fin.ext (show 0 + 1 * r.val = r.val by omega)) (show 768 + 1 * k.val = 128 * 6 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 5 k (Fin.ext (show 0 + 1 * r.val = r.val by omega)) (show 640 + 1 * k.val = 128 * 5 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 4 k (Fin.ext (show 0 + 1 * r.val = r.val by omega)) (show 512 + 1 * k.val = 128 * 4 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 3 k (Fin.ext (show 0 + 1 * r.val = r.val by omega)) (show 384 + 1 * k.val = 128 * 3 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 2 k (Fin.ext (show 0 + 1 * r.val = r.val by omega)) (show 256 + 1 * k.val = 128 * 2 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 1 k (Fin.ext (show 0 + 1 * r.val = r.val by omega)) (show 128 + 1 * k.val = 128 * 1 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
    · intro x
      obtain ⟨r, k, rfl⟩ : ∃ (r : Fin 1024) (k : Fin 128), x = ix2 r k := ⟨x 0, x 1, eq_ix2 x⟩
      refine Eq.trans ?_ (heads_of (k0_pay1 x0 x1) x3 x4 x5 r 0 k (Fin.ext (show 0 + 1 * r.val = r.val by omega)) (show 0 + 1 * k.val = 128 * 0 + k.val by omega)).symm
      pointwise [k0_pay4, k0_pay5, k0_pay21, k0_pay22, k0_pay23, k0_pay24, k0_pay25, k0_pay26, k0_pay27, k0_pay28, k0_pay29, k0_pay30, k0_pay31, k0_pay32, k0_pay33, rot, nrm, head, half]
  · exact View.cover_of_tiledL (s := S1024x1024) (Val := Elt Ideal) (e := .bf16) _ S1024x128.size (by sl_kernel_rfl) _

/-- A block of values. -/
theorem body_C (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (hc0 : ¬cond0_0 i) (hc1 : ¬cond0_1 i) (hc2 : cond0_2 i) (hc3 : ¬cond0_3 i)
    (x0 : Vec Ideal S1024x4096 .bf16) (x1 : Vec Ideal S4096x1024 .bf16) (x2 x3 : Vec Ideal S1x128 .f32) (x4 x5 : Vec Ideal S1024x128 .f32) (r : Fin 1024) (j : Fin 1024) :
    out0_C_6 c i arg2 harg2 arg3 harg3 arg4 harg4 arg5 harg5 arg6 harg6 arg7 harg7 arg8 harg8 hc0 hc1 hc2 hc3 x0 x1 x2 x3 x4 x5 (ix2 r j) = k0_pay1 x0 x1 (ix2 r j) := by
  unfold out0_C_6
  rw [View.read_writes_eq_canon _ _ _ (cover0_C_6 c i arg2 harg2 arg3 harg3 arg4 harg4 arg5 harg5 arg6 harg6 arg7 harg7 arg8 harg8 hc0 hc1 hc2 hc3 x0 x1 x2 x3 x4 x5)]
  unfold kernelRun0_C
  dsimp only
  sl_unfold_words
  simp only [View.readAt_eq_ld, Memref.IsWhole.read_unread]
  simp (disch := decide) only [View.ld_unit_lit', View.canon_cons_unit_lit']
  pointwise [k0_pay6]

/-- A block of gates. -/
theorem body_D (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (hc0 : ¬cond0_0 i) (hc1 : ¬cond0_1 i) (hc2 : ¬cond0_2 i) (hc3 : cond0_3 i)
    (x0 : Vec Ideal S1024x4096 .bf16) (x1 : Vec Ideal S4096x1024 .bf16) (x2 x3 : Vec Ideal S1x128 .f32) (x4 x5 : Vec Ideal S1024x128 .f32) (r : Fin 1024) (j : Fin 1024) :
    out0_D_6 c i arg2 harg2 arg3 harg3 arg4 harg4 arg5 harg5 arg6 harg6 arg7 harg7 arg8 harg8 hc0 hc1 hc2 hc3 x0 x1 x2 x3 x4 x5 (ix2 r j) = Ideal.ofBits .f32 0x3F000000#32 * Ideal.tanh (Ideal.ofBits .f32 0x3F000000#32 * k0_pay1 x0 x1 (ix2 r j)) + Ideal.ofBits .f32 0x3F000000#32 := by
  unfold out0_D_6
  rw [View.read_writes_eq_canon _ _ _ (cover0_D_6 c i arg2 harg2 arg3 harg3 arg4 harg4 arg5 harg5 arg6 harg6 arg7 harg7 arg8 harg8 hc0 hc1 hc2 hc3 x0 x1 x2 x3 x4 x5)]
  unfold kernelRun0_D
  dsimp only
  sl_unfold_words
  simp only [View.readAt_eq_ld, Memref.IsWhole.read_unread]
  simp (disch := decide) only [View.ld_unit_lit', View.canon_cons_unit_lit']
  pointwise [k0_pay7]

end Cert.InprojIdeal.Call
end
-- ==== Proof.Calls.InprojHost.lean ====
/-
  What the host stages for the projection-in call: the weights with each head's pairs as halves, and the tables.
-/
module

public import proofs.«01_k».proof.Proof.Gen.InprojIdeal.Value
public import proofs.«01_k».proof.Proof.Calls.Rotary
public import Idealize.ShloMosaic.Lib.Pointwise
public import Idealize.ShloMosaic.Lib.StableHlo.ReadAt
public import Idealize.ShloMosaic.Lib.Pipeline.ValueKit

@[expose] public section

set_option maxRecDepth 16384

noncomputable section
namespace Cert.InprojIdeal.Call

open Cert.InprojIdeal Cert.InprojIdeal.Gen
open Idealize.ShloMosaic Idealize.ShloMosaic.TcCoe Idealize.ShloMosaic.Pipeline
open Cert.Rotary
variable (m : (ℓ : Loc nD τ sig) → Buf (Elt Ideal) ℓ) (c : Dev nD)

/-- The places that the de-interleaving reads. -/
def picks : IVec S128x1 32 :=
  broadcastInDim S128x1 ![0] bcast_S128_S128x1_0
    (select (constantI S128 1 0#1)
      (addi (fun i => lit0 (S128.rowMajor i)) (broadcastInDim S128 ![] bcast_S_S128 (constantI S_ 32 128#32)))
      fun i => lit0 (S128.rowMajor i))

theorem lit_at (j : Fin 128) : min (lit0 j).toInt.toNat 127 = (src j).val := by
  revert j; decide +kernel

theorem place (j : Fin 128) : S128.rowMajor (ix1 j) = j := by
  refine Fin.ext ?_
  revert j; decide +kernel

theorem picks_at (j : Fin 128) : min (picks (ix2 j 0)).toInt.toNat 127 = (src j).val := by
  have e : picks (ix2 j 0) = lit0 j := by
    pointwise [picks]
    exact congrArg lit0 (place j)
  rw [e, lit_at]

theorem gather_gain (x : FVec Ideal S128 .f32) (j : Fin 128) :
    Host.gather gather_S128_S128x1_S128_n_0_n_n_0_1_1 x picks (ix1 j) = x (ix1 (src j)) := by
  unfold Host.gather
  refine congrArg x (funext fun a => Fin.ext ?_)
  match a with
  | ⟨0, _⟩ =>
    refine Eq.trans ?_ (picks_at j)
    rfl

theorem gather_q (x : FVec Ideal S4096x32x128 .f32) (d : Fin 4096) (h : Fin 32) (j : Fin 128) :
    Host.gather gather_S4096x32x128_S128x1_S4096x32x128_01_2_n_n_2_1_4096321 x picks (ix3 d h j) = x (ix3 d h (src j)) := by
  unfold Host.gather
  refine congrArg x (funext fun a => Fin.ext ?_)
  match a with
  | ⟨0, _⟩ => exact (Nat.zero_add d.val : 0 + 0 + d.val = d.val)
  | ⟨1, _⟩ => exact (Nat.zero_add h.val : 0 + 0 + h.val = h.val)
  | ⟨2, _⟩ =>
    refine Eq.trans ?_ (picks_at j)
    rfl

theorem gather_k (x : FVec Ideal S4096x8x128 .f32) (d : Fin 4096) (h : Fin 8) (j : Fin 128) :
    Host.gather gather_S4096x8x128_S128x1_S4096x8x128_01_2_n_n_2_1_409681 x picks (ix3 d h j) = x (ix3 d h (src j)) := by
  unfold Host.gather
  refine congrArg x (funext fun a => Fin.ext ?_)
  match a with
  | ⟨0, _⟩ => exact (Nat.zero_add d.val : 0 + 0 + d.val = d.val)
  | ⟨1, _⟩ => exact (Nat.zero_add h.val : 0 + 0 + h.val = h.val)
  | ⟨2, _⟩ =>
    refine Eq.trans ?_ (picks_at j)
    rfl

abbrev argH : FVec Ideal S2x8192x4096 .f32 := m ((c.tc : Thread nD τ).loc main_arg0)
abbrev argW : FVec Ideal S4096x16384 .f32 := m ((c.tc : Thread nD τ).loc main_arg1)
abbrev argGq : FVec Ideal S128 .f32 := m ((c.tc : Thread nD τ).loc main_arg2)
abbrev argGk : FVec Ideal S128 .f32 := m ((c.tc : Thread nD τ).loc main_arg3)

theorem staged_h (r : Fin 16384) (j : Fin 4096) : (V m c main_v56 : FVec Ideal S16384x4096 .bf16) (ix2 r j) = argH m c (ix3 ⟨r.val / 8192, by omega⟩ ⟨r.val % 8192, by omega⟩ j) := by
  unfold V
  after_reads_at
theorem staged_gq (j : Fin 128) : (V m c main_v62 : FVec Ideal S1x128 .f32) (ix2 0 j) = argGq m c (ix1 (src j)) := by
  unfold V
  after_reads_at
  exact gather_gain _ j
theorem staged_gk (j : Fin 128) : (V m c main_v68 : FVec Ideal S1x128 .f32) (ix2 0 j) = argGk m c (ix1 (src j)) := by
  unfold V
  after_reads_at
  exact gather_gain _ j
theorem staged_wq (d : Fin 4096) (h : Fin 32) (k : Fin 128) (j : Fin 14336) (e : j.val = 128 * h.val + k.val) :
    (V m c main_v19 : FVec Ideal S4096x14336 .bf16) (ix2 d j) = argW m c (ix2 d ⟨128 * h.val + (src k).val, by omega⟩) := by
  unfold V
  after_reads_at
  rw [dif_pos (by omega)]
  after_reads_at
  refine (gather_q _ d _ _).trans ?_
  have e1 : (⟨j.val / 128, by omega⟩ : Fin 32) = h := Fin.ext (show j.val / 128 = h.val by omega)
  have e2 : (⟨j.val % 128, by omega⟩ : Fin 128) = k := Fin.ext (show j.val % 128 = k.val by omega)
  rw [e1, e2]
  exact congrArg (fun n => argW m c (ix2 d n)) (Fin.ext (show h.val * 128 + (src k).val = 128 * h.val + (src k).val by omega))
theorem staged_wk (d : Fin 4096) (h : Fin 8) (k : Fin 128) (j : Fin 14336) (e : j.val = 4096 + (128 * h.val + k.val)) :
    (V m c main_v19 : FVec Ideal S4096x14336 .bf16) (ix2 d j) = argW m c (ix2 d ⟨4096 + (128 * h.val + (src k).val), by omega⟩) := by
  unfold V
  after_reads_at
  rw [dif_neg (by omega), dif_pos (by omega)]
  after_reads_at
  refine (gather_k _ d _ _).trans ?_
  have e1 : (⟨(j.val - 4096) / 128, by omega⟩ : Fin 8) = h := Fin.ext (show (j.val - 4096) / 128 = h.val by omega)
  have e2 : (⟨(j.val - 4096) % 128, by omega⟩ : Fin 128) = k := Fin.ext (show (j.val - 4096) % 128 = k.val by omega)
  rw [e1, e2]
  exact congrArg (fun n => argW m c (ix2 d n)) (Fin.ext (show 4096 + (h.val * 128 + (src k).val) = 4096 + (128 * h.val + (src k).val) by omega))
theorem staged_wv (d : Fin 4096) (j : Fin 14336) (h : 5120 ≤ j.val) (h' : j.val < 6144) :
    (V m c main_v19 : FVec Ideal S4096x14336 .bf16) (ix2 d j) = argW m c (ix2 d ⟨j.val, by omega⟩) := by
  unfold V
  after_reads_at
  rw [dif_neg (by omega), dif_neg (by omega), dif_pos (by omega)]
  after_reads_at
  simp only [Nat.sub_sub, Nat.reduceAdd]
  exact congrArg (fun n => argW m c (ix2 d n)) (Fin.ext (show 5120 + (j.val - 5120) = j.val by omega))
theorem staged_wg (d : Fin 4096) (j : Fin 14336) (h : 6144 ≤ j.val) :
    (V m c main_v19 : FVec Ideal S4096x14336 .bf16) (ix2 d j) = argW m c (ix2 d ⟨j.val + 2048, by omega⟩) := by
  unfold V
  after_reads_at
  rw [dif_neg (by omega), dif_neg (by omega), dif_neg (by omega)]
  try rw [dif_pos (by omega)]
  after_reads_at
  simp only [Nat.sub_sub, Nat.reduceAdd]
  exact congrArg (fun n => argW m c (ix2 d n)) (Fin.ext (show 8192 + (j.val - 6144) = j.val + 2048 by omega))
theorem staged_cc (i : Fin 8192) (j : Fin 128) : (V m c main_v52 : FVec Ideal S8192x128 .f32) (ix2 i j) = Ideal.cos (angle i (low j)) := by
  unfold V
  after_reads_at
  by_cases h : j.val < 64
  · have e : low j = ⟨j.val, by omega⟩ := Fin.ext (show j.val % 64 = j.val by omega)
    rw [dif_pos h, e]
    refine congrArg Ideal.cos ?_
    unfold angle freq
    by_cases h2 : j.val < 32
    · rw [dif_pos h2]
      refine Eq.trans ?_ (if_pos h2).symm
      after_reads_at
    · rw [dif_neg h2]
      refine Eq.trans ?_ (if_neg h2).symm
      after_reads_at
  · have e : low j = ⟨j.val - 64, by omega⟩ := Fin.ext (show j.val % 64 = j.val - 64 by omega)
    rw [dif_neg h, e]
    refine congrArg Ideal.cos ?_
    unfold angle freq
    by_cases h2 : j.val - 64 < 32
    · rw [dif_pos h2]
      refine Eq.trans ?_ (if_pos h2).symm
      after_reads_at
    · rw [dif_neg h2]
      refine Eq.trans ?_ (if_neg h2).symm
      after_reads_at
theorem staged_ss (i : Fin 8192) (j : Fin 128) : (V m c main_v54 : FVec Ideal S8192x128 .f32) (ix2 i j) = if j.val < 64 then -Ideal.sin (angle i (low j)) else Ideal.sin (angle i (low j)) := by
  unfold V
  after_reads_at
  by_cases h : j.val < 64
  · have e : low j = ⟨j.val, by omega⟩ := Fin.ext (show j.val % 64 = j.val by omega)
    rw [dif_pos h, e]
    refine Eq.trans ?_ (if_pos h).symm
    refine congrArg (fun x => -Ideal.sin x) ?_
    unfold angle freq
    by_cases h2 : j.val < 32
    · rw [dif_pos h2]
      refine Eq.trans ?_ (if_pos h2).symm
      after_reads_at
    · rw [dif_neg h2]
      refine Eq.trans ?_ (if_neg h2).symm
      after_reads_at
  · have e : low j = ⟨j.val - 64, by omega⟩ := Fin.ext (show j.val % 64 = j.val - 64 by omega)
    rw [dif_neg h, e]
    refine Eq.trans ?_ (if_neg h).symm
    refine congrArg Ideal.sin ?_
    unfold angle freq
    by_cases h2 : j.val - 64 < 32
    · rw [dif_pos h2]
      refine Eq.trans ?_ (if_pos h2).symm
      after_reads_at
    · rw [dif_neg h2]
      refine Eq.trans ?_ (if_neg h2).symm
      after_reads_at
end Cert.InprojIdeal.Call
end
-- ==== Proof.Calls.Inproj.lean ====
/-
  What the projection-in call computes: the projected input, its query and key heads normed and rotated, its gates taken.
-/
module

public import proofs.«01_k».proof.Proof.Gen.InprojIdeal.Value
public import proofs.«01_k».proof.Proof.Calls.InprojRef
public import proofs.«01_k».proof.Proof.Calls.InprojBody
public import proofs.«01_k».proof.Proof.Calls.InprojHost
public import Idealize.ShloMosaic.Lib.Pointwise
public import Idealize.ShloMosaic.Lib.StableHlo.ReadAt
public import Idealize.ShloMosaic.Lib.Pipeline.ValueKit

@[expose] public section

set_option maxRecDepth 16384

noncomputable section

namespace Cert.InprojIdeal.Call

open Cert.InprojIdeal Cert.InprojIdeal.Gen
open Idealize.ShloMosaic Idealize.ShloMosaic.TcCoe Idealize.ShloMosaic.Pipeline
open Cert.Rotary

variable (m : (ℓ : Loc nD τ sig) → Buf (Elt Ideal) ℓ) (c : Dev nD)

theorem point_lt (t : Fin cfg0.N) : t.val < 224 := t.isLt
theorem index0 (t : Fin cfg0.N) : (cfg0.win 0).index t = ![t.val / 14, 0] := by
  revert t; decide +kernel
theorem index1 (t : Fin cfg0.N) : (cfg0.win 1).index t = ![0, t.val % 14] := by
  revert t; decide +kernel
theorem index2 (t : Fin cfg0.N) : (cfg0.win 2).index t = ![0, 0] := by
  revert t; decide +kernel
theorem index3 (t : Fin cfg0.N) : (cfg0.win 3).index t = ![0, 0] := by
  revert t; decide +kernel
theorem index4 (t : Fin cfg0.N) : (cfg0.win 4).index t = ![t.val / 14 % 8, 0] := by
  revert t; decide +kernel
theorem index5 (t : Fin cfg0.N) : (cfg0.win 5).index t = ![t.val / 14 % 8, 0] := by
  revert t; decide +kernel
theorem index6 (t : Fin cfg0.N) : (cfg0.win 6).index t = ![t.val / 14, t.val % 14] := by
  revert t; decide +kernel
theorem out_covered : (cfg0.win 6).Covers := by decide +kernel

theorem block0_emb (t : Fin cfg0.N) (r : Fin 1024) (j : Fin 4096) :
    ((cfg0.win 0).blk t).view.emb (ix2 r j) = (ix2 ⟨t.val / 14 * 1024 + r.val, by have := point_lt t; omega⟩ j : (S16384x4096).Idx) := by
  have h := point_lt t
  funext a
  apply Fin.ext
  match a with
  | ⟨0, _⟩ => blk_simp; rw [show win0_0.index t = _ from index0 t]; first | rfl | simp
  | ⟨1, _⟩ => blk_simp; rw [show win0_0.index t = _ from index0 t]; first | rfl | simp

theorem block1_emb (t : Fin cfg0.N) (d : Fin 4096) (j : Fin 1024) :
    ((cfg0.win 1).blk t).view.emb (ix2 d j) = (ix2 d ⟨t.val % 14 * 1024 + j.val, by have := point_lt t; omega⟩ : (S4096x14336).Idx) := by
  have h := point_lt t
  funext a
  apply Fin.ext
  match a with
  | ⟨0, _⟩ => blk_simp; rw [show win0_1.index t = _ from index1 t]; first | rfl | simp
  | ⟨1, _⟩ => blk_simp; rw [show win0_1.index t = _ from index1 t]; first | rfl | simp

theorem block2_emb (t : Fin cfg0.N) (k : Fin 128) :
    ((cfg0.win 2).blk t).view.emb ((ix2 0 k : S1x128.Idx)) = (ix2 0 k : (S1x128).Idx) := by
  have h := point_lt t
  funext a
  apply Fin.ext
  match a with
  | ⟨0, _⟩ => blk_simp; rw [show win0_2.index t = _ from index2 t]; first | rfl | simp
  | ⟨1, _⟩ => blk_simp; rw [show win0_2.index t = _ from index2 t]; first | rfl | simp

theorem block3_emb (t : Fin cfg0.N) (k : Fin 128) :
    ((cfg0.win 3).blk t).view.emb ((ix2 0 k : S1x128.Idx)) = (ix2 0 k : (S1x128).Idx) := by
  have h := point_lt t
  funext a
  apply Fin.ext
  match a with
  | ⟨0, _⟩ => blk_simp; rw [show win0_3.index t = _ from index3 t]; first | rfl | simp
  | ⟨1, _⟩ => blk_simp; rw [show win0_3.index t = _ from index3 t]; first | rfl | simp

theorem block4_emb (t : Fin cfg0.N) (r : Fin 1024) (k : Fin 128) :
    ((cfg0.win 4).blk t).view.emb (ix2 r k) = (ix2 ⟨t.val / 14 % 8 * 1024 + r.val, by have := point_lt t; omega⟩ k : (S8192x128).Idx) := by
  have h := point_lt t
  funext a
  apply Fin.ext
  match a with
  | ⟨0, _⟩ => blk_simp; rw [show win0_4.index t = _ from index4 t]; first | rfl | simp
  | ⟨1, _⟩ => blk_simp; rw [show win0_4.index t = _ from index4 t]; first | rfl | simp

theorem block5_emb (t : Fin cfg0.N) (r : Fin 1024) (k : Fin 128) :
    ((cfg0.win 5).blk t).view.emb (ix2 r k) = (ix2 ⟨t.val / 14 % 8 * 1024 + r.val, by have := point_lt t; omega⟩ k : (S8192x128).Idx) := by
  have h := point_lt t
  funext a
  apply Fin.ext
  match a with
  | ⟨0, _⟩ => blk_simp; rw [show win0_5.index t = _ from index5 t]; first | rfl | simp
  | ⟨1, _⟩ => blk_simp; rw [show win0_5.index t = _ from index5 t]; first | rfl | simp

theorem block6_emb (t : Fin cfg0.N) (r : Fin 1024) (j : Fin 1024) :
    ((cfg0.win 6).blk t).view.emb (ix2 r j) = (ix2 ⟨t.val / 14 * 1024 + r.val, by have := point_lt t; omega⟩ ⟨t.val % 14 * 1024 + j.val, by have := point_lt t; omega⟩ : (S16384x14336).Idx) := by
  have h := point_lt t
  funext a
  apply Fin.ext
  match a with
  | ⟨0, _⟩ => blk_simp; rw [show win0_6.index t = _ from index6 t]; first | rfl | simp
  | ⟨1, _⟩ => blk_simp; rw [show win0_6.index t = _ from index6 t]; first | rfl | simp

/-- The row of the input that row `r` of point `t`'s block is, its batch and its place there. -/
def batch (t : Fin cfg0.N) (r : Fin 1024) : Fin 2 := ⟨(t.val / 14 * 1024 + r.val) / 8192, by have := point_lt t; omega⟩
def pos (t : Fin cfg0.N) (r : Fin 1024) : Fin 8192 := ⟨(t.val / 14 * 1024 + r.val) % 8192, Nat.mod_lt _ (by decide)⟩

theorem block_h (t : Fin cfg0.N) (r : Fin 1024) (j : Fin 4096) : iblk m c 0 t (ix2 r j) = argH m c (ix3 (batch t r) (pos t r) j) :=
  (congrArg (V m c main_v56) (block0_emb t r j)).trans (staged_h m c _ _)
theorem block_w (t : Fin cfg0.N) (d : Fin 4096) (j : Fin 1024) : iblk m c 1 t (ix2 d j) = (V m c main_v19 : FVec Ideal S4096x14336 .bf16) (ix2 d ⟨t.val % 14 * 1024 + j.val, by omega⟩) :=
  congrArg (V m c main_v19) (block1_emb t d j)
theorem block_gq (t : Fin cfg0.N) (k : Fin 128) : iblk m c 2 t (ix2 0 k : S1x128.Idx) = argGq m c (ix1 (src k)) :=
  (congrArg (V m c main_v62) (block2_emb t k)).trans (staged_gq m c k)
theorem block_gk (t : Fin cfg0.N) (k : Fin 128) : iblk m c 3 t (ix2 0 k : S1x128.Idx) = argGk m c (ix1 (src k)) :=
  (congrArg (V m c main_v68) (block3_emb t k)).trans (staged_gk m c k)
theorem place_eq (t : Fin cfg0.N) (r : Fin 1024) : (⟨t.val / 14 % 8 * 1024 + r.val, by omega⟩ : Fin 8192) = pos t r :=
  Fin.ext (show t.val / 14 % 8 * 1024 + r.val = (t.val / 14 * 1024 + r.val) % 8192 by omega)
theorem block_cc (t : Fin cfg0.N) (r : Fin 1024) (k : Fin 128) : iblk m c 4 t (ix2 r k) = Ideal.cos (angle (pos t r) (low k)) :=
  ((congrArg (V m c main_v52) (block4_emb t r k)).trans (staged_cc m c _ k)).trans (by rw [place_eq])
theorem block_ss (t : Fin cfg0.N) (r : Fin 1024) (k : Fin 128) :
    iblk m c 5 t (ix2 r k) = if k.val < 64 then -Ideal.sin (angle (pos t r) (low k)) else Ideal.sin (angle (pos t r) (low k)) :=
  ((congrArg (V m c main_v54) (block5_emb t r k)).trans (staged_ss m c _ k)).trans (by rw [place_eq])

/-- Column `n` of the projection at row `r` of point `t`'s block. -/
def proj (t : Fin cfg0.N) (r : Fin 1024) (n : Fin 16384) : EReal := ∑ d : Fin 4096, argH m c (ix3 (batch t r) (pos t r) d) * argW m c (ix2 d n)

/-- A block's product is the projection at the column that the weights' staging put there. -/
theorem acc_proj (t : Fin cfg0.N) (r : Fin 1024) (j : Fin 1024) (n : Fin 16384)
    (e : ∀ d : Fin 4096, (V m c main_v19 : FVec Ideal S4096x14336 .bf16) (ix2 d ⟨t.val % 14 * 1024 + j.val, by omega⟩) = argW m c (ix2 d n)) :
    k0_pay1 (F := Ideal) (iblk m c 0 t) (iblk m c 1 t) (ix2 r j) = proj m c t r n := by
  refine (acc_at _ _ r j).trans ?_
  unfold proj
  exact Finset.sum_congr rfl fun d _ => by rw [block_h, block_w, e]

/-- The reference's result of the arguments that the program is given. -/
def wanted : FVec Ideal S16384x14336 .bf16 :=
  Cert.InprojRefIdeal.Call.answer (argH m c) (argW m c) (argGq m c) (argGk m c)

set_option maxHeartbeats 1000000 in
/-- Where a point writes queries, its block is the reference's. -/
theorem queries_block (t : Fin cfg0.N) (h : t.val % 14 ≤ 3) (r : Fin 1024) (j : Fin 1024) :
    heads (k0_pay1 (iblk m c 0 t) (iblk m c 1 t)) (iblk m c 2 t) (iblk m c 4 t) (iblk m c 5 t) r j
      = wanted m c (ix2 ⟨t.val / 14 * 1024 + r.val, by have := point_lt t; omega⟩ ⟨t.val % 14 * 1024 + j.val, by have := point_lt t; omega⟩) := by
  have ht := point_lt t
  refine (heads_of _ _ _ _ r ⟨j.val / 128, by omega⟩ ⟨j.val % 128, by omega⟩ rfl (show j.val = 128 * (j.val / 128) + j.val % 128 by omega)).trans ?_
  have e1 : head (k0_pay1 (F := Ideal) (iblk m c 0 t) (iblk m c 1 t)) r ⟨j.val / 128, by omega⟩
      = fun k => (fun e : Fin 128 => proj m c t r ⟨(t.val % 14 * 8 + j.val / 128) * 128 + e.val, by omega⟩) (src k) := by
    funext k
    unfold head
    refine acc_proj m c t r _ _ fun d => ?_
    refine (staged_wq m c d ⟨t.val % 14 * 8 + j.val / 128, by omega⟩ k _ (show t.val % 14 * 1024 + (128 * (j.val / 128) + k.val) = 128 * (t.val % 14 * 8 + j.val / 128) + k.val by omega)).trans ?_
    exact congrArg (fun n => argW m c (ix2 d n)) (Fin.ext (show 128 * (t.val % 14 * 8 + j.val / 128) + (src k).val = (t.val % 14 * 8 + j.val / 128) * 128 + (src k).val by omega))
  have e2 : (fun k : Fin 128 => iblk m c 2 t (ix2 0 k : S1x128.Idx)) = fun k => (fun e : Fin 128 => argGq m c (ix1 e)) (src k) :=
    funext fun k => block_gq m c t k
  rw [e1]
  refine (congrArg (fun g => rot _ g _ _ _) e2).trans ?_
  refine (rot_eq_turn (fun e : Fin 128 => proj m c t r ⟨(t.val % 14 * 8 + j.val / 128) * 128 + e.val, by omega⟩) (fun e : Fin 128 => argGq m c (ix1 e))
    (fun k : Fin 128 => iblk m c 4 t (ix2 r k)) (fun k : Fin 128 => iblk m c 5 t (ix2 r k)) (fun e => Ideal.cos (angle (pos t r) e)) (fun e => Ideal.sin (angle (pos t r) e))
    ⟨j.val % 128, by omega⟩ (block_cc m c t r ⟨j.val % 128, by omega⟩) (block_ss m c t r ⟨j.val % 128, by omega⟩)).trans ?_
  refine (Cert.InprojRefIdeal.Call.answer_queries (argH m c) (argW m c) (argGq m c) (argGk m c) ⟨t.val / 14 * 1024 + r.val, by omega⟩ ⟨t.val % 14 * 8 + j.val / 128, by omega⟩ ⟨j.val % 128, by omega⟩).symm.trans ?_
  exact congrArg (fun n => wanted m c (ix2 _ n)) (Fin.ext (show (t.val % 14 * 8 + j.val / 128) * 128 + j.val % 128 = t.val % 14 * 1024 + j.val by omega))

set_option maxHeartbeats 1000000 in
/-- Where a point writes keys, its block is the reference's. -/
theorem keys_block (t : Fin cfg0.N) (h : t.val % 14 = 4) (r : Fin 1024) (j : Fin 1024) :
    heads (k0_pay1 (iblk m c 0 t) (iblk m c 1 t)) (iblk m c 3 t) (iblk m c 4 t) (iblk m c 5 t) r j
      = wanted m c (ix2 ⟨t.val / 14 * 1024 + r.val, by have := point_lt t; omega⟩ ⟨t.val % 14 * 1024 + j.val, by have := point_lt t; omega⟩) := by
  have ht := point_lt t
  refine (heads_of _ _ _ _ r ⟨j.val / 128, by omega⟩ ⟨j.val % 128, by omega⟩ rfl (show j.val = 128 * (j.val / 128) + j.val % 128 by omega)).trans ?_
  have e1 : head (k0_pay1 (F := Ideal) (iblk m c 0 t) (iblk m c 1 t)) r ⟨j.val / 128, by omega⟩
      = fun k => (fun e : Fin 128 => proj m c t r ⟨4096 + ((j.val / 128) * 128 + e.val), by omega⟩) (src k) := by
    funext k
    unfold head
    refine acc_proj m c t r _ _ fun d => ?_
    refine (staged_wk m c d ⟨j.val / 128, by omega⟩ k _ (show t.val % 14 * 1024 + (128 * (j.val / 128) + k.val) = 4096 + (128 * (j.val / 128) + k.val) by omega)).trans ?_
    exact congrArg (fun n => argW m c (ix2 d n)) (Fin.ext (show 4096 + (128 * (j.val / 128) + (src k).val) = 4096 + ((j.val / 128) * 128 + (src k).val) by omega))
  have e2 : (fun k : Fin 128 => iblk m c 3 t (ix2 0 k : S1x128.Idx)) = fun k => (fun e : Fin 128 => argGk m c (ix1 e)) (src k) :=
    funext fun k => block_gk m c t k
  rw [e1]
  refine (congrArg (fun g => rot _ g _ _ _) e2).trans ?_
  refine (rot_eq_turn (fun e : Fin 128 => proj m c t r ⟨4096 + ((j.val / 128) * 128 + e.val), by omega⟩) (fun e : Fin 128 => argGk m c (ix1 e))
    (fun k : Fin 128 => iblk m c 4 t (ix2 r k)) (fun k : Fin 128 => iblk m c 5 t (ix2 r k)) (fun e => Ideal.cos (angle (pos t r) e)) (fun e => Ideal.sin (angle (pos t r) e))
    ⟨j.val % 128, by omega⟩ (block_cc m c t r ⟨j.val % 128, by omega⟩) (block_ss m c t r ⟨j.val % 128, by omega⟩)).trans ?_
  refine (Cert.InprojRefIdeal.Call.answer_keys (argH m c) (argW m c) (argGq m c) (argGk m c) ⟨t.val / 14 * 1024 + r.val, by omega⟩ ⟨j.val / 128, by omega⟩ ⟨j.val % 128, by omega⟩).symm.trans ?_
  exact congrArg (fun n => wanted m c (ix2 _ n)) (Fin.ext (show 4096 + ((j.val / 128) * 128 + j.val % 128) = t.val % 14 * 1024 + j.val by omega))

/-- Where a point writes values, its block is the reference's. -/
theorem values_block (t : Fin cfg0.N) (h : t.val % 14 = 5) (r : Fin 1024) (j : Fin 1024) :
    k0_pay1 (F := Ideal) (iblk m c 0 t) (iblk m c 1 t) (ix2 r j) = wanted m c (ix2 ⟨t.val / 14 * 1024 + r.val, by have := point_lt t; omega⟩ ⟨t.val % 14 * 1024 + j.val, by have := point_lt t; omega⟩) := by
  have ht := point_lt t
  refine (acc_proj m c t r j ⟨5120 + j.val, by omega⟩ fun d => (staged_wv m c d _ (show 5120 ≤ t.val % 14 * 1024 + j.val by omega) (show t.val % 14 * 1024 + j.val < 6144 by omega)).trans
    (congrArg (fun n => argW m c (ix2 d n)) (Fin.ext (show t.val % 14 * 1024 + j.val = 5120 + j.val by omega)))).trans ?_
  refine (Cert.InprojRefIdeal.Call.answer_values (argH m c) (argW m c) (argGq m c) (argGk m c) ⟨t.val / 14 * 1024 + r.val, by omega⟩ j).symm.trans ?_
  exact congrArg (fun n => wanted m c (ix2 _ n)) (Fin.ext (show 5120 + j.val = t.val % 14 * 1024 + j.val by omega))

/-- Where a point writes gates, its block is the reference's. -/
theorem gates_block (t : Fin cfg0.N) (h : 6 ≤ t.val % 14) (r : Fin 1024) (j : Fin 1024) :
    Ideal.ofBits .f32 0x3F000000#32 * Ideal.tanh (Ideal.ofBits .f32 0x3F000000#32 * k0_pay1 (F := Ideal) (iblk m c 0 t) (iblk m c 1 t) (ix2 r j)) + Ideal.ofBits .f32 0x3F000000#32
      = wanted m c (ix2 ⟨t.val / 14 * 1024 + r.val, by have := point_lt t; omega⟩ ⟨t.val % 14 * 1024 + j.val, by have := point_lt t; omega⟩) := by
  have ht := point_lt t
  rw [acc_proj m c t r j ⟨8192 + (t.val % 14 * 1024 + j.val - 6144), by omega⟩ fun d => (staged_wg m c d _ (show 6144 ≤ t.val % 14 * 1024 + j.val by omega)).trans
    (congrArg (fun n => argW m c (ix2 d n)) (Fin.ext (show t.val % 14 * 1024 + j.val + 2048 = 8192 + (t.val % 14 * 1024 + j.val - 6144) by omega))), gate_eq]
  refine (Cert.InprojRefIdeal.Call.answer_gates (argH m c) (argW m c) (argGq m c) (argGk m c) ⟨t.val / 14 * 1024 + r.val, by omega⟩ ⟨t.val % 14 * 1024 + j.val - 6144, by omega⟩).symm.trans ?_
  exact congrArg (fun n => wanted m c (ix2 _ n)) (Fin.ext (show 6144 + (t.val % 14 * 1024 + j.val - 6144) = t.val % 14 * 1024 + j.val by omega))

/-- The launch's output array is the reference's result. -/
theorem final : (dats m 0 c).arrAt 6 cfg0.N = wanted m c := by
  refine (dats m 0 c).arrAt_eq_of_covers 6 _ out_covered fun t hf y => ?_
  blk_simp
  rw [after0_6]
  obtain ⟨r, j, rfl⟩ : ∃ (r : Fin 1024) (j : Fin 1024), y = ix2 r j := ⟨y 0, y 1, eq_ix2 y⟩
  refine Eq.trans ?_ (congrArg (wanted m c) (block6_emb t r j)).symm
  by_cases h0 : t.val % 14 ≤ 3
  · rw [outsAt0_A m c t h0 (by omega) (by omega) (by omega)]
    exact (body_A _ _ _ _ _ _ _ _ _ _ _ _ _ _ _ _ _ _ _ _ _ _ _ _ _ _ r j).trans (queries_block m c t h0 r j)
  by_cases h1 : t.val % 14 = 4
  · rw [outsAt0_B m c t h0 h1 (by omega) (by omega)]
    exact (body_B _ _ _ _ _ _ _ _ _ _ _ _ _ _ _ _ _ _ _ _ _ _ _ _ _ _ r j).trans (keys_block m c t h1 r j)
  by_cases h2 : t.val % 14 = 5
  · rw [outsAt0_C m c t h0 h1 h2 (by omega)]
    exact (body_C _ _ _ _ _ _ _ _ _ _ _ _ _ _ _ _ _ _ _ _ _ _ _ _ _ _ r j).trans (values_block m c t h2 r j)
  have h3 : 6 ≤ t.val % 14 := by omega
  rw [outsAt0_D m c t h0 h1 h2 h3]
  exact (body_D _ _ _ _ _ _ _ _ _ _ _ _ _ _ _ _ _ _ _ _ _ _ _ _ _ _ r j).trans (gates_block m c t h3 r j)

end Cert.InprojIdeal.Call

end
-- ==== Proof.Calls.Merge.lean ====
/-
  What the merge call computes: the gated sum of the two branches, entry by entry.
-/
module

public import proofs.«01_k».proof.Proof.Gen.MergeIdeal.Value
public import proofs.«01_k».proof.Proof.Gen.MergeRefIdeal
public import Idealize.ShloMosaic.Lib.Pointwise
public import Idealize.ShloMosaic.Lib.StableHlo.ReadAt
public import Idealize.ShloMosaic.Lib.Pipeline.ValueKit

@[expose] public section

set_option maxRecDepth 16384

noncomputable section

namespace Cert.MergeRefIdeal.Call

open Cert.MergeRefIdeal Cert.MergeRefIdeal.Gen
open Idealize.ShloMosaic

/-- The reference's result of its arguments. -/
def answer (att : FVec Ideal S16384x4096 .f32) (four : FVec Ideal S16384x2048 .f32) (wa : FVec Ideal S4096x4096 .f32) (wf : FVec Ideal S2048x4096 .f32) (ga gf : FVec Ideal S16384x4096 .f32) : FVec Ideal S16384x4096 .bf16 :=
  truncf .bf16 (addf (mulf ga (Host.dotGeneral (φ₁ := .f32) dot_S16384x4096_S4096x4096_S16384x4096_1_0_0_1_n_n none att wa))
    (mulf gf (Host.dotGeneral (φ₁ := .f32) dot_S16384x2048_S2048x4096_S16384x4096_1_0_0_1_n_n none four wf))) bitsLt_bf16_f32

theorem answer_at (att : FVec Ideal S16384x4096 .f32) (four : FVec Ideal S16384x2048 .f32) (wa : FVec Ideal S4096x4096 .f32) (wf : FVec Ideal S2048x4096 .f32) (ga gf : FVec Ideal S16384x4096 .f32)
    (r : Fin 16384) (j : Fin 4096) :
    answer att four wa wf ga gf (ix2 r j) = ga (ix2 r j) * (∑ k : Fin 4096, att (ix2 r k) * wa (ix2 k j)) + gf (ix2 r j) * (∑ k : Fin 2048, four (ix2 r k) * wf (ix2 k j)) := by
  pointwise [answer]

end Cert.MergeRefIdeal.Call

namespace Cert.MergeIdeal.Call

open Cert.MergeIdeal Cert.MergeIdeal.Gen
open Idealize.ShloMosaic Idealize.ShloMosaic.TcCoe Idealize.ShloMosaic.Pipeline

variable (m : (ℓ : Loc nD τ sig) → Buf (Elt Ideal) ℓ) (c : Dev nD)

abbrev argAtt : FVec Ideal S16384x4096 .f32 := m ((c.tc : Thread nD τ).loc main_arg0)
abbrev argFour : FVec Ideal S16384x2048 .f32 := m ((c.tc : Thread nD τ).loc main_arg1)
abbrev argWa : FVec Ideal S4096x4096 .f32 := m ((c.tc : Thread nD τ).loc main_arg2)
abbrev argWf : FVec Ideal S2048x4096 .f32 := m ((c.tc : Thread nD τ).loc main_arg3)
abbrev argPacked : FVec Ideal S16384x6144 .f32 := m ((c.tc : Thread nD τ).loc main_arg4)
abbrev argGa : FVec Ideal S16384x4096 .f32 := m ((c.tc : Thread nD τ).loc main_arg5)
abbrev argGf : FVec Ideal S16384x4096 .f32 := m ((c.tc : Thread nD τ).loc main_arg6)

/-- The body's block of its six blocks, entry by entry. -/
theorem body_at (x0 : Vec Ideal S1024x4096 .bf16) (x1 : Vec Ideal S1024x2048 .bf16) (x2 : Vec Ideal S4096x512 .bf16) (x3 : Vec Ideal S2048x512 .bf16) (x4 x5 : Vec Ideal S1024x512 .bf16)
    (r : Fin 1024) (j : Fin 512) :
    out0_6 x0 x1 x2 x3 x4 x5 (ix2 r j) = x4 (ix2 r j) * (∑ k : Fin 4096, x0 (ix2 r k) * x2 (ix2 k j)) + x5 (ix2 r j) * (∑ k : Fin 2048, x1 (ix2 r k) * x3 (ix2 k j)) := by
  unfold out0_6
  simp (disch := decide) only [View.canon_cons_unit_lit', View.ld_unit_lit']
  pointwise [k0_pay1]

/-- The launch's blocks read arrays that hold the arguments. -/
theorem staged_att (r : Fin 16384) (j : Fin 4096) : (V m c main_v2 : FVec Ideal S16384x4096 .bf16) (ix2 r j) = argAtt m c (ix2 r j) := by
  unfold V
  after_reads_at
theorem staged_four (r : Fin 16384) (j : Fin 2048) : (V m c main_v3 : FVec Ideal S16384x2048 .bf16) (ix2 r j) = argFour m c (ix2 r j) := by
  unfold V
  after_reads_at
theorem staged_wa (r : Fin 4096) (j : Fin 4096) : (V m c main_v4 : FVec Ideal S4096x4096 .bf16) (ix2 r j) = argWa m c (ix2 r j) := by
  unfold V
  after_reads_at
theorem staged_wf (r : Fin 2048) (j : Fin 4096) : (V m c main_v5 : FVec Ideal S2048x4096 .bf16) (ix2 r j) = argWf m c (ix2 r j) := by
  unfold V
  after_reads_at
theorem staged_ga (r : Fin 16384) (j : Fin 14336) (h : 6144 ≤ j.val) (h' : j.val < 10240) :
    (V m c main_v1 : FVec Ideal S16384x14336 .bf16) (ix2 r j) = argGa m c (ix2 r ⟨j.val - 6144, by omega⟩) := by
  unfold V
  after_reads_at
  rw [dif_neg (by omega), dif_pos (by omega)]
  after_reads_at
theorem staged_gf (r : Fin 16384) (j : Fin 14336) (h : 10240 ≤ j.val) :
    (V m c main_v1 : FVec Ideal S16384x14336 .bf16) (ix2 r j) = argGf m c (ix2 r ⟨j.val - 10240, by omega⟩) := by
  unfold V
  after_reads_at
  rw [dif_neg (by omega), dif_neg (by omega)]
  try rw [dif_pos (by omega)]
  after_reads_at
  simp only [Nat.sub_sub, Nat.reduceAdd]

theorem point_lt (t : Fin cfg0.N) : t.val < 128 := t.isLt
theorem index0 (t : Fin cfg0.N) : (cfg0.win 0).index t = ![t.val / 8, 0] := by
  revert t; decide +kernel
theorem index1 (t : Fin cfg0.N) : (cfg0.win 1).index t = ![t.val / 8, 0] := by
  revert t; decide +kernel
theorem index2 (t : Fin cfg0.N) : (cfg0.win 2).index t = ![0, t.val % 8] := by
  revert t; decide +kernel
theorem index3 (t : Fin cfg0.N) : (cfg0.win 3).index t = ![0, t.val % 8] := by
  revert t; decide +kernel
theorem index4 (t : Fin cfg0.N) : (cfg0.win 4).index t = ![t.val / 8, 12 + t.val % 8] := by
  revert t; decide +kernel
theorem index5 (t : Fin cfg0.N) : (cfg0.win 5).index t = ![t.val / 8, 20 + t.val % 8] := by
  revert t; decide +kernel
theorem index6 (t : Fin cfg0.N) : (cfg0.win 6).index t = ![t.val / 8, t.val % 8] := by
  revert t; decide +kernel
theorem out_covered : (cfg0.win 6).Covers := by decide +kernel

theorem block0_emb (t : Fin cfg0.N) (r : Fin 1024) (j : Fin 4096) :
    ((cfg0.win 0).blk t).view.emb (ix2 r j) = (ix2 ⟨t.val / 8 * 1024 + r.val, by have := point_lt t; omega⟩ j : (S16384x4096).Idx) := by
  have h := point_lt t
  funext a
  apply Fin.ext
  match a with
  | ⟨0, _⟩ => blk_simp; rw [show win0_0.index t = _ from index0 t]; first | rfl | simp
  | ⟨1, _⟩ => blk_simp; rw [show win0_0.index t = _ from index0 t]; first | rfl | simp

theorem block1_emb (t : Fin cfg0.N) (r : Fin 1024) (j : Fin 2048) :
    ((cfg0.win 1).blk t).view.emb (ix2 r j) = (ix2 ⟨t.val / 8 * 1024 + r.val, by have := point_lt t; omega⟩ j : (S16384x2048).Idx) := by
  have h := point_lt t
  funext a
  apply Fin.ext
  match a with
  | ⟨0, _⟩ => blk_simp; rw [show win0_1.index t = _ from index1 t]; first | rfl | simp
  | ⟨1, _⟩ => blk_simp; rw [show win0_1.index t = _ from index1 t]; first | rfl | simp

theorem block2_emb (t : Fin cfg0.N) (r : Fin 4096) (j : Fin 512) :
    ((cfg0.win 2).blk t).view.emb (ix2 r j) = (ix2 r ⟨t.val % 8 * 512 + j.val, by have := point_lt t; omega⟩ : (S4096x4096).Idx) := by
  have h := point_lt t
  funext a
  apply Fin.ext
  match a with
  | ⟨0, _⟩ => blk_simp; rw [show win0_2.index t = _ from index2 t]; first | rfl | simp
  | ⟨1, _⟩ => blk_simp; rw [show win0_2.index t = _ from index2 t]; first | rfl | simp

theorem block3_emb (t : Fin cfg0.N) (r : Fin 2048) (j : Fin 512) :
    ((cfg0.win 3).blk t).view.emb (ix2 r j) = (ix2 r ⟨t.val % 8 * 512 + j.val, by have := point_lt t; omega⟩ : (S2048x4096).Idx) := by
  have h := point_lt t
  funext a
  apply Fin.ext
  match a with
  | ⟨0, _⟩ => blk_simp; rw [show win0_3.index t = _ from index3 t]; first | rfl | simp
  | ⟨1, _⟩ => blk_simp; rw [show win0_3.index t = _ from index3 t]; first | rfl | simp

theorem block4_emb (t : Fin cfg0.N) (r : Fin 1024) (j : Fin 512) :
    ((cfg0.win 4).blk t).view.emb (ix2 r j) = (ix2 ⟨t.val / 8 * 1024 + r.val, by have := point_lt t; omega⟩ ⟨(12 + t.val % 8) * 512 + j.val, by have := point_lt t; omega⟩ : (S16384x14336).Idx) := by
  have h := point_lt t
  funext a
  apply Fin.ext
  match a with
  | ⟨0, _⟩ => blk_simp; rw [show win0_4.index t = _ from index4 t]; first | rfl | simp
  | ⟨1, _⟩ => blk_simp; rw [show win0_4.index t = _ from index4 t]; first | rfl | simp

theorem block5_emb (t : Fin cfg0.N) (r : Fin 1024) (j : Fin 512) :
    ((cfg0.win 5).blk t).view.emb (ix2 r j) = (ix2 ⟨t.val / 8 * 1024 + r.val, by have := point_lt t; omega⟩ ⟨(20 + t.val % 8) * 512 + j.val, by have := point_lt t; omega⟩ : (S16384x14336).Idx) := by
  have h := point_lt t
  funext a
  apply Fin.ext
  match a with
  | ⟨0, _⟩ => blk_simp; rw [show win0_5.index t = _ from index5 t]; first | rfl | simp
  | ⟨1, _⟩ => blk_simp; rw [show win0_5.index t = _ from index5 t]; first | rfl | simp

theorem block6_emb (t : Fin cfg0.N) (r : Fin 1024) (j : Fin 512) :
    ((cfg0.win 6).blk t).view.emb (ix2 r j) = (ix2 ⟨t.val / 8 * 1024 + r.val, by have := point_lt t; omega⟩ ⟨t.val % 8 * 512 + j.val, by have := point_lt t; omega⟩ : (S16384x4096).Idx) := by
  have h := point_lt t
  funext a
  apply Fin.ext
  match a with
  | ⟨0, _⟩ => blk_simp; rw [show win0_6.index t = _ from index6 t]; first | rfl | simp
  | ⟨1, _⟩ => blk_simp; rw [show win0_6.index t = _ from index6 t]; first | rfl | simp

theorem block_att (t : Fin cfg0.N) (r : Fin 1024) (j : Fin 4096) : iblk m c 0 t (ix2 r j) = argAtt m c (ix2 ⟨t.val / 8 * 1024 + r.val, by have := point_lt t; omega⟩ j) :=
  (congrArg (V m c main_v2) (block0_emb t r j)).trans (staged_att m c _ _)
theorem block_four (t : Fin cfg0.N) (r : Fin 1024) (j : Fin 2048) : iblk m c 1 t (ix2 r j) = argFour m c (ix2 ⟨t.val / 8 * 1024 + r.val, by have := point_lt t; omega⟩ j) :=
  (congrArg (V m c main_v3) (block1_emb t r j)).trans (staged_four m c _ _)
theorem block_wa (t : Fin cfg0.N) (r : Fin 4096) (j : Fin 512) : iblk m c 2 t (ix2 r j) = argWa m c (ix2 r ⟨t.val % 8 * 512 + j.val, by have := point_lt t; omega⟩) :=
  (congrArg (V m c main_v4) (block2_emb t r j)).trans (staged_wa m c _ _)
theorem block_wf (t : Fin cfg0.N) (r : Fin 2048) (j : Fin 512) : iblk m c 3 t (ix2 r j) = argWf m c (ix2 r ⟨t.val % 8 * 512 + j.val, by have := point_lt t; omega⟩) :=
  (congrArg (V m c main_v5) (block3_emb t r j)).trans (staged_wf m c _ _)
theorem block_ga (t : Fin cfg0.N) (r : Fin 1024) (j : Fin 512) : iblk m c 4 t (ix2 r j) = argGa m c (ix2 ⟨t.val / 8 * 1024 + r.val, by have := point_lt t; omega⟩ ⟨t.val % 8 * 512 + j.val, by have := point_lt t; omega⟩) := by
  have h := point_lt t
  refine (congrArg (V m c main_v1) (block4_emb t r j)).trans ((staged_ga m c _ _ (by show 6144 ≤ (12 + t.val % 8) * 512 + j.val; omega)
    (by show (12 + t.val % 8) * 512 + j.val < 10240; omega)).trans ?_)
  exact congrArg (argGa m c) (congrArg _ (Fin.ext (show (12 + t.val % 8) * 512 + j.val - 6144 = t.val % 8 * 512 + j.val by omega)))
theorem block_gf (t : Fin cfg0.N) (r : Fin 1024) (j : Fin 512) : iblk m c 5 t (ix2 r j) = argGf m c (ix2 ⟨t.val / 8 * 1024 + r.val, by have := point_lt t; omega⟩ ⟨t.val % 8 * 512 + j.val, by have := point_lt t; omega⟩) := by
  have h := point_lt t
  refine (congrArg (V m c main_v1) (block5_emb t r j)).trans ((staged_gf m c _ _ (by show 10240 ≤ (20 + t.val % 8) * 512 + j.val; omega)).trans ?_)
  exact congrArg (argGf m c) (congrArg _ (Fin.ext (show (20 + t.val % 8) * 512 + j.val - 10240 = t.val % 8 * 512 + j.val by omega)))

/-- The reference's result of the arguments that the program is given. -/
def wanted : FVec Ideal S16384x4096 .bf16 :=
  Cert.MergeRefIdeal.Call.answer (argAtt m c) (argFour m c) (argWa m c) (argWf m c) (argGa m c) (argGf m c)

/-- The launch's output array is the reference's result. -/
theorem final : (dats m 0 c).arrAt 6 cfg0.N = wanted m c := by
  refine (dats m 0 c).arrAt_eq_of_covers 6 _ out_covered fun t hf y => ?_
  blk_simp
  rw [after0_6]
  obtain ⟨r, j, rfl⟩ : ∃ (r : Fin 1024) (j : Fin 512), y = ix2 r j := ⟨y 0, y 1, eq_ix2 y⟩
  refine ((body_at _ _ _ _ _ _ r j).trans ?_).trans (congrArg (wanted m c) (block6_emb t r j)).symm
  unfold wanted
  rw [Cert.MergeRefIdeal.Call.answer_at, block_ga, block_gf]
  refine congrArg₂ (· + ·) (congrArg (_ * ·) ?_) (congrArg (_ * ·) ?_)
  · exact Finset.sum_congr rfl fun k _ => by rw [block_att, block_wa]
  · exact Finset.sum_congr rfl fun k _ => by rw [block_four, block_wf]

end Cert.MergeIdeal.Call

end
-- ==== Proof.Calls.Outproj.lean ====
/-
  What the out-projection call computes: the residual stream plus the gated product, entry by entry.
-/
module

public import proofs.«01_k».proof.Proof.Gen.OutprojIdeal.Value
public import proofs.«01_k».proof.Proof.Gen.OutprojRefIdeal
public import Idealize.ShloMosaic.Lib.Pointwise
public import Idealize.ShloMosaic.Lib.StableHlo.ReadAt
public import Idealize.ShloMosaic.Lib.Pipeline.ValueKit

@[expose] public section

set_option maxRecDepth 16384

noncomputable section

namespace Cert.OutprojRefIdeal.Call

open Cert.OutprojRefIdeal Cert.OutprojRefIdeal.Gen
open Idealize.ShloMosaic

/-- The reference's result of its arguments. -/
def answer (merged : FVec Ideal S2x8192x4096 .f32) (w : FVec Ideal S4096x4096 .f32) (x : FVec Ideal S2x8192x4096 .f32) (g : FVec Ideal S2x1x4096 .f32) : FVec Ideal S16384x4096 .f32 :=
  shapeCast _ (addf x (mulf (broadcastInDim S2x8192x4096 ![0, 1, 2] bcast_S2x1x4096_S2x8192x4096_0_1_2 g)
    (Host.dotGeneral (φ₁ := .f32) dot_S2x8192x4096_S4096x4096_S2x8192x4096_2_0_01_1_n_n none merged w))) shapeCasts_S2x8192x4096_S16384x4096

theorem answer_at (merged : FVec Ideal S2x8192x4096 .f32) (w : FVec Ideal S4096x4096 .f32) (x : FVec Ideal S2x8192x4096 .f32) (g : FVec Ideal S2x1x4096 .f32)
    (r : Fin 16384) (j : Fin 4096) :
    answer merged w x g (ix2 r j) = x (ix3 ⟨r.val / 8192, by omega⟩ ⟨r.val % 8192, by omega⟩ j)
      + g (ix3 ⟨r.val / 8192, by omega⟩ 0 j) * (∑ k : Fin 4096, merged (ix3 ⟨r.val / 8192, by omega⟩ ⟨r.val % 8192, by omega⟩ k) * w (ix2 k j)) := by
  pointwise [answer]

end Cert.OutprojRefIdeal.Call

namespace Cert.OutprojIdeal.Call

open Cert.OutprojIdeal Cert.OutprojIdeal.Gen
open Idealize.ShloMosaic Idealize.ShloMosaic.TcCoe Idealize.ShloMosaic.Pipeline

variable (m : (ℓ : Loc nD τ sig) → Buf (Elt Ideal) ℓ) (c : Dev nD)

abbrev argMerged : FVec Ideal S2x8192x4096 .f32 := m ((c.tc : Thread nD τ).loc main_arg0)
abbrev argW : FVec Ideal S4096x4096 .f32 := m ((c.tc : Thread nD τ).loc main_arg1)
abbrev argX : FVec Ideal S2x8192x4096 .f32 := m ((c.tc : Thread nD τ).loc main_arg2)
abbrev argG : FVec Ideal S2x1x4096 .f32 := m ((c.tc : Thread nD τ).loc main_arg3)

/-- The body's block of its four blocks, entry by entry. -/
theorem body_at (x0 : Vec Ideal S1024x4096 .bf16) (x1 : Vec Ideal S4096x512 .bf16) (x2 : Vec Ideal S1024x512 .f32) (x3 : Vec Ideal S1x1x512 .f32)
    (r : Fin 1024) (j : Fin 512) :
    out0_4 x0 x1 x2 x3 (ix2 r j) = x2 (ix2 r j) + x3 (ix3 0 0 j) * (∑ k : Fin 4096, x0 (ix2 r k) * x1 (ix2 k j)) := by
  unfold out0_4
  simp (disch := decide) only [View.canon_cons_unit_lit', View.ld_unit_lit']
  pointwise [k0_pay1]

theorem staged_merged (r : Fin 16384) (j : Fin 4096) : (V m c (Pipeline.arrRef spec0 0) : FVec Ideal S16384x4096 .bf16) (ix2 r j) = argMerged m c (ix3 ⟨r.val / 8192, by omega⟩ ⟨r.val % 8192, by omega⟩ j) := by
  show (V m c main_v1 : FVec Ideal S16384x4096 .bf16) (ix2 r j) = _
  unfold V
  after_reads_at
theorem staged_w (r : Fin 4096) (j : Fin 4096) : (V m c (Pipeline.arrRef spec0 1) : FVec Ideal S4096x4096 .bf16) (ix2 r j) = argW m c (ix2 r j) := by
  show (V m c main_v2 : FVec Ideal S4096x4096 .bf16) (ix2 r j) = _
  unfold V
  after_reads_at
theorem staged_x (r : Fin 16384) (j : Fin 4096) : (V m c (Pipeline.arrRef spec0 2) : FVec Ideal S16384x4096 .f32) (ix2 r j) = argX m c (ix3 ⟨r.val / 8192, by omega⟩ ⟨r.val % 8192, by omega⟩ j) := by
  show (V m c main_v3 : FVec Ideal S16384x4096 .f32) (ix2 r j) = _
  unfold V
  after_reads_at

theorem point_lt (t : Fin cfg0.N) : t.val < 128 := t.isLt
theorem index0 (t : Fin cfg0.N) : (cfg0.win 0).index t = ![t.val / 8, 0] := by
  revert t; decide +kernel
theorem index1 (t : Fin cfg0.N) : (cfg0.win 1).index t = ![0, t.val % 8] := by
  revert t; decide +kernel
theorem index2 (t : Fin cfg0.N) : (cfg0.win 2).index t = ![t.val / 8, t.val % 8] := by
  revert t; decide +kernel
theorem index3 (t : Fin cfg0.N) : (cfg0.win 3).index t = ![t.val / 64, 0, t.val % 8] := by
  revert t; decide +kernel
theorem index4 (t : Fin cfg0.N) : (cfg0.win 4).index t = ![t.val / 8, t.val % 8] := by
  revert t; decide +kernel
theorem out_covered : (cfg0.win 4).Covers := by decide +kernel

theorem block0_emb (t : Fin cfg0.N) (r : Fin 1024) (j : Fin 4096) :
    ((cfg0.win 0).blk t).view.emb (ix2 r j) = (ix2 ⟨t.val / 8 * 1024 + r.val, by have := point_lt t; omega⟩ j : (S16384x4096).Idx) := by
  have h := point_lt t
  funext a
  apply Fin.ext
  match a with
  | ⟨0, _⟩ => blk_simp; rw [show win0_0.index t = _ from index0 t]; first | rfl | simp
  | ⟨1, _⟩ => blk_simp; rw [show win0_0.index t = _ from index0 t]; first | rfl | simp

theorem block1_emb (t : Fin cfg0.N) (r : Fin 4096) (j : Fin 512) :
    ((cfg0.win 1).blk t).view.emb (ix2 r j) = (ix2 r ⟨t.val % 8 * 512 + j.val, by have := point_lt t; omega⟩ : (S4096x4096).Idx) := by
  have h := point_lt t
  funext a
  apply Fin.ext
  match a with
  | ⟨0, _⟩ => blk_simp; rw [show win0_1.index t = _ from index1 t]; first | rfl | simp
  | ⟨1, _⟩ => blk_simp; rw [show win0_1.index t = _ from index1 t]; first | rfl | simp

theorem block2_emb (t : Fin cfg0.N) (r : Fin 1024) (j : Fin 512) :
    ((cfg0.win 2).blk t).view.emb (ix2 r j) = (ix2 ⟨t.val / 8 * 1024 + r.val, by have := point_lt t; omega⟩ ⟨t.val % 8 * 512 + j.val, by have := point_lt t; omega⟩ : (S16384x4096).Idx) := by
  have h := point_lt t
  funext a
  apply Fin.ext
  match a with
  | ⟨0, _⟩ => blk_simp; rw [show win0_2.index t = _ from index2 t]; first | rfl | simp
  | ⟨1, _⟩ => blk_simp; rw [show win0_2.index t = _ from index2 t]; first | rfl | simp

theorem block3_emb (t : Fin cfg0.N) (j : Fin 512) :
    ((cfg0.win 3).blk t).view.emb ((ix3 0 0 j : S1x1x512.Idx)) = (ix3 ⟨t.val / 64, by have := point_lt t; omega⟩ 0 ⟨t.val % 8 * 512 + j.val, by have := point_lt t; omega⟩ : (S2x1x4096).Idx) := by
  have h := point_lt t
  funext a
  apply Fin.ext
  match a with
  | ⟨0, _⟩ => blk_simp; rw [show win0_3.index t = _ from index3 t]; first | rfl | simp
  | ⟨1, _⟩ => blk_simp; rw [show win0_3.index t = _ from index3 t]; first | rfl | simp
  | ⟨2, _⟩ => blk_simp; rw [show win0_3.index t = _ from index3 t]; first | rfl | simp

theorem block4_emb (t : Fin cfg0.N) (r : Fin 1024) (j : Fin 512) :
    ((cfg0.win 4).blk t).view.emb (ix2 r j) = (ix2 ⟨t.val / 8 * 1024 + r.val, by have := point_lt t; omega⟩ ⟨t.val % 8 * 512 + j.val, by have := point_lt t; omega⟩ : (S16384x4096).Idx) := by
  have h := point_lt t
  funext a
  apply Fin.ext
  match a with
  | ⟨0, _⟩ => blk_simp; rw [show win0_4.index t = _ from index4 t]; first | rfl | simp
  | ⟨1, _⟩ => blk_simp; rw [show win0_4.index t = _ from index4 t]; first | rfl | simp

theorem block_merged (t : Fin cfg0.N) (r : Fin 1024) (j : Fin 4096) : iblk m c 0 t (ix2 r j) = argMerged m c (ix3 ⟨(t.val / 8 * 1024 + r.val) / 8192, by have := point_lt t; omega⟩ ⟨(t.val / 8 * 1024 + r.val) % 8192, by have := point_lt t; omega⟩ j) :=
  (congrArg (V m c (Pipeline.arrRef spec0 0)) (block0_emb t r j)).trans (staged_merged m c _ _)
theorem block_w (t : Fin cfg0.N) (r : Fin 4096) (j : Fin 512) : iblk m c 1 t (ix2 r j) = argW m c (ix2 r ⟨t.val % 8 * 512 + j.val, by have := point_lt t; omega⟩) :=
  (congrArg (V m c (Pipeline.arrRef spec0 1)) (block1_emb t r j)).trans (staged_w m c _ _)
theorem block_x (t : Fin cfg0.N) (r : Fin 1024) (j : Fin 512) : iblk m c 2 t (ix2 r j) = argX m c (ix3 ⟨(t.val / 8 * 1024 + r.val) / 8192, by have := point_lt t; omega⟩ ⟨(t.val / 8 * 1024 + r.val) % 8192, by have := point_lt t; omega⟩ ⟨t.val % 8 * 512 + j.val, by have := point_lt t; omega⟩) :=
  (congrArg (V m c (Pipeline.arrRef spec0 2)) (block2_emb t r j)).trans (staged_x m c _ _)
theorem block_g (t : Fin cfg0.N) (r : Fin 1024) (j : Fin 512) : iblk m c 3 t (ix3 0 0 j : S1x1x512.Idx) = argG m c (ix3 ⟨(t.val / 8 * 1024 + r.val) / 8192, by have := point_lt t; omega⟩ 0 ⟨t.val % 8 * 512 + j.val, by have := point_lt t; omega⟩) := by
  have h := point_lt t
  refine (congrArg (V m c (Pipeline.arrRef spec0 3)) (block3_emb t j)).trans ?_
  rw [show V m c (Pipeline.arrRef spec0 3) = argG m c from V_main_arg3 m c]
  exact congrArg (fun b => argG m c (ix3 b 0 _)) (Fin.ext (show t.val / 64 = (t.val / 8 * 1024 + r.val) / 8192 by omega))

/-- The reference's result of the arguments that the program is given. -/
def wanted : FVec Ideal S16384x4096 .f32 :=
  Cert.OutprojRefIdeal.Call.answer (argMerged m c) (argW m c) (argX m c) (argG m c)

/-- The launch's output array is the reference's result. -/
theorem final : (dats m 0 c).arrAt 4 cfg0.N = wanted m c := by
  refine (dats m 0 c).arrAt_eq_of_covers 4 _ out_covered fun t hf y => ?_
  blk_simp
  rw [after0_4]
  obtain ⟨r, j, rfl⟩ : ∃ (r : Fin 1024) (j : Fin 512), y = ix2 r j := ⟨y 0, y 1, eq_ix2 y⟩
  refine ((body_at _ _ _ _ r j).trans ?_).trans (congrArg (wanted m c) (block4_emb t r j)).symm
  unfold wanted
  rw [Cert.OutprojRefIdeal.Call.answer_at, block_x, block_g m c t r j]
  refine congrArg (_ + ·) (congrArg (_ * ·) ?_)
  exact Finset.sum_congr rfl fun k _ => by rw [block_merged, block_w]

end Cert.OutprojIdeal.Call

end
-- ==== Proof.Calls.Final.lean ====
/-
  What the last call computes: the second residual and its norm, entry by entry.
-/
module

public import proofs.«01_k».proof.Proof.Gen.FinalIdeal.Value
public import proofs.«01_k».proof.Proof.Gen.FinalRefIdeal
public import Idealize.ShloMosaic.Lib.Pointwise
public import Idealize.ShloMosaic.Lib.StableHlo.ReadAt
public import Idealize.ShloMosaic.Lib.Pipeline.ValueKit

@[expose] public section

set_option maxRecDepth 16384

noncomputable section

namespace Cert.FinalRefIdeal.Call

open Cert.FinalRefIdeal Cert.FinalRefIdeal.Gen
open Idealize.ShloMosaic

/-- The residual stream after the gated addition. -/
def stream (x peer : FVec Ideal S2x8192x4096 .f32) (g : FVec Ideal S2x1x4096 .f32) : FVec Ideal S2x8192x4096 .f32 :=
  addf x (mulf (broadcastInDim S2x8192x4096 ![0, 1, 2] bcast_S2x1x4096_S2x8192x4096_0_1_2 g) peer)

/-- The norm of a stream. -/
def normed (z : FVec Ideal S2x8192x4096 .f32) (w : FVec Ideal S4096 .f32) : FVec Ideal S16384x4096 .f32 :=
  shapeCast _ (mulf (mulf z (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf z z) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 w))) shapeCasts_S2x8192x4096_S16384x4096

/-- The reference's result of its arguments. -/
def answer (x peer : FVec Ideal S2x8192x4096 .f32) (g : FVec Ideal S2x1x4096 .f32) (w : FVec Ideal S4096 .f32) : FVec Ideal S16384x4096 .f32 :=
  normed (stream x peer g) w

theorem stream_at (x peer : FVec Ideal S2x8192x4096 .f32) (g : FVec Ideal S2x1x4096 .f32) (b : Fin 2) (i : Fin 8192) (j : Fin 4096) :
    stream x peer g (ix3 b i j) = x (ix3 b i j) + g (ix3 b 0 j) * peer (ix3 b i j) := by
  pointwise [stream]

theorem normed_at (z : FVec Ideal S2x8192x4096 .f32) (w : FVec Ideal S4096 .f32) (r : Fin 16384) (j : Fin 4096) :
    normed z w (ix2 r j) = z (ix3 ⟨r.val / 8192, by omega⟩ ⟨r.val % 8192, by omega⟩ j)
      * Ideal.rsqrt (Ideal.div (∑ k : Fin 4096, z (ix3 ⟨r.val / 8192, by omega⟩ ⟨r.val % 8192, by omega⟩ k) * z (ix3 ⟨r.val / 8192, by omega⟩ ⟨r.val % 8192, by omega⟩ k))
          (Ideal.ofBits .f32 0x45800000#32) + Ideal.ofBits .f32 0x358637BD#32)
      * w (ix1 j) := by
  pointwise [normed]

end Cert.FinalRefIdeal.Call

namespace Cert.FinalIdeal.Call

open Cert.FinalIdeal Cert.FinalIdeal.Gen
open Idealize.ShloMosaic Idealize.ShloMosaic.TcCoe Idealize.ShloMosaic.Pipeline

variable (m : (ℓ : Loc nD τ sig) → Buf (Elt Ideal) ℓ) (c : Dev nD)

abbrev argX : FVec Ideal S2x8192x4096 .f32 := m ((c.tc : Thread nD τ).loc main_arg0)
abbrev argPeer : FVec Ideal S2x8192x4096 .f32 := m ((c.tc : Thread nD τ).loc main_arg1)
abbrev argG : FVec Ideal S2x1x4096 .f32 := m ((c.tc : Thread nD τ).loc main_arg2)
abbrev argW : FVec Ideal S4096 .f32 := m ((c.tc : Thread nD τ).loc main_arg3)

/-- One entry of the body's stream. -/
def mixed (x0 x1 : Vec Ideal S256x4096 .f32) (x2 : Vec Ideal S1x1x4096 .f32) (r : Fin 256) (j : Fin 4096) : EReal :=
  x0 (ix2 r j) + x2 (ix3 0 0 j) * x1 (ix2 r j)

/-- The body's block of its four blocks, entry by entry. -/
theorem body_at (x0 x1 : Vec Ideal S256x4096 .f32) (x2 : Vec Ideal S1x1x4096 .f32) (x3 : Vec Ideal S1x4096 .f32)
    (r : Fin 256) (j : Fin 4096) :
    out0_4 x0 x1 x2 x3 (ix2 r j) = mixed x0 x1 x2 r j
      * Ideal.rsqrt (Ideal.div (∑ k : Fin 4096, mixed x0 x1 x2 r k * mixed x0 x1 x2 r k) (Ideal.ofBits .f32 0x45800000#32) + Ideal.ofBits .f32 0x358637BD#32)
      * x3 (ix2 0 j) := by
  unfold out0_4 mixed
  simp (disch := decide) only [View.canon_cons_unit_lit', View.ld_unit_lit']
  pointwise [k0_pay1]

theorem staged_x (r : Fin 16384) (j : Fin 4096) : (V m c (Pipeline.arrRef spec0 0) : FVec Ideal S16384x4096 .f32) (ix2 r j) = argX m c (ix3 ⟨r.val / 8192, by omega⟩ ⟨r.val % 8192, by omega⟩ j) := by
  show (V m c main_v0 : FVec Ideal S16384x4096 .f32) (ix2 r j) = _
  unfold V
  after_reads_at
theorem staged_peer (r : Fin 16384) (j : Fin 4096) : (V m c (Pipeline.arrRef spec0 1) : FVec Ideal S16384x4096 .f32) (ix2 r j) = argPeer m c (ix3 ⟨r.val / 8192, by omega⟩ ⟨r.val % 8192, by omega⟩ j) := by
  show (V m c main_v1 : FVec Ideal S16384x4096 .f32) (ix2 r j) = _
  unfold V
  after_reads_at
theorem staged_w (j : Fin 4096) : (V m c (Pipeline.arrRef spec0 3) : FVec Ideal S1x4096 .f32) (ix2 0 j) = argW m c (ix1 j) := by
  show (V m c main_v2 : FVec Ideal S1x4096 .f32) (ix2 0 j) = _
  unfold V
  after_reads_at

theorem point_lt (t : Fin cfg0.N) : t.val < 64 := t.isLt
theorem index0 (t : Fin cfg0.N) : (cfg0.win 0).index t = ![t.val, 0] := by
  revert t; decide +kernel
theorem index1 (t : Fin cfg0.N) : (cfg0.win 1).index t = ![t.val, 0] := by
  revert t; decide +kernel
theorem index2 (t : Fin cfg0.N) : (cfg0.win 2).index t = ![t.val / 32, 0, 0] := by
  revert t; decide +kernel
theorem index3 (t : Fin cfg0.N) : (cfg0.win 3).index t = ![0, 0] := by
  revert t; decide +kernel
theorem index4 (t : Fin cfg0.N) : (cfg0.win 4).index t = ![t.val, 0] := by
  revert t; decide +kernel
theorem out_covered : (cfg0.win 4).Covers := by decide +kernel

theorem block0_emb (t : Fin cfg0.N) (r : Fin 256) (j : Fin 4096) :
    ((cfg0.win 0).blk t).view.emb (ix2 r j) = (ix2 ⟨t.val * 256 + r.val, by have := point_lt t; omega⟩ j : (S16384x4096).Idx) := by
  have h := point_lt t
  funext a
  apply Fin.ext
  match a with
  | ⟨0, _⟩ => blk_simp; rw [show win0_0.index t = _ from index0 t]; first | rfl | simp
  | ⟨1, _⟩ => blk_simp; rw [show win0_0.index t = _ from index0 t]; first | rfl | simp

theorem block1_emb (t : Fin cfg0.N) (r : Fin 256) (j : Fin 4096) :
    ((cfg0.win 1).blk t).view.emb (ix2 r j) = (ix2 ⟨t.val * 256 + r.val, by have := point_lt t; omega⟩ j : (S16384x4096).Idx) := by
  have h := point_lt t
  funext a
  apply Fin.ext
  match a with
  | ⟨0, _⟩ => blk_simp; rw [show win0_1.index t = _ from index1 t]; first | rfl | simp
  | ⟨1, _⟩ => blk_simp; rw [show win0_1.index t = _ from index1 t]; first | rfl | simp

theorem block2_emb (t : Fin cfg0.N) (j : Fin 4096) :
    ((cfg0.win 2).blk t).view.emb ((ix3 0 0 j : S1x1x4096.Idx)) = (ix3 ⟨t.val / 32, by have := point_lt t; omega⟩ 0 j : (S2x1x4096).Idx) := by
  have h := point_lt t
  funext a
  apply Fin.ext
  match a with
  | ⟨0, _⟩ => blk_simp; rw [show win0_2.index t = _ from index2 t]; first | rfl | simp
  | ⟨1, _⟩ => blk_simp; rw [show win0_2.index t = _ from index2 t]; first | rfl | simp
  | ⟨2, _⟩ => blk_simp; rw [show win0_2.index t = _ from index2 t]; first | rfl | simp

theorem block3_emb (t : Fin cfg0.N) (j : Fin 4096) :
    ((cfg0.win 3).blk t).view.emb ((ix2 0 j : S1x4096.Idx)) = (ix2 0 j : (S1x4096).Idx) := by
  have h := point_lt t
  funext a
  apply Fin.ext
  match a with
  | ⟨0, _⟩ => blk_simp; rw [show win0_3.index t = _ from index3 t]; first | rfl | simp
  | ⟨1, _⟩ => blk_simp; rw [show win0_3.index t = _ from index3 t]; first | rfl | simp

theorem block4_emb (t : Fin cfg0.N) (r : Fin 256) (j : Fin 4096) :
    ((cfg0.win 4).blk t).view.emb (ix2 r j) = (ix2 ⟨t.val * 256 + r.val, by have := point_lt t; omega⟩ j : (S16384x4096).Idx) := by
  have h := point_lt t
  funext a
  apply Fin.ext
  match a with
  | ⟨0, _⟩ => blk_simp; rw [show win0_4.index t = _ from index4 t]; first | rfl | simp
  | ⟨1, _⟩ => blk_simp; rw [show win0_4.index t = _ from index4 t]; first | rfl | simp

theorem block_x (t : Fin cfg0.N) (r : Fin 256) (j : Fin 4096) : iblk m c 0 t (ix2 r j) = argX m c (ix3 ⟨(t.val * 256 + r.val) / 8192, by have := point_lt t; omega⟩ ⟨(t.val * 256 + r.val) % 8192, by have := point_lt t; omega⟩ j) :=
  (congrArg (V m c (Pipeline.arrRef spec0 0)) (block0_emb t r j)).trans (staged_x m c _ _)
theorem block_peer (t : Fin cfg0.N) (r : Fin 256) (j : Fin 4096) : iblk m c 1 t (ix2 r j) = argPeer m c (ix3 ⟨(t.val * 256 + r.val) / 8192, by have := point_lt t; omega⟩ ⟨(t.val * 256 + r.val) % 8192, by have := point_lt t; omega⟩ j) :=
  (congrArg (V m c (Pipeline.arrRef spec0 1)) (block1_emb t r j)).trans (staged_peer m c _ _)
theorem block_g (t : Fin cfg0.N) (r : Fin 256) (j : Fin 4096) : iblk m c 2 t (ix3 0 0 j : S1x1x4096.Idx) = argG m c (ix3 ⟨(t.val * 256 + r.val) / 8192, by have := point_lt t; omega⟩ 0 j) := by
  have h := point_lt t
  refine (congrArg (V m c (Pipeline.arrRef spec0 2)) (block2_emb t j)).trans ?_
  rw [show V m c (Pipeline.arrRef spec0 2) = argG m c from V_main_arg2 m c]
  exact congrArg (fun b => argG m c (ix3 b 0 _)) (Fin.ext (show t.val / 32 = (t.val * 256 + r.val) / 8192 by omega))
theorem block_w (t : Fin cfg0.N) (j : Fin 4096) : iblk m c 3 t (ix2 0 j : S1x4096.Idx) = argW m c (ix1 j) :=
  (congrArg (V m c (Pipeline.arrRef spec0 3)) (block3_emb t j)).trans (staged_w m c _)

/-- The body's stream is the reference's. -/
theorem mixed_eq (t : Fin cfg0.N) (r : Fin 256) (j : Fin 4096) :
    mixed (iblk m c 0 t) (iblk m c 1 t) (iblk m c 2 t) r j = Cert.FinalRefIdeal.Call.stream (argX m c) (argPeer m c) (argG m c) (ix3 ⟨(t.val * 256 + r.val) / 8192, by have := point_lt t; omega⟩ ⟨(t.val * 256 + r.val) % 8192, by have := point_lt t; omega⟩ j) := by
  unfold mixed
  rw [Cert.FinalRefIdeal.Call.stream_at, block_x, block_peer, block_g m c t r j]

/-- The reference's result of the arguments that the program is given. -/
def wanted : FVec Ideal S16384x4096 .f32 :=
  Cert.FinalRefIdeal.Call.answer (argX m c) (argPeer m c) (argG m c) (argW m c)

/-- The launch's output array is the reference's result. -/
theorem final : (dats m 0 c).arrAt 4 cfg0.N = wanted m c := by
  refine (dats m 0 c).arrAt_eq_of_covers 4 _ out_covered fun t hf y => ?_
  blk_simp
  rw [after0_4]
  obtain ⟨r, j, rfl⟩ : ∃ (r : Fin 256) (j : Fin 4096), y = ix2 r j := ⟨y 0, y 1, eq_ix2 y⟩
  refine ((body_at _ _ _ _ r j).trans ?_).trans (congrArg (wanted m c) (block4_emb t r j)).symm
  unfold wanted Cert.FinalRefIdeal.Call.answer
  rw [Cert.FinalRefIdeal.Call.normed_at, mixed_eq, block_w]
  simp only [mixed_eq]

end Cert.FinalIdeal.Call

end
-- ==== Proof.Calls.Fproj.lean ====
/-
  What the Fourier branch computes: its columns of the projection and their transform over the channels of a group.
-/
module

public import proofs.«01_k».proof.Proof.Gen.FprojIdeal.Value
public import proofs.«01_k».proof.Proof.Gen.FprojRefIdeal
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Turn

open Idealize.ShloMosaic

/-- The angle of `n` steps of 256 around the circle. -/
def angle (n : ℝ) : ℝ := 2 * Real.pi * n / 256

theorem word_2 : Ideal.ofBits .f32 0x40000000#32 = ((2 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_neg_1 : Ideal.ofBits .f32 0xBF800000#32 = ((-1 : ℝ) : EReal) := by
  simp [Ideal.ofBits, Ideal.ieee, -EReal.coe_mul, -EReal.coe_neg]; norm_num

/-- The inverse cosine of minus one is half a turn. -/
theorem half_turn : Ideal.acos (Ideal.ofBits .f32 0xBF800000#32) = ((Real.pi : ℝ) : EReal) := by
  rw [word_neg_1]
  show (if -1 ≤ (-1 : ℝ) ∧ (-1 : ℝ) ≤ 1 then ((Real.arccos (-1) : ℝ) : EReal) else ⊥) = _
  rw [if_pos ⟨le_refl _, by norm_num⟩, Real.arccos_neg_one]

/-- The angle as both programs compute it. -/
theorem angle_eq (n : ℝ) :
    Ideal.div (Ideal.ofBits .f32 0x40000000#32 * Ideal.acos (Ideal.ofBits .f32 0xBF800000#32) * (n : EReal)) (Ideal.ofBits .f32 0x43800000#32)
      = ((angle n : ℝ) : EReal) := by
  rw [half_turn, word_2, word_256, Ideal.div_coe (by norm_num), ← EReal.coe_mul, ← EReal.coe_mul, ← EReal.coe_mul]
  unfold angle
  rw [mul_one_div]

/-- Whole turns do not matter. -/
theorem angle_mod (n : ℕ) : angle (n : ℝ) = angle ((n % 256 : ℕ) : ℝ) + (n / 256 : ℕ) * (2 * Real.pi) := by
  have h : (n : ℝ) = ((n % 256 : ℕ) : ℝ) + 256 * ((n / 256 : ℕ) : ℝ) := by
    exact_mod_cast (Nat.mod_add_div n 256).symm
  unfold angle
  rw [h]
  ring

theorem cos_mod (n : ℕ) : Real.cos (angle ((n % 256 : ℕ) : ℝ)) = Real.cos (angle (n : ℝ)) := by
  rw [angle_mod n, Real.cos_add_nat_mul_two_pi]

theorem sin_mod (n : ℕ) : Real.sin (angle ((n % 256 : ℕ) : ℝ)) = Real.sin (angle (n : ℝ)) := by
  rw [angle_mod n, Real.sin_add_nat_mul_two_pi]

/-- The remainder by 256 of a word, as the host computes it. -/
def residue (x : BitVec 32) : BitVec 32 :=
  Scalar.select
    (IntOp.andi
      (IntOp.cmpi CmpIPredicate.ne
        (IntOp.cmpi CmpIPredicate.slt
          (IntOp.remsi ArithUnit.host x (Scalar.select (IntOp.cmpi CmpIPredicate.eq 256#32 0#32) (1#32) 256#32)) 0#32)
        (IntOp.cmpi CmpIPredicate.slt (Scalar.select (IntOp.cmpi CmpIPredicate.eq 256#32 0#32) (1#32) 256#32) 0#32))
      (IntOp.cmpi CmpIPredicate.ne
        (IntOp.remsi ArithUnit.host x (Scalar.select (IntOp.cmpi CmpIPredicate.eq 256#32 0#32) (1#32) 256#32)) 0#32))
    (IntOp.addi (IntOp.remsi ArithUnit.host x (Scalar.select (IntOp.cmpi CmpIPredicate.eq 256#32 0#32) (1#32) 256#32))
      (Scalar.select (IntOp.cmpi CmpIPredicate.eq 256#32 0#32) (1#32) 256#32))
    (IntOp.remsi ArithUnit.host x (Scalar.select (IntOp.cmpi CmpIPredicate.eq 256#32 0#32) (1#32) 256#32))

theorem divisor : Scalar.select (IntOp.cmpi CmpIPredicate.eq 256#32 0#32) (1#32) 256#32 = 256#32 := by decide

/-- A remainder that is not negative is left as it is. -/
theorem settled (n : Fin 256) :
    Scalar.select (IntOp.andi (IntOp.cmpi CmpIPredicate.ne (IntOp.cmpi CmpIPredicate.slt (BitVec.ofNat 32 n.val) 0#32) (IntOp.cmpi CmpIPredicate.slt 256#32 0#32))
      (IntOp.cmpi CmpIPredicate.ne (BitVec.ofNat 32 n.val) 0#32)) (IntOp.addi (BitVec.ofNat 32 n.val) 256#32) (BitVec.ofNat 32 n.val) = BitVec.ofNat 32 n.val := by
  revert n
  decide +kernel

theorem product_at (a k : Fin 256) : (IntOp.muli (BitVec.ofNat 32 a.val) (BitVec.ofNat 32 k.val)).toNat = a.val * k.val := by
  have h : a.val * k.val ≤ 255 * 255 := Nat.mul_le_mul (by omega) (by omega)
  show (BitVec.ofNat 32 a.val * BitVec.ofNat 32 k.val).toNat = _
  rw [BitVec.toNat_mul, BitVec.toNat_ofNat, BitVec.toNat_ofNat, Nat.mod_eq_of_lt (a := a.val) (by omega), Nat.mod_eq_of_lt (a := k.val) (by omega), Nat.mod_eq_of_lt (by omega)]

theorem number_at (a : Fin 256) : (BitVec.ofNat 32 a.val).toInt = ((a.val : ℕ) : ℤ) := by
  revert a
  decide +kernel

theorem residue_at (a k : Fin 256) :
    (residue (IntOp.muli (BitVec.ofNat 32 a.val) (BitVec.ofNat 32 k.val))).toInt = ((a.val * k.val % 256 : ℕ) : ℤ) := by
  have h : a.val * k.val ≤ 255 * 255 := Nat.mul_le_mul (by omega) (by omega)
  have e : IntOp.remsi ArithUnit.host (IntOp.muli (BitVec.ofNat 32 a.val) (BitVec.ofNat 32 k.val)) 256#32 = BitVec.ofNat 32 (a.val * k.val % 256) := by
    apply BitVec.eq_of_toNat_eq
    refine (IntOp.toNat_remsi ArithUnit.host (by rw [product_at]; omega) 256 (by omega) (by omega)).trans ?_
    rw [product_at, BitVec.toNat_ofNat, Nat.mod_eq_of_lt (b := 2 ^ 32) (by omega)]
  unfold residue
  rw [divisor, e]
  exact (congrArg BitVec.toInt (settled ⟨a.val * k.val % 256, by omega⟩)).trans (number_at ⟨a.val * k.val % 256, by omega⟩)

/-- The host's angle, its remainder included. -/
theorem staged_angle (a k : Fin 256) :
    Ideal.div (Ideal.ofBits .f32 0x40000000#32 * Ideal.acos (Ideal.ofBits .f32 0xBF800000#32)
        * FloatOps.sitofp (F := Ideal) .f32 (residue (IntOp.muli (BitVec.ofNat 32 a.val) (BitVec.ofNat 32 k.val)))) (Ideal.ofBits .f32 0x43800000#32)
      = ((angle ((a.val * k.val % 256 : ℕ) : ℝ) : ℝ) : EReal) := by
  refine Eq.trans ?_ (angle_eq _)
  refine congrArg (fun x : EReal => Ideal.div (Ideal.ofBits .f32 0x40000000#32 * Ideal.acos (Ideal.ofBits .f32 0xBF800000#32) * x) (Ideal.ofBits .f32 0x43800000#32)) ?_
  show (((residue _).toInt : ℝ) : EReal) = _
  rw [residue_at]
  norm_cast

/-- The reference's angle. -/
theorem plain_angle (a k : Fin 256) :
    Ideal.div (Ideal.ofBits .f32 0x40000000#32 * Ideal.acos (Ideal.ofBits .f32 0xBF800000#32)
        * (FloatOps.sitofp (F := Ideal) .f32 (BitVec.ofNat 32 a.val) * FloatOps.sitofp (F := Ideal) .f32 (BitVec.ofNat 32 k.val))) (Ideal.ofBits .f32 0x43800000#32)
      = ((angle ((a.val * k.val : ℕ) : ℝ) : ℝ) : EReal) := by
  refine Eq.trans ?_ (angle_eq _)
  refine congrArg (fun x : EReal => Ideal.div (Ideal.ofBits .f32 0x40000000#32 * Ideal.acos (Ideal.ofBits .f32 0xBF800000#32) * x) (Ideal.ofBits .f32 0x43800000#32)) ?_
  show (((BitVec.ofNat 32 a.val).toInt : ℝ) : EReal) * (((BitVec.ofNat 32 k.val).toInt : ℝ) : EReal) = _
  rw [number_at, number_at, ← EReal.coe_mul]
  push_cast
  rfl

end Cert.Turn

namespace Cert.FprojRefIdeal.Call

open Cert.FprojRefIdeal Cert.FprojRefIdeal.Gen
open Idealize.ShloMosaic

/-- The angles of the transform. -/
def angles : FVec Ideal S256x256 .f32 :=
  Host.divf (mulf (broadcastInDim S256x256 ![] bcast_S_S256x256 (mulf (constant S_ .f32 0x40000000#32) (Host.acos (constant S_ .f32 0xBF800000#32)))) (mulf (broadcastInDim S256x256 ![0, 1] bcast_S256x1_S256x256_0_1 (broadcastInDim S256x1 ![0] bcast_S256_S256x1_0 (sitofp .f32 (iotaInDim S256 32 0)))) (broadcastInDim S256x256 ![0, 1] bcast_S1x256_S256x256_0_1 (broadcastInDim S1x256 ![1] bcast_S256_S1x256_1 (sitofp .f32 (iotaInDim S256 32 0)))))) (broadcastInDim S256x256 ![] bcast_S_S256x256 (constant S_ .f32 0x43800000#32))

/-- The branch's columns, group by group, against a table. -/
def against (h : FVec Ideal S2x8192x4096 .f32) (w : FVec Ideal S4096x16384 .f32) (table : FVec Ideal S256x256 .f32) : FVec Ideal S16384x2048 .bf16 :=
  truncf .bf16 (shapeCast _ (Host.dotGeneral (φ₁ := .f32) dot_S2x8192x8x256_S256x256_S2x8192x8x256_3_0_012_1_n_n none (shapeCast _ (extractStridedSlice S2x8192x2048 ![0, 0, 6144] (Host.dotGeneral (φ₁ := .f32) dot_S2x8192x4096_S4096x16384_S2x8192x16384_2_0_01_1_n_n none h w) slices_S2x8192x16384_S2x8192x2048_0_0_6144) shapeCasts_S2x8192x2048_S2x8192x8x256) table) shapeCasts_S2x8192x8x256_S16384x2048) bitsLt_bf16_f32

/-- The reference's two results of its arguments. -/
def answer0 (h : FVec Ideal S2x8192x4096 .f32) (w : FVec Ideal S4096x16384 .f32) : FVec Ideal S16384x2048 .bf16 := against h w (Host.cos angles)
def answer1 (h : FVec Ideal S2x8192x4096 .f32) (w : FVec Ideal S4096x16384 .f32) : FVec Ideal S16384x2048 .bf16 := against h w (Host.sin angles)

theorem angles_at (a k : Fin 256) : angles (ix2 a k) = ((Cert.Turn.angle ((a.val * k.val : ℕ) : ℝ) : ℝ) : EReal) := by
  refine Eq.trans ?_ (Cert.Turn.plain_angle a k)
  pointwise [angles]

theorem against_at (h : FVec Ideal S2x8192x4096 .f32) (w : FVec Ideal S4096x16384 .f32) (table : FVec Ideal S256x256 .f32) (r : Fin 16384) (j : Fin 2048) :
    against h w table (ix2 r j) = ∑ a : Fin 256, (∑ k : Fin 4096, h (ix3 ⟨r.val / 8192, by omega⟩ ⟨r.val % 8192, by omega⟩ k) * w (ix2 k ⟨6144 + (j.val / 256 * 256 + a.val), by omega⟩)) * table (ix2 a ⟨j.val % 256, by omega⟩) := by
  pointwise [against]

end Cert.FprojRefIdeal.Call

namespace Cert.FprojIdeal.Call

open Cert.FprojIdeal Cert.FprojIdeal.Gen
open Idealize.ShloMosaic Idealize.ShloMosaic.TcCoe Idealize.ShloMosaic.Pipeline

variable (m : (ℓ : Loc nD τ sig) → Buf (Elt Ideal) ℓ) (c : Dev nD)

abbrev argH : FVec Ideal S2x8192x4096 .f32 := m ((c.tc : Thread nD τ).loc main_arg0)
abbrev argW : FVec Ideal S4096x16384 .f32 := m ((c.tc : Thread nD τ).loc main_arg1)

theorem staged_h (r : Fin 16384) (j : Fin 4096) : (V m c (Pipeline.arrRef spec0 0) : FVec Ideal S16384x4096 .bf16) (ix2 r j) = argH m c (ix3 ⟨r.val / 8192, by omega⟩ ⟨r.val % 8192, by omega⟩ j) := by
  show (V m c main_v20 : FVec Ideal S16384x4096 .bf16) (ix2 r j) = _
  unfold V
  after_reads_at
theorem staged_w (r : Fin 4096) (j : Fin 2048) : (V m c (Pipeline.arrRef spec0 1) : FVec Ideal S4096x2048 .bf16) (ix2 r j) = argW m c (ix2 r ⟨6144 + j.val, by omega⟩) := by
  show (V m c main_v22 : FVec Ideal S4096x2048 .bf16) (ix2 r j) = _
  unfold V
  after_reads_at
theorem staged_cos (a k : Fin 256) : (V m c (Pipeline.arrRef spec0 2) : FVec Ideal S256x512 .bf16) (ix2 a ⟨k.val, by omega⟩) = ((Real.cos (Cert.Turn.angle ((a.val * k.val : ℕ) : ℝ)) : ℝ) : EReal) := by
  rw [← Cert.Turn.cos_mod]
  refine Eq.trans ?_ (congrArg Ideal.cos (Cert.Turn.staged_angle a k))
  show (V m c main_v18 : FVec Ideal S256x512 .bf16) (ix2 a ⟨k.val, by omega⟩) = _
  unfold V
  after_reads_at
  after_reads_at
  unfold Cert.Turn.residue
  rfl
theorem staged_sin (a k : Fin 256) : (V m c (Pipeline.arrRef spec0 2) : FVec Ideal S256x512 .bf16) (ix2 a ⟨256 + k.val, by omega⟩) = ((Real.sin (Cert.Turn.angle ((a.val * k.val : ℕ) : ℝ)) : ℝ) : EReal) := by
  rw [← Cert.Turn.sin_mod]
  refine Eq.trans ?_ (congrArg Ideal.sin (Cert.Turn.staged_angle a k))
  show (V m c main_v18 : FVec Ideal S256x512 .bf16) (ix2 a ⟨256 + k.val, by omega⟩) = _
  unfold V
  after_reads_at
  after_reads_at
  unfold Cert.Turn.residue
  rfl

/-- One entry of a body's block: its group's columns of the product against a column of the table. -/
def entry (x0 : Vec Ideal S512x4096 .bf16) (x1 : Vec Ideal S4096x1024 .bf16) (x2 : Vec Ideal S256x512 .bf16) (r : Fin 512) (g : Fin 4) (n : Fin 512) : EReal :=
  ∑ a : Fin 256, (∑ k : Fin 4096, x0 (ix2 r k) * x1 (ix2 k ⟨256 * g.val + a.val, by omega⟩)) * x2 (ix2 a n)

theorem entry_of (x0 : Vec Ideal S512x4096 .bf16) (x1 : Vec Ideal S4096x1024 .bf16) (x2 : Vec Ideal S256x512 .bf16) {r' : Fin 512} {j' : Fin 1024} (o : Nat) (ho : o + 256 ≤ 512)
    (r : Fin 512) (g : Fin 4) (n : Fin 256) (er : r' = r) (ej : j'.val = 256 * g.val + n.val) :
    entry x0 x1 x2 r' ⟨j'.val / 256, by omega⟩ ⟨o + j'.val % 256, by omega⟩ = entry x0 x1 x2 r g ⟨o + n.val, by omega⟩ := by
  subst er
  have e1 : (⟨j'.val / 256, by omega⟩ : Fin 4) = g := Fin.ext (show j'.val / 256 = g.val by omega)
  have e2 : (⟨o + j'.val % 256, by omega⟩ : Fin 512) = ⟨o + n.val, by omega⟩ := Fin.ext (show o + j'.val % 256 = o + n.val by omega)
  rw [e1, e2]

/-- The body's block of cosines. -/
theorem body3_at (x0 : Vec Ideal S512x4096 .bf16) (x1 : Vec Ideal S4096x1024 .bf16) (x2 : Vec Ideal S256x512 .bf16) (r : Fin 512) (j : Fin 1024) :
    out0_3 x0 x1 x2 (ix2 r j) = entry x0 x1 x2 r ⟨j.val / 256, by omega⟩ ⟨0 + j.val % 256, by omega⟩ := by
  unfold out0_3
  simp (disch := decide) only [View.ld_unit_lit']
  apply View.canon_apply_of_pieces (Val := Elt Ideal) (S := S512x1024) (e := .bf16) (fun y => entry x0 x1 x2 (y 0) ⟨(y 1).val / 256, by have h : (y 1).val < 1024 := (y 1).isLt; omega⟩ ⟨0 + (y 1).val % 256, by omega⟩)
  · simp only [List.forall_mem_cons, List.not_mem_nil, false_implies, implies_true, and_true]
    refine ⟨?_, ?_, ?_, ?_⟩
    · intro x
      obtain ⟨r, k, rfl⟩ : ∃ (r : Fin 512) (k : Fin 256), x = ix2 r k := ⟨x 0, x 1, eq_ix2 x⟩
      refine Eq.trans ?_ (entry_of x0 x1 x2 0 (by omega) r 3 k (Fin.ext (show 0 + 1 * r.val = r.val by omega)) (show 768 + 1 * k.val = 256 * 3 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
    · intro x
      obtain ⟨r, k, rfl⟩ : ∃ (r : Fin 512) (k : Fin 256), x = ix2 r k := ⟨x 0, x 1, eq_ix2 x⟩
      refine Eq.trans ?_ (entry_of x0 x1 x2 0 (by omega) r 2 k (Fin.ext (show 0 + 1 * r.val = r.val by omega)) (show 512 + 1 * k.val = 256 * 2 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
    · intro x
      obtain ⟨r, k, rfl⟩ : ∃ (r : Fin 512) (k : Fin 256), x = ix2 r k := ⟨x 0, x 1, eq_ix2 x⟩
      refine Eq.trans ?_ (entry_of x0 x1 x2 0 (by omega) r 1 k (Fin.ext (show 0 + 1 * r.val = r.val by omega)) (show 256 + 1 * k.val = 256 * 1 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
    · intro x
      obtain ⟨r, k, rfl⟩ : ∃ (r : Fin 512) (k : Fin 256), x = ix2 r k := ⟨x 0, x 1, eq_ix2 x⟩
      refine Eq.trans ?_ (entry_of x0 x1 x2 0 (by omega) r 0 k (Fin.ext (show 0 + 1 * r.val = r.val by omega)) (show 0 + 1 * k.val = 256 * 0 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
  · exact View.cover_of_tiledL (s := S512x1024) (Val := Elt Ideal) (e := .bf16) _ S512x256.size (by sl_kernel_rfl) _

/-- The body's block of sines. -/
theorem body4_at (x0 : Vec Ideal S512x4096 .bf16) (x1 : Vec Ideal S4096x1024 .bf16) (x2 : Vec Ideal S256x512 .bf16) (r : Fin 512) (j : Fin 1024) :
    out0_4 x0 x1 x2 (ix2 r j) = entry x0 x1 x2 r ⟨j.val / 256, by omega⟩ ⟨256 + j.val % 256, by omega⟩ := by
  unfold out0_4
  simp (disch := decide) only [View.ld_unit_lit']
  apply View.canon_apply_of_pieces (Val := Elt Ideal) (S := S512x1024) (e := .bf16) (fun y => entry x0 x1 x2 (y 0) ⟨(y 1).val / 256, by have h : (y 1).val < 1024 := (y 1).isLt; omega⟩ ⟨256 + (y 1).val % 256, by omega⟩)
  · simp only [List.forall_mem_cons, List.not_mem_nil, false_implies, implies_true, and_true]
    refine ⟨?_, ?_, ?_, ?_⟩
    · intro x
      obtain ⟨r, k, rfl⟩ : ∃ (r : Fin 512) (k : Fin 256), x = ix2 r k := ⟨x 0, x 1, eq_ix2 x⟩
      refine Eq.trans ?_ (entry_of x0 x1 x2 256 (by omega) r 3 k (Fin.ext (show 0 + 1 * r.val = r.val by omega)) (show 768 + 1 * k.val = 256 * 3 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
    · intro x
      obtain ⟨r, k, rfl⟩ : ∃ (r : Fin 512) (k : Fin 256), x = ix2 r k := ⟨x 0, x 1, eq_ix2 x⟩
      refine Eq.trans ?_ (entry_of x0 x1 x2 256 (by omega) r 2 k (Fin.ext (show 0 + 1 * r.val = r.val by omega)) (show 512 + 1 * k.val = 256 * 2 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
    · intro x
      obtain ⟨r, k, rfl⟩ : ∃ (r : Fin 512) (k : Fin 256), x = ix2 r k := ⟨x 0, x 1, eq_ix2 x⟩
      refine Eq.trans ?_ (entry_of x0 x1 x2 256 (by omega) r 1 k (Fin.ext (show 0 + 1 * r.val = r.val by omega)) (show 256 + 1 * k.val = 256 * 1 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
    · intro x
      obtain ⟨r, k, rfl⟩ : ∃ (r : Fin 512) (k : Fin 256), x = ix2 r k := ⟨x 0, x 1, eq_ix2 x⟩
      refine Eq.trans ?_ (entry_of x0 x1 x2 256 (by omega) r 0 k (Fin.ext (show 0 + 1 * r.val = r.val by omega)) (show 0 + 1 * k.val = 256 * 0 + k.val by omega)).symm
      pointwise [k0_pay1, k0_pay2, k0_pay3, k0_pay4, k0_pay5, k0_pay6, k0_pay7, k0_pay8, k0_pay9, k0_pay10, k0_pay11, k0_pay12, k0_pay13, k0_pay14, k0_pay15, entry]
  · exact View.cover_of_tiledL (s := S512x1024) (Val := Elt Ideal) (e := .bf16) _ S512x256.size (by sl_kernel_rfl) _

theorem point_lt (t : Fin cfg0.N) : t.val < 64 := t.isLt
theorem index0 (t : Fin cfg0.N) : (cfg0.win 0).index t = ![t.val / 2, 0] := by
  revert t; decide +kernel
theorem index1 (t : Fin cfg0.N) : (cfg0.win 1).index t = ![0, t.val % 2] := by
  revert t; decide +kernel
theorem index2 (t : Fin cfg0.N) : (cfg0.win 2).index t = ![0, 0] := by
  revert t; decide +kernel
theorem index3 (t : Fin cfg0.N) : (cfg0.win 3).index t = ![t.val / 2, t.val % 2] := by
  revert t; decide +kernel
theorem index4 (t : Fin cfg0.N) : (cfg0.win 4).index t = ![t.val / 2, t.val % 2] := by
  revert t; decide +kernel
theorem cosines_covered : (cfg0.win 3).Covers := by decide +kernel
theorem sines_covered : (cfg0.win 4).Covers := by decide +kernel

theorem block0_emb (t : Fin cfg0.N) (r : Fin 512) (j : Fin 4096) :
    ((cfg0.win 0).blk t).view.emb (ix2 r j) = (ix2 ⟨t.val / 2 * 512 + r.val, by have := point_lt t; omega⟩ j : (S16384x4096).Idx) := by
  have h := point_lt t
  funext a
  apply Fin.ext
  match a with
  | ⟨0, _⟩ => blk_simp; rw [show win0_0.index t = _ from index0 t]; first | rfl | simp
  | ⟨1, _⟩ => blk_simp; rw [show win0_0.index t = _ from index0 t]; first | rfl | simp

theorem block1_emb (t : Fin cfg0.N) (r : Fin 4096) (j : Fin 1024) :
    ((cfg0.win 1).blk t).view.emb (ix2 r j) = (ix2 r ⟨t.val % 2 * 1024 + j.val, by have := point_lt t; omega⟩ : (S4096x2048).Idx) := by
  have h := point_lt t
  funext a
  apply Fin.ext
  match a with
  | ⟨0, _⟩ => blk_simp; rw [show win0_1.index t = _ from index1 t]; first | rfl | simp
  | ⟨1, _⟩ => blk_simp; rw [show win0_1.index t = _ from index1 t]; first | rfl | simp

theorem block2_emb (t : Fin cfg0.N) (r : Fin 256) (j : Fin 512) :
    ((cfg0.win 2).blk t).view.emb (ix2 r j) = (ix2 r j : (S256x512).Idx) := by
  have h := point_lt t
  funext a
  apply Fin.ext
  match a with
  | ⟨0, _⟩ => blk_simp; rw [show win0_2.index t = _ from index2 t]; first | rfl | simp
  | ⟨1, _⟩ => blk_simp; rw [show win0_2.index t = _ from index2 t]; first | rfl | simp

theorem block3_emb (t : Fin cfg0.N) (r : Fin 512) (j : Fin 1024) :
    ((cfg0.win 3).blk t).view.emb (ix2 r j) = (ix2 ⟨t.val / 2 * 512 + r.val, by have := point_lt t; omega⟩ ⟨t.val % 2 * 1024 + j.val, by have := point_lt t; omega⟩ : (S16384x2048).Idx) := by
  have h := point_lt t
  funext a
  apply Fin.ext
  match a with
  | ⟨0, _⟩ => blk_simp; rw [show win0_3.index t = _ from index3 t]; first | rfl | simp
  | ⟨1, _⟩ => blk_simp; rw [show win0_3.index t = _ from index3 t]; first | rfl | simp

theorem block4_emb (t : Fin cfg0.N) (r : Fin 512) (j : Fin 1024) :
    ((cfg0.win 4).blk t).view.emb (ix2 r j) = (ix2 ⟨t.val / 2 * 512 + r.val, by have := point_lt t; omega⟩ ⟨t.val % 2 * 1024 + j.val, by have := point_lt t; omega⟩ : (S16384x2048).Idx) := by
  have h := point_lt t
  funext a
  apply Fin.ext
  match a with
  | ⟨0, _⟩ => blk_simp; rw [show win0_4.index t = _ from index4 t]; first | rfl | simp
  | ⟨1, _⟩ => blk_simp; rw [show win0_4.index t = _ from index4 t]; first | rfl | simp

theorem block_h (t : Fin cfg0.N) (r : Fin 512) (j : Fin 4096) : iblk m c 0 t (ix2 r j) = argH m c (ix3 ⟨(t.val / 2 * 512 + r.val) / 8192, by have := point_lt t; omega⟩ ⟨(t.val / 2 * 512 + r.val) % 8192, by have := point_lt t; omega⟩ j) :=
  (congrArg (V m c (Pipeline.arrRef spec0 0)) (block0_emb t r j)).trans (staged_h m c _ _)
theorem block_w (t : Fin cfg0.N) (r : Fin 4096) (j : Fin 1024) : iblk m c 1 t (ix2 r j) = argW m c (ix2 r ⟨6144 + (t.val % 2 * 1024 + j.val), by have := point_lt t; omega⟩) :=
  (congrArg (V m c (Pipeline.arrRef spec0 1)) (block1_emb t r j)).trans (staged_w m c _ _)
theorem block_cos (t : Fin cfg0.N) (a k : Fin 256) : iblk m c 2 t (ix2 a ⟨k.val, by omega⟩ : S256x512.Idx) = ((Real.cos (Cert.Turn.angle ((a.val * k.val : ℕ) : ℝ)) : ℝ) : EReal) :=
  (congrArg (V m c (Pipeline.arrRef spec0 2)) (block2_emb t a _)).trans (staged_cos m c a k)
theorem block_sin (t : Fin cfg0.N) (a k : Fin 256) : iblk m c 2 t (ix2 a ⟨256 + k.val, by omega⟩ : S256x512.Idx) = ((Real.sin (Cert.Turn.angle ((a.val * k.val : ℕ) : ℝ)) : ℝ) : EReal) :=
  (congrArg (V m c (Pipeline.arrRef spec0 2)) (block2_emb t a _)).trans (staged_sin m c a k)

/-- The reference's two results of the arguments that the program is given. -/
def wanted0 : FVec Ideal S16384x2048 .bf16 := Cert.FprojRefIdeal.Call.answer0 (argH m c) (argW m c)
def wanted1 : FVec Ideal S16384x2048 .bf16 := Cert.FprojRefIdeal.Call.answer1 (argH m c) (argW m c)

/-- The launch's array of cosines is the reference's. -/
theorem final0 : (dats m 0 c).arrAt 3 cfg0.N = wanted0 m c := by
  refine (dats m 0 c).arrAt_eq_of_covers 3 _ cosines_covered fun t hf y => ?_
  blk_simp
  rw [after0_3]
  obtain ⟨r, j, rfl⟩ : ∃ (r : Fin 512) (j : Fin 1024), y = ix2 r j := ⟨y 0, y 1, eq_ix2 y⟩
  refine ((body3_at _ _ _ r j).trans ?_).trans (congrArg (wanted0 m c) (block3_emb t r j)).symm
  have h := point_lt t
  unfold wanted0 Cert.FprojRefIdeal.Call.answer0
  rw [Cert.FprojRefIdeal.Call.against_at]
  unfold entry
  refine Finset.sum_congr rfl fun a _ => ?_
  refine congr (congrArg HMul.hMul ?_) ?_
  · refine Finset.sum_congr rfl fun k _ => ?_
    rw [block_h, block_w]
    exact congrArg (fun n => _ * argW m c (ix2 k n)) (Fin.ext (show 6144 + (t.val % 2 * 1024 + (256 * (j.val / 256) + a.val)) = 6144 + ((t.val % 2 * 1024 + j.val) / 256 * 256 + a.val) by omega))
  · refine Eq.trans ?_ (congrArg Ideal.cos (Cert.FprojRefIdeal.Call.angles_at a _)).symm
    have e : (⟨(t.val % 2 * 1024 + j.val) % 256, by omega⟩ : Fin 256) = ⟨j.val % 256, by omega⟩ := Fin.ext (show (t.val % 2 * 1024 + j.val) % 256 = j.val % 256 by omega)
    refine Eq.trans ?_ (congrArg (fun n : Fin 256 => ((Real.cos (Cert.Turn.angle ((a.val * n.val : ℕ) : ℝ)) : ℝ) : EReal)) e).symm
    refine Eq.trans ?_ (block_cos m c t a ⟨j.val % 256, by omega⟩)
    exact congrArg (fun n : Fin 512 => iblk m c 2 t (ix2 a n : S256x512.Idx)) (Fin.ext (show 0 + j.val % 256 = j.val % 256 by omega))

/-- The launch's array of sines is the reference's. -/
theorem final1 : (dats m 0 c).arrAt 4 cfg0.N = wanted1 m c := by
  refine (dats m 0 c).arrAt_eq_of_covers 4 _ sines_covered fun t hf y => ?_
  blk_simp
  rw [after0_4]
  obtain ⟨r, j, rfl⟩ : ∃ (r : Fin 512) (j : Fin 1024), y = ix2 r j := ⟨y 0, y 1, eq_ix2 y⟩
  refine ((body4_at _ _ _ r j).trans ?_).trans (congrArg (wanted1 m c) (block4_emb t r j)).symm
  have h := point_lt t
  unfold wanted1 Cert.FprojRefIdeal.Call.answer1
  rw [Cert.FprojRefIdeal.Call.against_at]
  unfold entry
  refine Finset.sum_congr rfl fun a _ => ?_
  refine congr (congrArg HMul.hMul ?_) ?_
  · refine Finset.sum_congr rfl fun k _ => ?_
    rw [block_h, block_w]
    exact congrArg (fun n => _ * argW m c (ix2 k n)) (Fin.ext (show 6144 + (t.val % 2 * 1024 + (256 * (j.val / 256) + a.val)) = 6144 + ((t.val % 2 * 1024 + j.val) / 256 * 256 + a.val) by omega))
  · refine Eq.trans ?_ (congrArg Ideal.sin (Cert.FprojRefIdeal.Call.angles_at a _)).symm
    have e : (⟨(t.val % 2 * 1024 + j.val) % 256, by omega⟩ : Fin 256) = ⟨j.val % 256, by omega⟩ := Fin.ext (show (t.val % 2 * 1024 + j.val) % 256 = j.val % 256 by omega)
    refine Eq.trans ?_ (congrArg (fun n : Fin 256 => ((Real.sin (Cert.Turn.angle ((a.val * n.val : ℕ) : ℝ)) : ℝ) : EReal)) e).symm
    exact block_sin m c t a ⟨j.val % 256, by omega⟩

end Cert.FprojIdeal.Call

end
-- ==== Proof.Calls.Ln.lean ====
/-
  What the modulated norm computes: the root-mean-square norm of each row, scaled and shifted, entry by entry.
-/
module

public import proofs.«01_k».proof.Proof.Gen.LnIdeal.Value
public import proofs.«01_k».proof.Proof.Gen.LnRefIdeal
public import Idealize.ShloMosaic.Lib.Pointwise
public import Idealize.ShloMosaic.Lib.StableHlo.ReadAt
public import Idealize.ShloMosaic.Lib.Pipeline.ValueKit

@[expose] public section

set_option maxRecDepth 16384

noncomputable section

namespace Cert.LnRefIdeal.Call

open Cert.LnRefIdeal Cert.LnRefIdeal.Gen
open Idealize.ShloMosaic

/-- The reference's result of its arguments. -/
def answer (x : FVec Ideal S2x8192x4096 .f32) (w : FVec Ideal S4096 .f32) (sc sh : FVec Ideal S2x1x4096 .f32) : FVec Ideal S16384x4096 .bf16 :=
  truncf .bf16 (shapeCast _ (addf (mulf (mulf (mulf x (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf x x) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 w))) (broadcastInDim S2x8192x4096 ![0, 1, 2] bcast_S2x1x4096_S2x8192x4096_0_1_2 (addf (broadcastInDim S2x1x4096 ![] bcast_S_S2x1x4096 (constant S_ .f32 0x3F800000#32)) sc))) (broadcastInDim S2x8192x4096 ![0, 1, 2] bcast_S2x1x4096_S2x8192x4096_0_1_2 sh)) shapeCasts_S2x8192x4096_S16384x4096) bitsLt_bf16_f32

theorem answer_at (x : FVec Ideal S2x8192x4096 .f32) (w : FVec Ideal S4096 .f32) (sc sh : FVec Ideal S2x1x4096 .f32) (r : Fin 16384) (j : Fin 4096) :
    answer x w sc sh (ix2 r j) = x (ix3 ⟨r.val / 8192, by omega⟩ ⟨r.val % 8192, by omega⟩ j)
      * Ideal.rsqrt (Ideal.div (∑ k : Fin 4096, x (ix3 ⟨r.val / 8192, by omega⟩ ⟨r.val % 8192, by omega⟩ k) * x (ix3 ⟨r.val / 8192, by omega⟩ ⟨r.val % 8192, by omega⟩ k))
          (Ideal.ofBits .f32 0x45800000#32) + Ideal.ofBits .f32 0x358637BD#32)
      * w (ix1 j) * (Ideal.ofBits .f32 0x3F800000#32 + sc (ix3 ⟨r.val / 8192, by omega⟩ 0 j)) + sh (ix3 ⟨r.val / 8192, by omega⟩ 0 j) := by
  pointwise [answer]

end Cert.LnRefIdeal.Call

namespace Cert.LnIdeal.Call

open Cert.LnIdeal Cert.LnIdeal.Gen
open Idealize.ShloMosaic Idealize.ShloMosaic.TcCoe Idealize.ShloMosaic.Pipeline

variable (m : (ℓ : Loc nD τ sig) → Buf (Elt Ideal) ℓ) (c : Dev nD)

abbrev argX : FVec Ideal S2x8192x4096 .f32 := m ((c.tc : Thread nD τ).loc main_arg0)
abbrev argW : FVec Ideal S4096 .f32 := m ((c.tc : Thread nD τ).loc main_arg1)
abbrev argScale : FVec Ideal S2x1x4096 .f32 := m ((c.tc : Thread nD τ).loc main_arg2)
abbrev argShift : FVec Ideal S2x1x4096 .f32 := m ((c.tc : Thread nD τ).loc main_arg3)

/-- The body's block of its four blocks, entry by entry. -/
theorem body_at (x0 : Vec Ideal S256x4096 .f32) (x1 : Vec Ideal S1x4096 .f32) (x2 x3 : Vec Ideal S1x1x4096 .f32)
    (r : Fin 256) (j : Fin 4096) :
    out0_4 x0 x1 x2 x3 (ix2 r j) = x0 (ix2 r j)
      * Ideal.rsqrt (Ideal.div (∑ k : Fin 4096, x0 (ix2 r k) * x0 (ix2 r k)) (Ideal.ofBits .f32 0x45800000#32) + Ideal.ofBits .f32 0x358637BD#32)
      * x1 (ix2 0 j) * (Ideal.ofBits .f32 0x3F800000#32 + x2 (ix3 0 0 j)) + x3 (ix3 0 0 j) := by
  unfold out0_4
  simp (disch := decide) only [View.canon_cons_unit_lit', View.ld_unit_lit']
  pointwise [k0_pay1]

theorem staged_x (r : Fin 16384) (j : Fin 4096) : (V m c (Pipeline.arrRef spec0 0) : FVec Ideal S16384x4096 .f32) (ix2 r j) = argX m c (ix3 ⟨r.val / 8192, by omega⟩ ⟨r.val % 8192, by omega⟩ j) := by
  show (V m c main_v0 : FVec Ideal S16384x4096 .f32) (ix2 r j) = _
  unfold V
  after_reads_at
theorem staged_w (j : Fin 4096) : (V m c (Pipeline.arrRef spec0 1) : FVec Ideal S1x4096 .f32) (ix2 0 j) = argW m c (ix1 j) := by
  show (V m c main_v1 : FVec Ideal S1x4096 .f32) (ix2 0 j) = _
  unfold V
  after_reads_at

theorem point_lt (t : Fin cfg0.N) : t.val < 64 := t.isLt
theorem index0 (t : Fin cfg0.N) : (cfg0.win 0).index t = ![t.val, 0] := by
  revert t; decide +kernel
theorem index1 (t : Fin cfg0.N) : (cfg0.win 1).index t = ![0, 0] := by
  revert t; decide +kernel
theorem index2 (t : Fin cfg0.N) : (cfg0.win 2).index t = ![t.val / 32, 0, 0] := by
  revert t; decide +kernel
theorem index3 (t : Fin cfg0.N) : (cfg0.win 3).index t = ![t.val / 32, 0, 0] := by
  revert t; decide +kernel
theorem index4 (t : Fin cfg0.N) : (cfg0.win 4).index t = ![t.val, 0] := by
  revert t; decide +kernel
theorem out_covered : (cfg0.win 4).Covers := by decide +kernel

theorem block0_emb (t : Fin cfg0.N) (r : Fin 256) (j : Fin 4096) :
    ((cfg0.win 0).blk t).view.emb (ix2 r j) = (ix2 ⟨t.val * 256 + r.val, by have := point_lt t; omega⟩ j : (S16384x4096).Idx) := by
  have h := point_lt t
  funext a
  apply Fin.ext
  match a with
  | ⟨0, _⟩ => blk_simp; rw [show win0_0.index t = _ from index0 t]; first | rfl | simp
  | ⟨1, _⟩ => blk_simp; rw [show win0_0.index t = _ from index0 t]; first | rfl | simp

theorem block1_emb (t : Fin cfg0.N) (j : Fin 4096) :
    ((cfg0.win 1).blk t).view.emb ((ix2 0 j : S1x4096.Idx)) = (ix2 0 j : (S1x4096).Idx) := by
  have h := point_lt t
  funext a
  apply Fin.ext
  match a with
  | ⟨0, _⟩ => blk_simp; rw [show win0_1.index t = _ from index1 t]; first | rfl | simp
  | ⟨1, _⟩ => blk_simp; rw [show win0_1.index t = _ from index1 t]; first | rfl | simp

theorem block2_emb (t : Fin cfg0.N) (j : Fin 4096) :
    ((cfg0.win 2).blk t).view.emb ((ix3 0 0 j : S1x1x4096.Idx)) = (ix3 ⟨t.val / 32, by have := point_lt t; omega⟩ 0 j : (S2x1x4096).Idx) := by
  have h := point_lt t
  funext a
  apply Fin.ext
  match a with
  | ⟨0, _⟩ => blk_simp; rw [show win0_2.index t = _ from index2 t]; first | rfl | simp
  | ⟨1, _⟩ => blk_simp; rw [show win0_2.index t = _ from index2 t]; first | rfl | simp
  | ⟨2, _⟩ => blk_simp; rw [show win0_2.index t = _ from index2 t]; first | rfl | simp

theorem block3_emb (t : Fin cfg0.N) (j : Fin 4096) :
    ((cfg0.win 3).blk t).view.emb ((ix3 0 0 j : S1x1x4096.Idx)) = (ix3 ⟨t.val / 32, by have := point_lt t; omega⟩ 0 j : (S2x1x4096).Idx) := by
  have h := point_lt t
  funext a
  apply Fin.ext
  match a with
  | ⟨0, _⟩ => blk_simp; rw [show win0_3.index t = _ from index3 t]; first | rfl | simp
  | ⟨1, _⟩ => blk_simp; rw [show win0_3.index t = _ from index3 t]; first | rfl | simp
  | ⟨2, _⟩ => blk_simp; rw [show win0_3.index t = _ from index3 t]; first | rfl | simp

theorem block4_emb (t : Fin cfg0.N) (r : Fin 256) (j : Fin 4096) :
    ((cfg0.win 4).blk t).view.emb (ix2 r j) = (ix2 ⟨t.val * 256 + r.val, by have := point_lt t; omega⟩ j : (S16384x4096).Idx) := by
  have h := point_lt t
  funext a
  apply Fin.ext
  match a with
  | ⟨0, _⟩ => blk_simp; rw [show win0_4.index t = _ from index4 t]; first | rfl | simp
  | ⟨1, _⟩ => blk_simp; rw [show win0_4.index t = _ from index4 t]; first | rfl | simp

theorem block_x (t : Fin cfg0.N) (r : Fin 256) (j : Fin 4096) : iblk m c 0 t (ix2 r j) = argX m c (ix3 ⟨(t.val * 256 + r.val) / 8192, by have := point_lt t; omega⟩ ⟨(t.val * 256 + r.val) % 8192, by have := point_lt t; omega⟩ j) :=
  (congrArg (V m c (Pipeline.arrRef spec0 0)) (block0_emb t r j)).trans (staged_x m c _ _)
theorem block_w (t : Fin cfg0.N) (j : Fin 4096) : iblk m c 1 t (ix2 0 j : S1x4096.Idx) = argW m c (ix1 j) :=
  (congrArg (V m c (Pipeline.arrRef spec0 1)) (block1_emb t j)).trans (staged_w m c _)
theorem block_scale (t : Fin cfg0.N) (r : Fin 256) (j : Fin 4096) : iblk m c 2 t (ix3 0 0 j : S1x1x4096.Idx) = argScale m c (ix3 ⟨(t.val * 256 + r.val) / 8192, by have := point_lt t; omega⟩ 0 j) := by
  have h := point_lt t
  refine (congrArg (V m c (Pipeline.arrRef spec0 2)) (block2_emb t j)).trans ?_
  rw [show V m c (Pipeline.arrRef spec0 2) = argScale m c from V_main_arg2 m c]
  exact congrArg (fun b => argScale m c (ix3 b 0 _)) (Fin.ext (show t.val / 32 = (t.val * 256 + r.val) / 8192 by omega))
theorem block_shift (t : Fin cfg0.N) (r : Fin 256) (j : Fin 4096) : iblk m c 3 t (ix3 0 0 j : S1x1x4096.Idx) = argShift m c (ix3 ⟨(t.val * 256 + r.val) / 8192, by have := point_lt t; omega⟩ 0 j) := by
  have h := point_lt t
  refine (congrArg (V m c (Pipeline.arrRef spec0 3)) (block3_emb t j)).trans ?_
  rw [show V m c (Pipeline.arrRef spec0 3) = argShift m c from V_main_arg3 m c]
  exact congrArg (fun b => argShift m c (ix3 b 0 _)) (Fin.ext (show t.val / 32 = (t.val * 256 + r.val) / 8192 by omega))

/-- The reference's result of the arguments that the program is given. -/
def wanted : FVec Ideal S16384x4096 .bf16 :=
  Cert.LnRefIdeal.Call.answer (argX m c) (argW m c) (argScale m c) (argShift m c)

/-- The launch's output array is the reference's result. -/
theorem final : (dats m 0 c).arrAt 4 cfg0.N = wanted m c := by
  refine (dats m 0 c).arrAt_eq_of_covers 4 _ out_covered fun t hf y => ?_
  blk_simp
  rw [after0_4]
  obtain ⟨r, j, rfl⟩ : ∃ (r : Fin 256) (j : Fin 4096), y = ix2 r j := ⟨y 0, y 1, eq_ix2 y⟩
  refine ((body_at _ _ _ _ r j).trans ?_).trans (congrArg (wanted m c) (block4_emb t r j)).symm
  unfold wanted
  rw [Cert.LnRefIdeal.Call.answer_at, block_w, block_scale m c t r j, block_shift m c t r j]
  simp only [block_x]

end Cert.LnIdeal.Call

end
-- ==== Proof.Calls.MixRun.lean ====
/-
  What the two launches of the Fourier mixing leave: the second launch's array, of the first launch's.
-/
module

public import proofs.«01_k».proof.Proof.Gen.MixIdeal.Frame

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every run of the program ends with the second launch's array and its arguments as they were. -/
theorem ends : θ_run defs (onTc (τ := τ) (main (F := F))) ⟨m, fun _ => 0, ρ⟩ (fun r => (∀ c : Dev nD,
      r.2.mem ((c.tc : Thread nD τ).loc main_v74) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v74 (by decide))).trans (W4_arr m ρ c 3),
       (h c _ (mem_uc main_arg0 (by decide))).trans (W4_main_arg0 m ρ c),
       (h c _ (mem_uc main_arg1 (by decide))).trans (W4_main_arg1 m ρ c)⟩), funext fun g => hz g (.inr (no_unscoped g.2))⟩)

end Cert.MixIdeal.Gen

end
-- ==== Proof.Calls.MixBody.lean ====
/-
  What the two bodies of the Fourier mixing hold at an index.
-/
module

public import proofs.«01_k».proof.Proof.Gen.MixIdeal.Frame
public import Idealize.ShloMosaic.Lib.Pointwise
public import Idealize.ShloMosaic.Lib.StableHlo.ReadAt
public import Idealize.ShloMosaic.Lib.Pipeline.ValueKit

@[expose] public section

set_option maxRecDepth 16384

noncomputable section

namespace Cert.MixIdeal.Call

open Cert.MixIdeal Cert.MixIdeal.Gen
open Idealize.ShloMosaic Idealize.ShloMosaic.TcCoe Idealize.ShloMosaic.Pipeline

/-- The product of the first body's table with the two operands, one above the other. -/
def sums (x0 : Vec Ideal S128x128 .bf16) (x1 x2 : Vec Ideal S1x64x8192 .bf16) (r : Fin 128) (j : Fin 8192) : EReal :=
  (∑ k : Fin 64, x0 (ix2 r ⟨k.val, by omega⟩) * x1 (ix3 0 k j)) + ∑ k : Fin 64, x0 (ix2 r ⟨64 + k.val, by omega⟩) * x2 (ix3 0 k j)

theorem stacked_low (x1 x2 : FVec Ideal S64x8192 .bf16) (k : Fin 64) (j : Fin 8192) :
    concatenate S128x8192 0 [⟨S64x8192, x1⟩, ⟨S64x8192, x2⟩] concatenates_S64x8192_S64x8192_S128x8192_d0 (ix2 ⟨k.val, by omega⟩ j) = x1 (ix2 k j) := by
  have h := k.isLt
  pointwise
theorem stacked_high (x1 x2 : FVec Ideal S64x8192 .bf16) (k : Fin 64) (j : Fin 8192) :
    concatenate S128x8192 0 [⟨S64x8192, x1⟩, ⟨S64x8192, x2⟩] concatenates_S64x8192_S64x8192_S128x8192_d0 (ix2 ⟨64 + k.val, by omega⟩ j) = x2 (ix2 k j) := by
  have h := k.isLt
  pointwise

theorem product_at (x0 : FVec Ideal S128x128 .bf16) (z : FVec Ideal S128x8192 .bf16) (r : Fin 128) (j : Fin 8192) :
    matmul dot_S128x128_S128x8192_S128x8192_1_0_0_1_n_n none x0 z (constant (F := Ideal) S128x8192 .f32 0x00000000#32) (ix2 r j) = ∑ k : Fin 128, x0 (ix2 r k) * z (ix2 k j) := by
  pointwise

theorem pay8_at (x1 x2 : Vec Ideal S1x64x8192 .bf16) (x0 : Vec Ideal S128x128 .bf16) (r : Fin 128) (j : Fin 8192) :
    k0_pay8 x1 x2 x0 (ix2 r j) = sums x0 x1 x2 r j := by
  unfold k0_pay8 sums
  refine (product_at _ _ r j).trans ((Fin.sum_univ_add (a := 64) (b := 64) _).trans ?_)
  refine congr (congrArg HAdd.hAdd ?_) ?_
  · refine Finset.sum_congr rfl fun k _ => ?_
    refine congr (congrArg HMul.hMul ?_) ((stacked_low _ _ k j).trans ?_)
    · pointwise; rfl
    · pointwise
  · refine Finset.sum_congr rfl fun k _ => ?_
    refine congr (congrArg HMul.hMul ?_) ((stacked_high _ _ k j).trans ?_)
    · pointwise; rfl
    · pointwise

/-- A row of 128 lanes, sixteen times side by side. -/
theorem tile_at (x : Vec Ideal S1x64x128 .f32) (r : Fin 64) (j : Fin 2048) : k0_pay4 x (ix2 r j) = x (ix3 0 r ⟨j.val % 128, by omega⟩) := by
  unfold k0_pay4
  refine (concatenate_replicate_apply (t := S64x2048) (s₁ := S64x128) 1 16 _ _ rfl (ix2 r j) (ix2 r ⟨j.val % 128, by omega⟩) rfl ?_).trans ?_
  · intro b hb
    match b, hb with
    | ⟨0, _⟩, _ => rfl
    | ⟨1, _⟩, hb => exact absurd rfl hb
  · pointwise

theorem pay13_at (x1 x2 : Vec Ideal S1x64x8192 .bf16) (x0 : Vec Ideal S128x128 .bf16) (u v : Vec Ideal S1x64x128 .f32) (r : Fin 64) (j : Fin 2048) :
    k0_pay13 x1 x2 x0 u v (ix3 0 r j) = k0_pay8 x1 x2 x0 (ix2 ⟨r.val, by omega⟩ ⟨0 + j.val, by omega⟩) * k0_pay4 u (ix2 r j) + k0_pay8 x1 x2 x0 (ix2 ⟨64 + r.val, by omega⟩ ⟨0 + j.val, by omega⟩) * k0_pay4 v (ix2 r j) := by
  pointwise [k0_pay13, k0_pay9, k0_pay10]
  first | done | rfl | (simp only [Nat.zero_add]; rfl)
theorem pay14_at (x1 x2 : Vec Ideal S1x64x8192 .bf16) (x0 : Vec Ideal S128x128 .bf16) (u v : Vec Ideal S1x64x128 .f32) (r : Fin 64) (j : Fin 2048) :
    k0_pay14 x1 x2 x0 u v (ix3 0 r j) = k0_pay8 x1 x2 x0 (ix2 ⟨64 + r.val, by omega⟩ ⟨0 + j.val, by omega⟩) * k0_pay4 u (ix2 r j) - k0_pay8 x1 x2 x0 (ix2 ⟨r.val, by omega⟩ ⟨0 + j.val, by omega⟩) * k0_pay4 v (ix2 r j) := by
  pointwise [k0_pay14, k0_pay9, k0_pay10]
  first | done | rfl | (simp only [Nat.zero_add]; rfl)
theorem pay19_at (x1 x2 : Vec Ideal S1x64x8192 .bf16) (x0 : Vec Ideal S128x128 .bf16) (u v : Vec Ideal S1x64x128 .f32) (r : Fin 64) (j : Fin 2048) :
    k0_pay19 (k0_pay15 x1 x2 x0) (k0_pay16 x1 x2 x0) u v (ix3 0 r j) = k0_pay8 x1 x2 x0 (ix2 ⟨r.val, by omega⟩ ⟨2048 + j.val, by omega⟩) * k0_pay4 u (ix2 r j) + k0_pay8 x1 x2 x0 (ix2 ⟨64 + r.val, by omega⟩ ⟨2048 + j.val, by omega⟩) * k0_pay4 v (ix2 r j) := by
  pointwise [k0_pay19, k0_pay15, k0_pay16]
  first | done | rfl | (simp only [Nat.zero_add]; rfl)
theorem pay20_at (x1 x2 : Vec Ideal S1x64x8192 .bf16) (x0 : Vec Ideal S128x128 .bf16) (u v : Vec Ideal S1x64x128 .f32) (r : Fin 64) (j : Fin 2048) :
    k0_pay20 (k0_pay15 x1 x2 x0) (k0_pay16 x1 x2 x0) u v (ix3 0 r j) = k0_pay8 x1 x2 x0 (ix2 ⟨64 + r.val, by omega⟩ ⟨2048 + j.val, by omega⟩) * k0_pay4 u (ix2 r j) - k0_pay8 x1 x2 x0 (ix2 ⟨r.val, by omega⟩ ⟨2048 + j.val, by omega⟩) * k0_pay4 v (ix2 r j) := by
  pointwise [k0_pay20, k0_pay15, k0_pay16]
  first | done | rfl | (simp only [Nat.zero_add]; rfl)
theorem pay25_at (z : FVec Ideal S128x8192 .f32) (u v : Vec Ideal S1x64x128 .f32) (r : Fin 64) (j : Fin 2048) :
    k0_pay25 z u v (ix3 0 r j) = z (ix2 ⟨r.val, by omega⟩ ⟨4096 + j.val, by omega⟩) * k0_pay4 u (ix2 r j) + z (ix2 ⟨64 + r.val, by omega⟩ ⟨4096 + j.val, by omega⟩) * k0_pay4 v (ix2 r j) := by
  pointwise [k0_pay25, k0_pay21, k0_pay22]
  first | done | rfl | (simp only [Nat.zero_add]; rfl)
theorem pay26_at (z : FVec Ideal S128x8192 .f32) (u v : Vec Ideal S1x64x128 .f32) (r : Fin 64) (j : Fin 2048) :
    k0_pay1 (k0_pay26 z u v) (ix3 0 r j) = z (ix2 ⟨64 + r.val, by omega⟩ ⟨4096 + j.val, by omega⟩) * k0_pay4 u (ix2 r j) - z (ix2 ⟨r.val, by omega⟩ ⟨4096 + j.val, by omega⟩) * k0_pay4 v (ix2 r j) := by
  pointwise [k0_pay1, k0_pay26, k0_pay21, k0_pay22]
  first | done | rfl | (simp only [Nat.zero_add]; rfl)
theorem pay6_at (z : FVec Ideal S128x8192 .f32) (u v : Vec Ideal S1x64x128 .f32) (r : Fin 64) (j : Fin 2048) :
    k0_pay6 z u v (ix3 0 r j) = z (ix2 ⟨r.val, by omega⟩ ⟨6144 + j.val, by omega⟩) * k0_pay4 u (ix2 r j) + z (ix2 ⟨64 + r.val, by omega⟩ ⟨6144 + j.val, by omega⟩) * k0_pay4 v (ix2 r j) := by
  pointwise [k0_pay6, k0_pay2, k0_pay3]
  first | done | rfl | (simp only [Nat.zero_add]; rfl)
theorem pay7_at (z : FVec Ideal S128x8192 .f32) (u v : Vec Ideal S1x64x128 .f32) (r : Fin 64) (j : Fin 2048) :
    k0_pay7 z u v (ix3 0 r j) = z (ix2 ⟨64 + r.val, by omega⟩ ⟨6144 + j.val, by omega⟩) * k0_pay4 u (ix2 r j) - z (ix2 ⟨r.val, by omega⟩ ⟨6144 + j.val, by omega⟩) * k0_pay4 v (ix2 r j) := by
  pointwise [k0_pay7, k0_pay2, k0_pay3]
  first | done | rfl | (simp only [Nat.zero_add]; rfl)

/-- One entry of the first body's two blocks: the sums, turned by the angle of their row. -/
def turnA (x0 : Vec Ideal S128x128 .bf16) (x1 x2 : Vec Ideal S1x64x8192 .bf16) (x3 x4 : Vec Ideal S4x64x128 .f32) (r : Fin 64) (j : Fin 8192) : EReal :=
  sums x0 x1 x2 ⟨r.val, by omega⟩ j * x3 (ix3 ⟨j.val / 2048, by omega⟩ r ⟨j.val % 128, by omega⟩) + sums x0 x1 x2 ⟨64 + r.val, by omega⟩ j * x4 (ix3 ⟨j.val / 2048, by omega⟩ r ⟨j.val % 128, by omega⟩)
def turnB (x0 : Vec Ideal S128x128 .bf16) (x1 x2 : Vec Ideal S1x64x8192 .bf16) (x3 x4 : Vec Ideal S4x64x128 .f32) (r : Fin 64) (j : Fin 8192) : EReal :=
  sums x0 x1 x2 ⟨64 + r.val, by omega⟩ j * x3 (ix3 ⟨j.val / 2048, by omega⟩ r ⟨j.val % 128, by omega⟩) - sums x0 x1 x2 ⟨r.val, by omega⟩ j * x4 (ix3 ⟨j.val / 2048, by omega⟩ r ⟨j.val % 128, by omega⟩)

theorem turnA_of (x0 : Vec Ideal S128x128 .bf16) (x1 x2 : Vec Ideal S1x64x8192 .bf16) (x3 x4 : Vec Ideal S4x64x128 .f32) (u v : Vec Ideal S1x64x128 .f32) (g : Fin 4)
    (hu : ∀ (r : Fin 64) (l : Fin 128), u (ix3 0 r l) = x3 (ix3 g r l)) (hv : ∀ (r : Fin 64) (l : Fin 128), v (ix3 0 r l) = x4 (ix3 g r l))
    (r : Fin 64) (j : Fin 2048) {r' : Fin 64} {n j' : Fin 8192} (er : r'.val = r.val) (en : n.val = 2048 * g.val + j.val) (ej : j'.val = n.val) :
    k0_pay8 x1 x2 x0 (ix2 ⟨r.val, by omega⟩ n) * k0_pay4 u (ix2 r j) + k0_pay8 x1 x2 x0 (ix2 ⟨64 + r.val, by omega⟩ n) * k0_pay4 v (ix2 r j) = turnA x0 x1 x2 x3 x4 r' j' := by
  obtain rfl : r' = r := Fin.ext er
  obtain rfl : j' = n := Fin.ext ej
  have hg : (⟨j'.val / 2048, by omega⟩ : Fin 4) = g := Fin.ext (show j'.val / 2048 = g.val by omega)
  have hl : (⟨j'.val % 128, by omega⟩ : Fin 128) = ⟨j.val % 128, by omega⟩ := Fin.ext (show j'.val % 128 = j.val % 128 by omega)
  unfold turnA
  rw [hg, hl, tile_at, tile_at, pay8_at, pay8_at, hu, hv]
theorem turnB_of (x0 : Vec Ideal S128x128 .bf16) (x1 x2 : Vec Ideal S1x64x8192 .bf16) (x3 x4 : Vec Ideal S4x64x128 .f32) (u v : Vec Ideal S1x64x128 .f32) (g : Fin 4)
    (hu : ∀ (r : Fin 64) (l : Fin 128), u (ix3 0 r l) = x3 (ix3 g r l)) (hv : ∀ (r : Fin 64) (l : Fin 128), v (ix3 0 r l) = x4 (ix3 g r l))
    (r : Fin 64) (j : Fin 2048) {r' : Fin 64} {n j' : Fin 8192} (er : r'.val = r.val) (en : n.val = 2048 * g.val + j.val) (ej : j'.val = n.val) :
    k0_pay8 x1 x2 x0 (ix2 ⟨64 + r.val, by omega⟩ n) * k0_pay4 u (ix2 r j) - k0_pay8 x1 x2 x0 (ix2 ⟨r.val, by omega⟩ n) * k0_pay4 v (ix2 r j) = turnB x0 x1 x2 x3 x4 r' j' := by
  obtain rfl : r' = r := Fin.ext er
  obtain rfl : j' = n := Fin.ext ej
  have hg : (⟨j'.val / 2048, by omega⟩ : Fin 4) = g := Fin.ext (show j'.val / 2048 = g.val by omega)
  have hl : (⟨j'.val % 128, by omega⟩ : Fin 128) = ⟨j.val % 128, by omega⟩ := Fin.ext (show j'.val % 128 = j.val % 128 by omega)
  unfold turnB
  rw [hg, hl, tile_at, tile_at, pay8_at, pay8_at, hu, hv]

/-- A row of the turns' block, as the body loads it. -/
theorem row0_at (x : Vec Ideal S4x64x128 .f32) (r : Fin 64) (l : Fin 128) : View.ld x r0_2 (ix3 0 r l) = x (ix3 0 r l) := by
  pointwise
theorem row1_at (x : Vec Ideal S4x64x128 .f32) (r : Fin 64) (l : Fin 128) : View.ld x r0_4 (ix3 0 r l) = x (ix3 1 r l) := by
  pointwise
theorem row2_at (x : Vec Ideal S4x64x128 .f32) (r : Fin 64) (l : Fin 128) : View.ld x r0_6 (ix3 0 r l) = x (ix3 2 r l) := by
  pointwise
theorem row3_at (x : Vec Ideal S4x64x128 .f32) (r : Fin 64) (l : Fin 128) : View.ld x r0_8 (ix3 0 r l) = x (ix3 3 r l) := by
  pointwise

/-- The first body's block number 1. -/
theorem body5_at (x0 : Vec Ideal S128x128 .bf16) (x1 x2 : Vec Ideal S1x64x8192 .bf16) (x3 x4 : Vec Ideal S4x64x128 .f32) (r : Fin 64) (j : Fin 8192) :
    out0_5 x0 x1 x2 x3 x4 (ix3 0 r j) = turnA x0 x1 x2 x3 x4 r j := by
  unfold out0_5 k0_pay27 k0_pay28 k0_pay29
  rw [show View.ld x0 r0_1 = x0 from View.ld_unit_lit' _ _ (by decide), show View.ld x1 r0_0 = x1 from View.ld_unit_lit' _ _ (by decide), show View.ld x2 r0_0 = x2 from View.ld_unit_lit' _ _ (by decide)]
  apply View.canon_apply_of_pieces (Val := Elt Ideal) (S := S1x64x8192) (e := .bf16) (fun y => turnA x0 x1 x2 x3 x4 (y 1) (y 2))
  · simp only [List.forall_mem_cons, List.not_mem_nil, false_implies, implies_true, and_true]
    refine ⟨?_, ?_, ?_, ?_⟩
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay6_at _ _ _ r j).trans (turnA_of x0 x1 x2 x3 x4 _ _ 3 (row3_at x3) (row3_at x4) r j (show 0 + 1 * r.val = r.val by omega) (show 6144 + j.val = 2048 * 3 + j.val by omega) (show 6144 + 1 * j.val = 6144 + j.val by omega))
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay25_at _ _ _ r j).trans (turnA_of x0 x1 x2 x3 x4 _ _ 2 (row2_at x3) (row2_at x4) r j (show 0 + 1 * r.val = r.val by omega) (show 4096 + j.val = 2048 * 2 + j.val by omega) (show 4096 + 1 * j.val = 4096 + j.val by omega))
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay19_at _ _ _ _ _ r j).trans (turnA_of x0 x1 x2 x3 x4 _ _ 1 (row1_at x3) (row1_at x4) r j (show 0 + 1 * r.val = r.val by omega) (show 2048 + j.val = 2048 * 1 + j.val by omega) (show 2048 + 1 * j.val = 2048 + j.val by omega))
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay13_at _ _ _ _ _ r j).trans (turnA_of x0 x1 x2 x3 x4 _ _ 0 (row0_at x3) (row0_at x4) r j (show 0 + 1 * r.val = r.val by omega) (show 0 + j.val = 2048 * 0 + j.val by omega) (show 0 + 1 * j.val = 0 + j.val by omega))
  · exact View.cover_of_tiledL (s := S1x64x8192) (Val := Elt Ideal) (e := .bf16) _ S1x64x2048.size (by sl_kernel_rfl) _

/-- The first body's block number 2. -/
theorem body6_at (x0 : Vec Ideal S128x128 .bf16) (x1 x2 : Vec Ideal S1x64x8192 .bf16) (x3 x4 : Vec Ideal S4x64x128 .f32) (r : Fin 64) (j : Fin 8192) :
    out0_6 x0 x1 x2 x3 x4 (ix3 0 r j) = turnB x0 x1 x2 x3 x4 r j := by
  unfold out0_6 k0_pay27 k0_pay28 k0_pay29
  rw [show View.ld x0 r0_1 = x0 from View.ld_unit_lit' _ _ (by decide), show View.ld x1 r0_0 = x1 from View.ld_unit_lit' _ _ (by decide), show View.ld x2 r0_0 = x2 from View.ld_unit_lit' _ _ (by decide)]
  apply View.canon_apply_of_pieces (Val := Elt Ideal) (S := S1x64x8192) (e := .bf16) (fun y => turnB x0 x1 x2 x3 x4 (y 1) (y 2))
  · simp only [List.forall_mem_cons, List.not_mem_nil, false_implies, implies_true, and_true]
    refine ⟨?_, ?_, ?_, ?_⟩
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay7_at _ _ _ r j).trans (turnB_of x0 x1 x2 x3 x4 _ _ 3 (row3_at x3) (row3_at x4) r j (show 0 + 1 * r.val = r.val by omega) (show 6144 + j.val = 2048 * 3 + j.val by omega) (show 6144 + 1 * j.val = 6144 + j.val by omega))
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay26_at _ _ _ r j).trans (turnB_of x0 x1 x2 x3 x4 _ _ 2 (row2_at x3) (row2_at x4) r j (show 0 + 1 * r.val = r.val by omega) (show 4096 + j.val = 2048 * 2 + j.val by omega) (show 4096 + 1 * j.val = 4096 + j.val by omega))
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay20_at _ _ _ _ _ r j).trans (turnB_of x0 x1 x2 x3 x4 _ _ 1 (row1_at x3) (row1_at x4) r j (show 0 + 1 * r.val = r.val by omega) (show 2048 + j.val = 2048 * 1 + j.val by omega) (show 2048 + 1 * j.val = 2048 + j.val by omega))
    · intro x
      obtain ⟨r, j, rfl⟩ : ∃ (r : Fin 64) (j : Fin 2048), x = ix3 0 r j := ⟨x 1, x 2, (eq_ix3 x).trans (congrArg (fun a => ix3 a (x 1) (x 2)) (Subsingleton.elim _ _))⟩
      exact (pay14_at _ _ _ _ _ r j).trans (turnB_of x0 x1 x2 x3 x4 _ _ 0 (row0_at x3) (row0_at x4) r j (show 0 + 1 * r.val = r.val by omega) (show 0 + j.val = 2048 * 0 + j.val by omega) (show 0 + 1 * j.val = 0 + j.val by omega))
  · exact View.cover_of_tiledL (s := S1x64x8192) (Val := Elt Ideal) (e := .bf16) _ S1x64x2048.size (by sl_kernel_rfl) _

theorem pair_low (x1 x2 : FVec Ideal S128x2048 .bf16) (k : Fin 128) (j : Fin 2048) :
    concatenate S256x2048 0 [⟨S128x2048, x1⟩, ⟨S128x2048, x2⟩] concatenates_S128x2048_S128x2048_S256x2048_d0 (ix2 ⟨k.val, by omega⟩ j) = x1 (ix2 k j) := by
  have h := k.isLt
  pointwise
theorem pair_high (x1 x2 : FVec Ideal S128x2048 .bf16) (k : Fin 128) (j : Fin 2048) :
    concatenate S256x2048 0 [⟨S128x2048, x1⟩, ⟨S128x2048, x2⟩] concatenates_S128x2048_S128x2048_S256x2048_d0 (ix2 ⟨128 + k.val, by omega⟩ j) = x2 (ix2 k j) := by
  have h := k.isLt
  pointwise

theorem product1_at (x0 : FVec Ideal S128x256 .bf16) (z : FVec Ideal S256x2048 .bf16) (r : Fin 128) (j : Fin 2048) :
    matmul dot_S128x256_S256x2048_S128x2048_1_0_0_1_n_n none x0 z (constant (F := Ideal) S128x2048 .f32 0x00000000#32) (ix2 r j) = ∑ k : Fin 256, x0 (ix2 r k) * z (ix2 k j) := by
  pointwise

theorem finish_at (z : FVec Ideal S128x2048 .f32) (r : Fin 128) (j : Fin 2048) :
    shapeCast S1x128x2048 (truncf .bf16 (mulf z (broadcast S128x2048 (Named.named (F := Ideal) (φ := .f32) κ "scale" 0x3A3504F3#32))) bitsLt_bf16_f32) shapeCasts_S128x2048_S1x128x2048 (ix3 0 r j) = z (ix2 r j) * (((Real.sqrt 2097152)⁻¹ : ℝ) : EReal) := by
  pointwise
  rfl

/-- The second body's block. -/
theorem body1_at (x0 : Vec Ideal S128x256 .bf16) (x1 x2 : Vec Ideal S1x1x128x2048 .bf16) (r : Fin 128) (j : Fin 2048) :
    out1_3 x0 x1 x2 (ix3 0 r j) = ((∑ k : Fin 128, x0 (ix2 r ⟨k.val, by omega⟩) * x1 (ix4 0 0 k j)) + ∑ k : Fin 128, x0 (ix2 r ⟨128 + k.val, by omega⟩) * x2 (ix4 0 0 k j)) * (((Real.sqrt 2097152)⁻¹ : ℝ) : EReal) := by
  unfold out1_3
  rw [show View.ld x0 r1_1 = x0 from View.ld_unit_lit' _ _ (by decide), show View.ld x1 r1_0 = x1 from View.ld_unit_lit' _ _ (by decide), show View.ld x2 r1_0 = x2 from View.ld_unit_lit' _ _ (by decide)]
  simp (disch := decide) only [View.canon_cons_unit_lit']
  unfold k1_pay1
  refine (finish_at _ r j).trans (congrArg (fun x : EReal => x * (((Real.sqrt 2097152)⁻¹ : ℝ) : EReal)) ?_)
  · refine (product1_at _ _ r j).trans ((Fin.sum_univ_add (a := 128) (b := 128) _).trans ?_)
    refine congr (congrArg HAdd.hAdd ?_) ?_
    · refine Finset.sum_congr rfl fun k _ => ?_
      refine congr (congrArg HMul.hMul ?_) ((pair_low _ _ k j).trans ?_)
      · pointwise; rfl
      · pointwise
    · refine Finset.sum_congr rfl fun k _ => ?_
      refine congr (congrArg HMul.hMul ?_) ((pair_high _ _ k j).trans ?_)
      · pointwise; rfl
      · pointwise

end Cert.MixIdeal.Call

end
-- ==== Proof.Calls.MixTurns.lean ====
/-
  A sum over 8192 positions against a wave, as sums over 64 and over 128 with a turn in between.
-/
module

public import proofs.«01_k».proof.Proof.Calls.Fproj

@[expose] public section

set_option maxRecDepth 16384

noncomputable section

namespace Cert.Turn

open Idealize.ShloMosaic

/-- The angle of `n` steps of `N` around the circle. -/
def step (N n : ℝ) : ℝ := 2 * Real.pi * n / N

/-- The angle as both programs compute it. -/
theorem step_eq (w : BitVec 32) (N n : ℝ) (hw : Ideal.ofBits .f32 w = ((N : ℝ) : EReal)) (hN : N ≠ 0) :
    Ideal.div (Ideal.ofBits .f32 0x40000000#32 * Ideal.acos (Ideal.ofBits .f32 0xBF800000#32) * (n : EReal)) (Ideal.ofBits .f32 w)
      = ((step N n : ℝ) : EReal) := by
  rw [half_turn, word_2, hw, Ideal.div_coe hN, ← EReal.coe_mul, ← EReal.coe_mul, ← EReal.coe_mul]
  unfold step
  rw [mul_one_div]

theorem step_mod (N n : ℕ) (hN : N ≠ 0) : step N (n : ℝ) = step N ((n % N : ℕ) : ℝ) + (n / N : ℕ) * (2 * Real.pi) := by
  have h : (n : ℝ) = ((n % N : ℕ) : ℝ) + (N : ℝ) * ((n / N : ℕ) : ℝ) := by
    exact_mod_cast (Nat.mod_add_div n N).symm
  have h0 : (N : ℝ) ≠ 0 := by exact_mod_cast hN
  unfold step
  rw [h]
  field_simp

theorem cos_step_mod (N n : ℕ) (hN : N ≠ 0) : Real.cos (step N ((n % N : ℕ) : ℝ)) = Real.cos (step N (n : ℝ)) := by
  rw [step_mod N n hN, Real.cos_add_nat_mul_two_pi]

theorem sin_step_mod (N n : ℕ) (hN : N ≠ 0) : Real.sin (step N ((n % N : ℕ) : ℝ)) = Real.sin (step N (n : ℝ)) := by
  rw [step_mod N n hN, Real.sin_add_nat_mul_two_pi]

/-- The angle of a position and a frequency, in its three parts and whole turns. -/
theorem step_parts (a b k l : ℕ) :
    step 8192 (((128 * a + b) * (64 * l + k) : ℕ) : ℝ)
      = step 64 ((a * k : ℕ) : ℝ) + (step 8192 ((b * k : ℕ) : ℝ) + step 128 ((b * l : ℕ) : ℝ)) + (a * l : ℕ) * (2 * Real.pi) := by
  unfold step
  push_cast
  ring

theorem wave (P Q α θ β φ : ℝ) (n : ℕ) (h : φ = α + (θ + β) + n * (2 * Real.pi)) :
    Real.cos β * ((Real.cos α * P + -Real.sin α * Q) * Real.cos θ + (-Real.sin α * P + -Real.cos α * Q) * Real.sin θ)
      + Real.sin β * ((-Real.sin α * P + -Real.cos α * Q) * Real.cos θ - (Real.cos α * P + -Real.sin α * Q) * Real.sin θ)
      = Real.cos φ * P - Real.sin φ * Q := by
  rw [h, Real.cos_add_nat_mul_two_pi, Real.sin_add_nat_mul_two_pi, Real.cos_add α, Real.sin_add α, Real.cos_add θ, Real.sin_add θ]
  ring

/-- The first launch's two sums over the 64 coarse steps of the positions. -/
def coarseA (P Q : ℕ → ℝ) (b k : ℕ) : ℝ :=
  (∑ a : Fin 64, Real.cos (step 64 ((a.val * k : ℕ) : ℝ)) * P (128 * a.val + b)) + ∑ a : Fin 64, -Real.sin (step 64 ((a.val * k : ℕ) : ℝ)) * Q (128 * a.val + b)
def coarseB (P Q : ℕ → ℝ) (b k : ℕ) : ℝ :=
  (∑ a : Fin 64, -Real.sin (step 64 ((a.val * k : ℕ) : ℝ)) * P (128 * a.val + b)) + ∑ a : Fin 64, -Real.cos (step 64 ((a.val * k : ℕ) : ℝ)) * Q (128 * a.val + b)

/-- Both turned by the angle of the fine step. -/
def turnedA (P Q : ℕ → ℝ) (b k : ℕ) : ℝ :=
  coarseA P Q b k * Real.cos (step 8192 ((b * k : ℕ) : ℝ)) + coarseB P Q b k * Real.sin (step 8192 ((b * k : ℕ) : ℝ))
def turnedB (P Q : ℕ → ℝ) (b k : ℕ) : ℝ :=
  coarseB P Q b k * Real.cos (step 8192 ((b * k : ℕ) : ℝ)) - coarseA P Q b k * Real.sin (step 8192 ((b * k : ℕ) : ℝ))

/-- A sum over all positions, coarse step by coarse step. -/
theorem sum_positions (f : ℕ → ℝ) : (∑ n : Fin 8192, f n.val) = ∑ b : Fin 128, ∑ a : Fin 64, f (128 * a.val + b.val) := by
  rw [Finset.sum_comm, ← Fintype.sum_prod_type']
  refine (Fintype.sum_equiv (finProdFinEquiv (m := 64) (n := 128)) (fun x => f (128 * x.1.val + x.2.val)) (fun n : Fin 8192 => f n.val) fun x => ?_).symm
  exact congrArg f (show 128 * x.1.val + x.2.val = x.2.val + 128 * x.1.val by omega)

/-- The whole transform. -/
theorem transform (P Q : ℕ → ℝ) (k l : ℕ) :
    (∑ b : Fin 128, Real.cos (step 128 ((b.val * l : ℕ) : ℝ)) * turnedA P Q b.val k) + (∑ b : Fin 128, Real.sin (step 128 ((b.val * l : ℕ) : ℝ)) * turnedB P Q b.val k)
      = (∑ n : Fin 8192, Real.cos (step 8192 ((n.val * (64 * l + k) : ℕ) : ℝ)) * P n.val) - ∑ n : Fin 8192, Real.sin (step 8192 ((n.val * (64 * l + k) : ℕ) : ℝ)) * Q n.val := by
  rw [← Finset.sum_add_distrib, ← Finset.sum_sub_distrib,
    sum_positions fun n => Real.cos (step 8192 ((n * (64 * l + k) : ℕ) : ℝ)) * P n - Real.sin (step 8192 ((n * (64 * l + k) : ℕ) : ℝ)) * Q n]
  refine Finset.sum_congr rfl fun b _ => ?_
  unfold turnedA turnedB coarseA coarseB
  rw [← Finset.sum_add_distrib, ← Finset.sum_add_distrib, Finset.sum_mul, Finset.sum_mul, Finset.sum_mul, Finset.sum_mul,
    ← Finset.sum_add_distrib, ← Finset.sum_sub_distrib, Finset.mul_sum, Finset.mul_sum, ← Finset.sum_add_distrib]
  refine Finset.sum_congr rfl fun a _ => ?_
  exact wave _ _ _ _ _ _ _ (step_parts a.val b.val k l)

end Cert.Turn

end
-- ==== Proof.Calls.MixRef.lean ====
/-
  The reference of the Fourier mixing's positions at an index.
-/
module

public import proofs.«01_k».proof.Proof.Calls.MixTurns
public import proofs.«01_k».proof.Proof.Attn.Softmax
public import proofs.«01_k».proof.Proof.Gen.MixRefIdeal
public import Idealize.ShloMosaic.Lib.Pointwise

@[expose] public section

set_option maxRecDepth 16384

noncomputable section

namespace Cert.Turn

open Idealize.ShloMosaic

theorem word_8192 : Ideal.ofBits .f32 0x46000000#32 = ((8192 : ℝ) : EReal) := by
  simp [Ideal.ofBits, Ideal.ieee, -EReal.coe_mul]; norm_num

theorem word_2097152 : Ideal.ofBits .f32 0x4A000000#32 = ((2097152 : ℝ) : EReal) := by
  simp [Ideal.ofBits, Ideal.ieee, -EReal.coe_mul]; norm_num

theorem number_below (n : ℕ) (h : n < 8192) : (BitVec.ofNat 32 n).toInt = ((n : ℕ) : ℤ) := by
  rw [BitVec.toInt_ofNat', Int.bmod_eq_of_le] <;> norm_num <;> omega

end Cert.Turn

namespace Cert.MixRefIdeal.Call

open Cert.MixRefIdeal Cert.MixRefIdeal.Gen
open Idealize.ShloMosaic

/-- The angles of the transform. -/
def angles : FVec Ideal S8192x8192 .f32 :=
  Host.divf (mulf (broadcastInDim S8192x8192 ![] bcast_S_S8192x8192 (mulf (constant S_ .f32 0x40000000#32) (Host.acos (constant S_ .f32 0xBF800000#32)))) (mulf (broadcastInDim S8192x8192 ![0, 1] bcast_S8192x1_S8192x8192_0_1 (broadcastInDim S8192x1 ![0] bcast_S8192_S8192x1_0 (sitofp .f32 (iotaInDim S8192 32 0)))) (broadcastInDim S8192x8192 ![0, 1] bcast_S1x8192_S8192x8192_0_1 (broadcastInDim S1x8192 ![1] bcast_S8192_S1x8192_1 (sitofp .f32 (iotaInDim S8192 32 0)))))) (broadcastInDim S8192x8192 ![] bcast_S_S8192x8192 (constant S_ .f32 0x46000000#32))

/-- The transform with its two tables. -/
def against (tc ts : FVec Ideal S8192x8192 .f32) (p q : FVec Ideal S2x8192x2048 .f32) : FVec Ideal S2x128x131072 .bf16 :=
  truncf .bf16 (shapeCast _ (Host.divf (subf (transpose S2x8192x2048 [1, 0, 2] (Host.dotGeneral dot_S8192x8192_S2x8192x2048_S8192x2x2048_1_1_0_02_n_n none tc p) transposes_S8192x2x2048_S2x8192x2048_1_0_2) (transpose S2x8192x2048 [1, 0, 2] (Host.dotGeneral dot_S8192x8192_S2x8192x2048_S8192x2x2048_1_1_0_02_n_n none ts q) transposes_S8192x2x2048_S2x8192x2048_1_0_2)) (broadcastInDim S2x8192x2048 ![] bcast_S_S2x8192x2048 (Host.sqrt (constant S_ .f32 0x4A000000#32)))) shapeCasts_S2x8192x2048_S2x128x131072) bitsLt_bf16_f32

/-- The reference's result of its arguments. -/
def answer (p q : FVec Ideal S2x8192x2048 .f32) : FVec Ideal S2x128x131072 .bf16 := against (Host.cos angles) (Host.sin angles) p q

theorem angles_at (a k : Fin 8192) : angles (ix2 a k) = ((Cert.Turn.step 8192 ((a.val * k.val : ℕ) : ℝ) : ℝ) : EReal) := by
  refine Eq.trans (b := Ideal.div (Ideal.ofBits .f32 0x40000000#32 * Ideal.acos (Ideal.ofBits .f32 0xBF800000#32)
        * (FloatOps.sitofp (F := Ideal) .f32 (BitVec.ofNat 32 a.val) * FloatOps.sitofp (F := Ideal) .f32 (BitVec.ofNat 32 k.val))) (Ideal.ofBits .f32 0x46000000#32)) ?_ ?_
  · pointwise [angles]
  · refine Eq.trans ?_ (Cert.Turn.step_eq _ _ _ Cert.Turn.word_8192 (by norm_num))
    refine congrArg (fun x : EReal => Ideal.div (Ideal.ofBits .f32 0x40000000#32 * Ideal.acos (Ideal.ofBits .f32 0xBF800000#32) * x) (Ideal.ofBits .f32 0x46000000#32)) ?_
    show (((BitVec.ofNat 32 a.val).toInt : ℝ) : EReal) * (((BitVec.ofNat 32 k.val).toInt : ℝ) : EReal) = _
    rw [Cert.Turn.number_below _ a.isLt, Cert.Turn.number_below _ k.isLt, ← EReal.coe_mul]
    push_cast
    rfl

theorem against_at (tc ts : FVec Ideal S8192x8192 .f32) (p q : FVec Ideal S2x8192x2048 .f32) (b : Fin 2) (l : Fin 128) (j : Fin 131072) :
    against tc ts p q (ix3 b l j)
      = Ideal.div ((∑ n : Fin 8192, tc (ix2 ⟨l.val * 64 + j.val / 2048, by omega⟩ n) * p (ix3 b n ⟨j.val % 2048, by omega⟩)) - ∑ n : Fin 8192, ts (ix2 ⟨l.val * 64 + j.val / 2048, by omega⟩ n) * q (ix3 b n ⟨j.val % 2048, by omega⟩))
          (Ideal.sqrt (Ideal.ofBits .f32 0x4A000000#32)) := by
  pointwise [against]

end Cert.MixRefIdeal.Call

end
-- ==== Proof.Calls.MixHost.lean ====
/-
  What the host prepares for the two launches of the Fourier mixing.
-/
module

public import proofs.«01_k».proof.Proof.Calls.MixRef
public import proofs.«01_k».proof.Proof.Gen.MixIdeal.Frame
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Turn

open Idealize.ShloMosaic

theorem word_64 : Ideal.ofBits .f32 0x42800000#32 = ((64 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num

theorem product_below (a k : ℕ) (ha : a < 128) (hk : k < 128) : (IntOp.muli (BitVec.ofNat 32 a) (BitVec.ofNat 32 k)) = BitVec.ofNat 32 (a * k) := by
  apply BitVec.eq_of_toNat_eq
  have h : a * k ≤ 127 * 127 := Nat.mul_le_mul (by omega) (by omega)
  show (BitVec.ofNat 32 a * BitVec.ofNat 32 k).toNat = _
  rw [BitVec.toNat_mul, BitVec.toNat_ofNat, BitVec.toNat_ofNat, BitVec.toNat_ofNat, Nat.mod_eq_of_lt (a := a) (by omega), Nat.mod_eq_of_lt (a := k) (by omega)]

theorem number_small (n : ℕ) (h : n < 2 ^ 31) : (BitVec.ofNat 32 n).toInt = ((n : ℕ) : ℤ) := by
  rw [BitVec.toInt_ofNat', Int.bmod_eq_of_le] <;> norm_num <;> omega

/-- The angle that the host takes from the remainder of a product by `N`. -/
theorem remainder_angle (w v : BitVec 32) (N a k : ℕ) (hN : 0 < N) (hN' : N < 2 ^ 31) (hw : Ideal.ofBits .f32 w = (((N : ℕ) : ℝ) : EReal)) (hv : v = BitVec.ofNat 32 N)
    (ha : a < 128) (hk : k < 128) :
    Ideal.div (Ideal.ofBits .f32 0x40000000#32 * Ideal.acos (Ideal.ofBits .f32 0xBF800000#32)
        * FloatOps.sitofp (F := Ideal) .f32 (IntOp.remsi ArithUnit.host (IntOp.muli (BitVec.ofNat 32 a) (BitVec.ofNat 32 k)) v)) (Ideal.ofBits .f32 w)
      = ((step N ((a * k % N : ℕ) : ℝ) : ℝ) : EReal) := by
  have h : a * k ≤ 127 * 127 := Nat.mul_le_mul (by omega) (by omega)
  refine Eq.trans ?_ (step_eq w N _ hw (by exact_mod_cast hN.ne'))
  refine congrArg (fun x : EReal => Ideal.div (Ideal.ofBits .f32 0x40000000#32 * Ideal.acos (Ideal.ofBits .f32 0xBF800000#32) * x) (Ideal.ofBits .f32 w)) ?_
  have e : IntOp.remsi ArithUnit.host (IntOp.muli (BitVec.ofNat 32 a) (BitVec.ofNat 32 k)) v = BitVec.ofNat 32 (a * k % N) := by
    rw [product_below a k ha hk, hv]
    apply BitVec.eq_of_toNat_eq
    have h1 : (BitVec.ofNat 32 (a * k)).toNat = a * k := by rw [BitVec.toNat_ofNat, Nat.mod_eq_of_lt (by omega)]
    refine (IntOp.toNat_remsi ArithUnit.host (by rw [h1]; omega) N (by omega) (by omega)).trans ?_
    have h2 : a * k % N ≤ a * k := Nat.mod_le _ _
    rw [h1, BitVec.toNat_ofNat, Nat.mod_eq_of_lt (b := 2 ^ 32) (by omega)]
  show (((IntOp.remsi ArithUnit.host (IntOp.muli (BitVec.ofNat 32 a) (BitVec.ofNat 32 k)) v).toInt : ℝ) : EReal) = _
  have h2 : a * k % N ≤ a * k := Nat.mod_le _ _
  rw [e, number_small _ (by omega)]
  norm_cast

/-- The angle that the host takes from the product itself. -/
theorem product_angle (a k : ℕ) (ha : a < 128) (hk : k < 128) :
    Ideal.div (Ideal.ofBits .f32 0x40000000#32 * Ideal.acos (Ideal.ofBits .f32 0xBF800000#32)
        * FloatOps.sitofp (F := Ideal) .f32 (IntOp.muli (BitVec.ofNat 32 a) (BitVec.ofNat 32 k))) (Ideal.ofBits .f32 0x46000000#32)
      = ((step 8192 ((a * k : ℕ) : ℝ) : ℝ) : EReal) := by
  have h : a * k ≤ 127 * 127 := Nat.mul_le_mul (by omega) (by omega)
  refine Eq.trans ?_ (step_eq _ _ _ word_8192 (by norm_num))
  refine congrArg (fun x : EReal => Ideal.div (Ideal.ofBits .f32 0x40000000#32 * Ideal.acos (Ideal.ofBits .f32 0xBF800000#32) * x) (Ideal.ofBits .f32 0x46000000#32)) ?_
  show (((IntOp.muli (BitVec.ofNat 32 a) (BitVec.ofNat 32 k)).toInt : ℝ) : EReal) = _
  rw [product_below a k ha hk, number_small _ (by omega)]
  norm_cast

end Cert.Turn

namespace Cert.MixIdeal.Call

open Cert.MixIdeal Cert.MixIdeal.Gen
open Idealize.ShloMosaic Idealize.ShloMosaic.TcCoe Idealize.ShloMosaic.Pipeline

variable (m : (ℓ : Loc nD τ sig) → Buf (Elt Ideal) ℓ) (ρ : Dev nD → PrngReg) (c : Dev nD)

abbrev argP : FVec Ideal S2x8192x2048 .f32 := m ((c.tc : Thread nD τ).loc main_arg0)
abbrev argQ : FVec Ideal S2x8192x2048 .f32 := m ((c.tc : Thread nD τ).loc main_arg1)

theorem staged_p (b : Fin 2) (a : Fin 64) (j : Fin 262144) :
    (V1 m ρ c main_v69 : FVec Ideal S2x64x262144 .bf16) (ix3 b a j) = argP m c (ix3 b ⟨128 * a.val + j.val / 2048, by omega⟩ ⟨j.val % 2048, by omega⟩) := by
  show StableHlo.after hostOps0 (W0 m ρ c) main_v69 (ix3 b a j) = _
  after_reads_at
  have h := j.isLt
  exact congrArg₂ (fun (x : Fin 2) (y : Fin 8192) => argP m c (ix3 x y ⟨j.val % 2048, by omega⟩))
    (Fin.ext (show (b.val * 8192 + a.val * 128 + j.val / 2048) / 8192 = b.val by omega)) (Fin.ext (show (b.val * 8192 + a.val * 128 + j.val / 2048) % 8192 = 128 * a.val + j.val / 2048 by omega))
theorem staged_q (b : Fin 2) (a : Fin 64) (j : Fin 262144) :
    (V1 m ρ c main_v70 : FVec Ideal S2x64x262144 .bf16) (ix3 b a j) = argQ m c (ix3 b ⟨128 * a.val + j.val / 2048, by omega⟩ ⟨j.val % 2048, by omega⟩) := by
  show StableHlo.after hostOps0 (W0 m ρ c) main_v70 (ix3 b a j) = _
  after_reads_at
  have h := j.isLt
  exact congrArg₂ (fun (x : Fin 2) (y : Fin 8192) => argQ m c (ix3 x y ⟨j.val % 2048, by omega⟩))
    (Fin.ext (show (b.val * 8192 + a.val * 128 + j.val / 2048) / 8192 = b.val by omega)) (Fin.ext (show (b.val * 8192 + a.val * 128 + j.val / 2048) % 8192 = 128 * a.val + j.val / 2048 by omega))
theorem staged_turn_cos (b : Fin 128) (k : Fin 64) (l : Fin 128) :
    (V1 m ρ c main_v65 : FVec Ideal S128x64x128 .f32) (ix3 b k l) = ((Real.cos (Cert.Turn.step 8192 ((b.val * k.val : ℕ) : ℝ)) : ℝ) : EReal) := by
  refine Eq.trans ?_ (congrArg Ideal.cos (Cert.Turn.product_angle b.val k.val b.isLt (by omega)))
  show StableHlo.after hostOps0 (W0 m ρ c) main_v65 (ix3 b k l) = _
  after_reads_at
theorem staged_turn_sin (b : Fin 128) (k : Fin 64) (l : Fin 128) :
    (V1 m ρ c main_v68 : FVec Ideal S128x64x128 .f32) (ix3 b k l) = ((Real.sin (Cert.Turn.step 8192 ((b.val * k.val : ℕ) : ℝ)) : ℝ) : EReal) := by
  refine Eq.trans ?_ (congrArg Ideal.sin (Cert.Turn.product_angle b.val k.val b.isLt (by omega)))
  show StableHlo.after hostOps0 (W0 m ρ c) main_v68 (ix3 b k l) = _
  after_reads_at

/-- The first launch's table: cosines, and sines negated. -/
theorem table_cos (k a : Fin 64) :
    (V1 m ρ c main_v46 : FVec Ideal S128x128 .bf16) (ix2 ⟨k.val, by omega⟩ ⟨a.val, by omega⟩) = ((Real.cos (Cert.Turn.step 64 ((k.val * a.val : ℕ) : ℝ)) : ℝ) : EReal) := by
  have h := k.isLt
  have h' := a.isLt
  rw [show Real.cos (Cert.Turn.step 64 ((k.val * a.val : ℕ) : ℝ)) = Real.cos (Cert.Turn.step (64 : ℕ) ((k.val * a.val : ℕ) : ℝ)) from by norm_num, ← Cert.Turn.cos_step_mod 64 _ (by norm_num)]
  refine Eq.trans ?_ (congrArg Ideal.cos (Cert.Turn.remainder_angle 0x42800000#32 64#32 64 k.val a.val (by norm_num) (by norm_num) (by exact_mod_cast Cert.Turn.word_64) rfl (by omega) (by omega)))
  show StableHlo.after hostOps0 (W0 m ρ c) main_v46 (ix2 ⟨k.val, by omega⟩ ⟨a.val, by omega⟩) = _
  after_reads_at
  after_reads_at
theorem table_sin (k a : Fin 64) :
    (V1 m ρ c main_v46 : FVec Ideal S128x128 .bf16) (ix2 ⟨k.val, by omega⟩ ⟨64 + a.val, by omega⟩) = ((-Real.sin (Cert.Turn.step 64 ((k.val * a.val : ℕ) : ℝ)) : ℝ) : EReal) := by
  have h := k.isLt
  have h' := a.isLt
  rw [show Real.sin (Cert.Turn.step 64 ((k.val * a.val : ℕ) : ℝ)) = Real.sin (Cert.Turn.step (64 : ℕ) ((k.val * a.val : ℕ) : ℝ)) from by norm_num, ← Cert.Turn.sin_step_mod 64 _ (by norm_num)]
  refine Eq.trans ?_ (congrArg (fun x : EReal => -Ideal.sin x) (Cert.Turn.remainder_angle 0x42800000#32 64#32 64 k.val a.val (by norm_num) (by norm_num) (by exact_mod_cast Cert.Turn.word_64) rfl (by omega) (by omega)))
  show StableHlo.after hostOps0 (W0 m ρ c) main_v46 (ix2 ⟨k.val, by omega⟩ ⟨64 + a.val, by omega⟩) = _
  after_reads_at
  after_reads_at
theorem table_sin' (k a : Fin 64) :
    (V1 m ρ c main_v46 : FVec Ideal S128x128 .bf16) (ix2 ⟨64 + k.val, by omega⟩ ⟨a.val, by omega⟩) = ((-Real.sin (Cert.Turn.step 64 ((k.val * a.val : ℕ) : ℝ)) : ℝ) : EReal) := by
  have h := k.isLt
  have h' := a.isLt
  rw [show Real.sin (Cert.Turn.step 64 ((k.val * a.val : ℕ) : ℝ)) = Real.sin (Cert.Turn.step (64 : ℕ) ((k.val * a.val : ℕ) : ℝ)) from by norm_num, ← Cert.Turn.sin_step_mod 64 _ (by norm_num)]
  refine Eq.trans ?_ (congrArg (fun x : EReal => -Ideal.sin x) (Cert.Turn.remainder_angle 0x42800000#32 64#32 64 k.val a.val (by norm_num) (by norm_num) (by exact_mod_cast Cert.Turn.word_64) rfl (by omega) (by omega)))
  show StableHlo.after hostOps0 (W0 m ρ c) main_v46 (ix2 ⟨64 + k.val, by omega⟩ ⟨a.val, by omega⟩) = _
  after_reads_at
  after_reads_at
theorem table_cos' (k a : Fin 64) :
    (V1 m ρ c main_v46 : FVec Ideal S128x128 .bf16) (ix2 ⟨64 + k.val, by omega⟩ ⟨64 + a.val, by omega⟩) = ((-Real.cos (Cert.Turn.step 64 ((k.val * a.val : ℕ) : ℝ)) : ℝ) : EReal) := by
  have h := k.isLt
  have h' := a.isLt
  rw [show Real.cos (Cert.Turn.step 64 ((k.val * a.val : ℕ) : ℝ)) = Real.cos (Cert.Turn.step (64 : ℕ) ((k.val * a.val : ℕ) : ℝ)) from by norm_num, ← Cert.Turn.cos_step_mod 64 _ (by norm_num)]
  refine Eq.trans ?_ (congrArg (fun x : EReal => -Ideal.cos x) (Cert.Turn.remainder_angle 0x42800000#32 64#32 64 k.val a.val (by norm_num) (by norm_num) (by exact_mod_cast Cert.Turn.word_64) rfl (by omega) (by omega)))
  show StableHlo.after hostOps0 (W0 m ρ c) main_v46 (ix2 ⟨64 + k.val, by omega⟩ ⟨64 + a.val, by omega⟩) = _
  after_reads_at
  after_reads_at

/-- The second launch's table is the one prepared before the first. -/
theorem table1 : V3 m ρ c main_v48 = V1 m ρ c main_v48 :=
  (W3_of m ρ c main_v48 (by decide)).trans (W2_of_ne m ρ c main_v48 (by decide))
theorem table1_cos (l b : Fin 128) :
    (V3 m ρ c main_v48 : FVec Ideal S128x256 .bf16) (ix2 l ⟨b.val, by omega⟩) = ((Real.cos (Cert.Turn.step 128 ((l.val * b.val : ℕ) : ℝ)) : ℝ) : EReal) := by
  have h' := b.isLt
  rw [table1, show Real.cos (Cert.Turn.step 128 ((l.val * b.val : ℕ) : ℝ)) = Real.cos (Cert.Turn.step (128 : ℕ) ((l.val * b.val : ℕ) : ℝ)) from by norm_num, ← Cert.Turn.cos_step_mod 128 _ (by norm_num)]
  refine Eq.trans ?_ (congrArg Ideal.cos (Cert.Turn.remainder_angle 0x43000000#32 128#32 128 l.val b.val (by norm_num) (by norm_num) (by exact_mod_cast Cert.Turn.word_128) rfl (by omega) (by omega)))
  show StableHlo.after hostOps0 (W0 m ρ c) main_v48 (ix2 l ⟨b.val, by omega⟩) = _
  after_reads_at
  after_reads_at
theorem table1_sin (l b : Fin 128) :
    (V3 m ρ c main_v48 : FVec Ideal S128x256 .bf16) (ix2 l ⟨128 + b.val, by omega⟩) = ((Real.sin (Cert.Turn.step 128 ((l.val * b.val : ℕ) : ℝ)) : ℝ) : EReal) := by
  have h' := b.isLt
  rw [table1, show Real.sin (Cert.Turn.step 128 ((l.val * b.val : ℕ) : ℝ)) = Real.sin (Cert.Turn.step (128 : ℕ) ((l.val * b.val : ℕ) : ℝ)) from by norm_num, ← Cert.Turn.sin_step_mod 128 _ (by norm_num)]
  refine Eq.trans ?_ (congrArg Ideal.sin (Cert.Turn.remainder_angle 0x43000000#32 128#32 128 l.val b.val (by norm_num) (by norm_num) (by exact_mod_cast Cert.Turn.word_128) rfl (by omega) (by omega)))
  show StableHlo.after hostOps0 (W0 m ρ c) main_v48 (ix2 l ⟨128 + b.val, by omega⟩) = _
  after_reads_at
  after_reads_at

/-- The second launch's operands are the first launch's arrays, column by column of 2048. -/
theorem operand1 (b : Fin 2) (k : Fin 64) (n : Fin 128) (j : Fin 2048) :
    (V3 m ρ c main_v72 : FVec Ideal S2x64x128x2048 .bf16) (ix4 b k n j) = ((dat0 (V1 m ρ) c).arrAt 5 cfg0.N : FVec Ideal S2x64x262144 .bf16) (ix3 b k ⟨2048 * n.val + j.val, by omega⟩) := by
  refine Eq.trans ?_ (congrFun (W2_arr m ρ c 5) _)
  show StableHlo.after hostOps1 (W2 m ρ c) main_v72 (ix4 b k n j) = _
  after_reads_at
  exact congrArg (fun x : Fin 262144 => W2 m ρ c (Proc.tc.devRef main_v71_0) (ix3 b k x)) (Fin.ext (show n.val * 2048 + j.val = 2048 * n.val + j.val by omega))
theorem operand2 (b : Fin 2) (k : Fin 64) (n : Fin 128) (j : Fin 2048) :
    (V3 m ρ c main_v73 : FVec Ideal S2x64x128x2048 .bf16) (ix4 b k n j) = ((dat0 (V1 m ρ) c).arrAt 6 cfg0.N : FVec Ideal S2x64x262144 .bf16) (ix3 b k ⟨2048 * n.val + j.val, by omega⟩) := by
  refine Eq.trans ?_ (congrFun (W2_arr m ρ c 6) _)
  show StableHlo.after hostOps1 (W2 m ρ c) main_v73 (ix4 b k n j) = _
  after_reads_at
  exact congrArg (fun x : Fin 262144 => W2 m ρ c (Proc.tc.devRef main_v71_1) (ix3 b k x)) (Fin.ext (show n.val * 2048 + j.val = 2048 * n.val + j.val by omega))

end Cert.MixIdeal.Call

end
-- ==== Proof.Calls.Mix.lean ====
/-
  The Fourier mixing's transform over the positions: the two launches against the reference.
-/
module

public import proofs.«01_k».proof.Proof.Calls.MixBody
public import proofs.«01_k».proof.Proof.Calls.MixHost
public import proofs.«01_k».proof.Proof.Attn.Finite
public import proofs.«01_k».proof.Proof.Gen.Pre_finite_parts

@[expose] public section

set_option maxRecDepth 16384

noncomputable section

namespace Cert.MixIdeal.Call

open Cert.MixIdeal Cert.MixIdeal.Gen
open Idealize.ShloMosaic Idealize.ShloMosaic.TcCoe Idealize.ShloMosaic.Pipeline

variable (m : (ℓ : Loc nD τ sig) → Buf (Elt Ideal) ℓ) (ρ : Dev nD → PrngReg) (c : Dev nD)

/-- The arguments as real numbers, position by position. -/
def realP (b : Fin 2) (j : Fin 2048) (n : ℕ) : ℝ := (argP m c (ix3 b ⟨n % 8192, by omega⟩ j)).toReal
def realQ (b : Fin 2) (j : Fin 2048) (n : ℕ) : ℝ := (argQ m c (ix3 b ⟨n % 8192, by omega⟩ j)).toReal

theorem realP_eq (h : ∀ i, ∃ x : ℝ, argP m c i = (x : EReal)) (b : Fin 2) (n : Fin 8192) (j : Fin 2048) : argP m c (ix3 b n j) = ((realP m c b j n.val : ℝ) : EReal) := by
  obtain ⟨x, hx⟩ := h (ix3 b n j)
  have e : (⟨n.val % 8192, by omega⟩ : Fin 8192) = n := Fin.ext (show n.val % 8192 = n.val by omega)
  unfold realP
  rw [e, hx, EReal.toReal_coe]
theorem realQ_eq (h : ∀ i, ∃ x : ℝ, argQ m c i = (x : EReal)) (b : Fin 2) (n : Fin 8192) (j : Fin 2048) : argQ m c (ix3 b n j) = ((realQ m c b j n.val : ℝ) : EReal) := by
  obtain ⟨x, hx⟩ := h (ix3 b n j)
  have e : (⟨n.val % 8192, by omega⟩ : Fin 8192) = n := Fin.ext (show n.val % 8192 = n.val by omega)
  unfold realQ
  rw [e, hx, EReal.toReal_coe]

theorem point0_lt (t : Fin cfg0.N) : t.val < 64 := t.isLt
theorem point1_lt (t : Fin cfg1.N) : t.val < 128 := t.isLt
theorem index0_0 (t : Fin cfg0.N) : (cfg0.win 0).index t = ![0, 0] := by
  revert t; decide +kernel
theorem index0_1 (t : Fin cfg0.N) : (cfg0.win 1).index t = ![t.val / 32, 0, t.val % 32] := by
  revert t; decide +kernel
theorem index0_2 (t : Fin cfg0.N) : (cfg0.win 2).index t = ![t.val / 32, 0, t.val % 32] := by
  revert t; decide +kernel
theorem index0_3 (t : Fin cfg0.N) : (cfg0.win 3).index t = ![t.val % 32, 0, 0] := by
  revert t; decide +kernel
theorem index0_4 (t : Fin cfg0.N) : (cfg0.win 4).index t = ![t.val % 32, 0, 0] := by
  revert t; decide +kernel
theorem index0_5 (t : Fin cfg0.N) : (cfg0.win 5).index t = ![t.val / 32, 0, t.val % 32] := by
  revert t; decide +kernel
theorem index0_6 (t : Fin cfg0.N) : (cfg0.win 6).index t = ![t.val / 32, 0, t.val % 32] := by
  revert t; decide +kernel
theorem index1_0 (t : Fin cfg1.N) : (cfg1.win 0).index t = ![0, 0] := by
  revert t; decide +kernel
theorem index1_1 (t : Fin cfg1.N) : (cfg1.win 1).index t = ![t.val / 64, t.val % 64, 0, 0] := by
  revert t; decide +kernel
theorem index1_2 (t : Fin cfg1.N) : (cfg1.win 2).index t = ![t.val / 64, t.val % 64, 0, 0] := by
  revert t; decide +kernel
theorem index1_3 (t : Fin cfg1.N) : (cfg1.win 3).index t = ![t.val / 64, 0, t.val % 64] := by
  revert t; decide +kernel
theorem covered5 : (cfg0.win 5).Covers := by decide +kernel
theorem covered6 : (cfg0.win 6).Covers := by decide +kernel
theorem covered3 : (cfg1.win 3).Covers := by decide +kernel

theorem emb0_0 (t : Fin cfg0.N) (r j : Fin 128) :
    ((cfg0.win 0).blk t).view.emb (ix2 r j) = (ix2 r j : (S128x128).Idx) := by
  have h := point0_lt t
  funext a
  apply Fin.ext
  match a with
  | ⟨0, _⟩ => blk_simp; rw [show win0_0.index t = _ from index0_0 t]; first | rfl | simp
  | ⟨1, _⟩ => blk_simp; rw [show win0_0.index t = _ from index0_0 t]; first | rfl | simp

theorem emb0_1 (t : Fin cfg0.N) (r : Fin 64) (j : Fin 8192) :
    ((cfg0.win 1).blk t).view.emb (ix3 0 r j) = (ix3 ⟨t.val / 32, by have := point0_lt t; omega⟩ r ⟨t.val % 32 * 8192 + j.val, by have := point0_lt t; omega⟩ : (S2x64x262144).Idx) := by
  have h := point0_lt t
  funext a
  apply Fin.ext
  match a with
  | ⟨0, _⟩ => blk_simp; rw [show win0_1.index t = _ from index0_1 t]; first | rfl | simp
  | ⟨1, _⟩ => blk_simp; rw [show win0_1.index t = _ from index0_1 t]; first | rfl | simp
  | ⟨2, _⟩ => blk_simp; rw [show win0_1.index t = _ from index0_1 t]; first | rfl | simp

theorem emb0_2 (t : Fin cfg0.N) (r : Fin 64) (j : Fin 8192) :
    ((cfg0.win 2).blk t).view.emb (ix3 0 r j) = (ix3 ⟨t.val / 32, by have := point0_lt t; omega⟩ r ⟨t.val % 32 * 8192 + j.val, by have := point0_lt t; omega⟩ : (S2x64x262144).Idx) := by
  have h := point0_lt t
  funext a
  apply Fin.ext
  match a with
  | ⟨0, _⟩ => blk_simp; rw [show win0_2.index t = _ from index0_2 t]; first | rfl | simp
  | ⟨1, _⟩ => blk_simp; rw [show win0_2.index t = _ from index0_2 t]; first | rfl | simp
  | ⟨2, _⟩ => blk_simp; rw [show win0_2.index t = _ from index0_2 t]; first | rfl | simp

theorem emb0_5 (t : Fin cfg0.N) (r : Fin 64) (j : Fin 8192) :
    ((cfg0.win 5).blk t).view.emb (ix3 0 r j) = (ix3 ⟨t.val / 32, by have := point0_lt t; omega⟩ r ⟨t.val % 32 * 8192 + j.val, by have := point0_lt t; omega⟩ : (S2x64x262144).Idx) := by
  have h := point0_lt t
  funext a
  apply Fin.ext
  match a with
  | ⟨0, _⟩ => blk_simp; rw [show win0_5.index t = _ from index0_5 t]; first | rfl | simp
  | ⟨1, _⟩ => blk_simp; rw [show win0_5.index t = _ from index0_5 t]; first | rfl | simp
  | ⟨2, _⟩ => blk_simp; rw [show win0_5.index t = _ from index0_5 t]; first | rfl | simp

theorem emb0_6 (t : Fin cfg0.N) (r : Fin 64) (j : Fin 8192) :
    ((cfg0.win 6).blk t).view.emb (ix3 0 r j) = (ix3 ⟨t.val / 32, by have := point0_lt t; omega⟩ r ⟨t.val % 32 * 8192 + j.val, by have := point0_lt t; omega⟩ : (S2x64x262144).Idx) := by
  have h := point0_lt t
  funext a
  apply Fin.ext
  match a with
  | ⟨0, _⟩ => blk_simp; rw [show win0_6.index t = _ from index0_6 t]; first | rfl | simp
  | ⟨1, _⟩ => blk_simp; rw [show win0_6.index t = _ from index0_6 t]; first | rfl | simp
  | ⟨2, _⟩ => blk_simp; rw [show win0_6.index t = _ from index0_6 t]; first | rfl | simp

theorem emb0_3 (t : Fin cfg0.N) (g : Fin 4) (r : Fin 64) (l : Fin 128) :
    ((cfg0.win 3).blk t).view.emb (ix3 g r l) = (ix3 ⟨t.val % 32 * 4 + g.val, by have := point0_lt t; omega⟩ r l : (S128x64x128).Idx) := by
  have h := point0_lt t
  funext a
  apply Fin.ext
  match a with
  | ⟨0, _⟩ => blk_simp; rw [show win0_3.index t = _ from index0_3 t]; first | rfl | simp
  | ⟨1, _⟩ => blk_simp; rw [show win0_3.index t = _ from index0_3 t]; first | rfl | simp
  | ⟨2, _⟩ => blk_simp; rw [show win0_3.index t = _ from index0_3 t]; first | rfl | simp

theorem emb0_4 (t : Fin cfg0.N) (g : Fin 4) (r : Fin 64) (l : Fin 128) :
    ((cfg0.win 4).blk t).view.emb (ix3 g r l) = (ix3 ⟨t.val % 32 * 4 + g.val, by have := point0_lt t; omega⟩ r l : (S128x64x128).Idx) := by
  have h := point0_lt t
  funext a
  apply Fin.ext
  match a with
  | ⟨0, _⟩ => blk_simp; rw [show win0_4.index t = _ from index0_4 t]; first | rfl | simp
  | ⟨1, _⟩ => blk_simp; rw [show win0_4.index t = _ from index0_4 t]; first | rfl | simp
  | ⟨2, _⟩ => blk_simp; rw [show win0_4.index t = _ from index0_4 t]; first | rfl | simp

theorem emb1_0 (t : Fin cfg1.N) (r : Fin 128) (j : Fin 256) :
    ((cfg1.win 0).blk t).view.emb (ix2 r j) = (ix2 r j : (S128x256).Idx) := by
  have h := point1_lt t
  funext a
  apply Fin.ext
  match a with
  | ⟨0, _⟩ => blk_simp; rw [show win1_0.index t = _ from index1_0 t]; first | rfl | simp
  | ⟨1, _⟩ => blk_simp; rw [show win1_0.index t = _ from index1_0 t]; first | rfl | simp

theorem emb1_1 (t : Fin cfg1.N) (k : Fin 128) (j : Fin 2048) :
    ((cfg1.win 1).blk t).view.emb (ix4 0 0 k j) = (ix4 ⟨t.val / 64, by have := point1_lt t; omega⟩ ⟨t.val % 64, by have := point1_lt t; omega⟩ k j : (S2x64x128x2048).Idx) := by
  have h := point1_lt t
  funext a
  apply Fin.ext
  match a with
  | ⟨0, _⟩ => blk_simp; rw [show win1_1.index t = _ from index1_1 t]; first | rfl | simp
  | ⟨1, _⟩ => blk_simp; rw [show win1_1.index t = _ from index1_1 t]; first | rfl | simp
  | ⟨2, _⟩ => blk_simp; rw [show win1_1.index t = _ from index1_1 t]; first | rfl | simp
  | ⟨3, _⟩ => blk_simp; rw [show win1_1.index t = _ from index1_1 t]; first | rfl | simp

theorem emb1_2 (t : Fin cfg1.N) (k : Fin 128) (j : Fin 2048) :
    ((cfg1.win 2).blk t).view.emb (ix4 0 0 k j) = (ix4 ⟨t.val / 64, by have := point1_lt t; omega⟩ ⟨t.val % 64, by have := point1_lt t; omega⟩ k j : (S2x64x128x2048).Idx) := by
  have h := point1_lt t
  funext a
  apply Fin.ext
  match a with
  | ⟨0, _⟩ => blk_simp; rw [show win1_2.index t = _ from index1_2 t]; first | rfl | simp
  | ⟨1, _⟩ => blk_simp; rw [show win1_2.index t = _ from index1_2 t]; first | rfl | simp
  | ⟨2, _⟩ => blk_simp; rw [show win1_2.index t = _ from index1_2 t]; first | rfl | simp
  | ⟨3, _⟩ => blk_simp; rw [show win1_2.index t = _ from index1_2 t]; first | rfl | simp

theorem emb1_3 (t : Fin cfg1.N) (r : Fin 128) (j : Fin 2048) :
    ((cfg1.win 3).blk t).view.emb (ix3 0 r j) = (ix3 ⟨t.val / 64, by have := point1_lt t; omega⟩ r ⟨t.val % 64 * 2048 + j.val, by have := point1_lt t; omega⟩ : (S2x128x131072).Idx) := by
  have h := point1_lt t
  funext a
  apply Fin.ext
  match a with
  | ⟨0, _⟩ => blk_simp; rw [show win1_3.index t = _ from index1_3 t]; first | rfl | simp
  | ⟨1, _⟩ => blk_simp; rw [show win1_3.index t = _ from index1_3 t]; first | rfl | simp
  | ⟨2, _⟩ => blk_simp; rw [show win1_3.index t = _ from index1_3 t]; first | rfl | simp

section Launches

variable (hP : ∀ i, ∃ x : ℝ, argP m c i = (x : EReal)) (hQ : ∀ i, ∃ x : ℝ, argQ m c i = (x : EReal))

/-- The first launch's two arrays. -/
def firstA : FVec Ideal S2x64x262144 .bf16 := fun y => ((Cert.Turn.turnedA (realP m c (y 0) ⟨(y 2).val % 2048, by omega⟩) (realQ m c (y 0) ⟨(y 2).val % 2048, by omega⟩) ((y 2).val / 2048) (y 1).val : ℝ) : EReal)
def firstB : FVec Ideal S2x64x262144 .bf16 := fun y => ((Cert.Turn.turnedB (realP m c (y 0) ⟨(y 2).val % 2048, by omega⟩) (realQ m c (y 0) ⟨(y 2).val % 2048, by omega⟩) ((y 2).val / 2048) (y 1).val : ℝ) : EReal)

include hP in
theorem block_p (t : Fin cfg0.N) (a : Fin 64) (j : Fin 8192) : iblk0 (V1 m ρ) c 1 t (ix3 0 a j)
    = ((realP m c ⟨t.val / 32, by have := point0_lt t; omega⟩ ⟨(t.val % 32 * 8192 + j.val) % 2048, by omega⟩ (128 * a.val + (t.val % 32 * 8192 + j.val) / 2048) : ℝ) : EReal) :=
  ((congrArg (V1 m ρ c (Pipeline.arrRef spec0 1)) (emb0_1 t a j)).trans (staged_p m ρ c _ a _)).trans (realP_eq m c hP _ _ _)
include hQ in
theorem block_q (t : Fin cfg0.N) (a : Fin 64) (j : Fin 8192) : iblk0 (V1 m ρ) c 2 t (ix3 0 a j)
    = ((realQ m c ⟨t.val / 32, by have := point0_lt t; omega⟩ ⟨(t.val % 32 * 8192 + j.val) % 2048, by omega⟩ (128 * a.val + (t.val % 32 * 8192 + j.val) / 2048) : ℝ) : EReal) :=
  ((congrArg (V1 m ρ c (Pipeline.arrRef spec0 2)) (emb0_2 t a j)).trans (staged_q m ρ c _ a _)).trans (realQ_eq m c hQ _ _ _)

theorem block_cos (t : Fin cfg0.N) (j : Fin 8192) (k : Fin 64) (l : Fin 128) : iblk0 (V1 m ρ) c 3 t (ix3 (⟨j.val / 2048, by omega⟩ : Fin 4) k l)
    = ((Real.cos (Cert.Turn.step 8192 (((t.val % 32 * 8192 + j.val) / 2048 * k.val : ℕ) : ℝ)) : ℝ) : EReal) := by
  refine ((congrArg (V1 m ρ c (Pipeline.arrRef spec0 3)) (emb0_3 t _ k l)).trans (staged_turn_cos m ρ c _ k l)).trans ?_
  rw [show (t.val % 32 * 8192 + j.val) / 2048 = t.val % 32 * 4 + j.val / 2048 by omega]
theorem block_sin (t : Fin cfg0.N) (j : Fin 8192) (k : Fin 64) (l : Fin 128) : iblk0 (V1 m ρ) c 4 t (ix3 (⟨j.val / 2048, by omega⟩ : Fin 4) k l)
    = ((Real.sin (Cert.Turn.step 8192 (((t.val % 32 * 8192 + j.val) / 2048 * k.val : ℕ) : ℝ)) : ℝ) : EReal) := by
  refine ((congrArg (V1 m ρ c (Pipeline.arrRef spec0 4)) (emb0_4 t _ k l)).trans (staged_turn_sin m ρ c _ k l)).trans ?_
  rw [show (t.val % 32 * 8192 + j.val) / 2048 = t.val % 32 * 4 + j.val / 2048 by omega]

theorem block_table (t : Fin cfg0.N) (x y : Fin 128) : iblk0 (V1 m ρ) c 0 t (ix2 x y) = V1 m ρ c main_v46 (ix2 x y) :=
  congrArg (V1 m ρ c (Pipeline.arrRef spec0 0)) (emb0_0 t x y)
theorem block_table1 (t : Fin cfg1.N) (x : Fin 128) (y : Fin 256) : iblk1 (V3 m ρ) c 0 t (ix2 x y) = V3 m ρ c main_v48 (ix2 x y) :=
  congrArg (V3 m ρ c (Pipeline.arrRef spec1 0)) (emb1_0 t x y)

include hP hQ in
theorem sums_low (t : Fin cfg0.N) (k : Fin 64) (j : Fin 8192) : sums (iblk0 (V1 m ρ) c 0 t) (iblk0 (V1 m ρ) c 1 t) (iblk0 (V1 m ρ) c 2 t) ⟨k.val, by omega⟩ j
    = ((Cert.Turn.coarseA (realP m c ⟨t.val / 32, by have := point0_lt t; omega⟩ ⟨(t.val % 32 * 8192 + j.val) % 2048, by omega⟩) (realQ m c ⟨t.val / 32, by have := point0_lt t; omega⟩ ⟨(t.val % 32 * 8192 + j.val) % 2048, by omega⟩) ((t.val % 32 * 8192 + j.val) / 2048) k.val : ℝ) : EReal) := by
  unfold sums Cert.Turn.coarseA
  rw [EReal.coe_add, ← Cert.Softmax.coe_sum, ← Cert.Softmax.coe_sum]
  refine congr (congrArg HAdd.hAdd ?_) ?_
  · refine Finset.sum_congr rfl fun a _ => ?_
    rw [block_p m ρ c hP, EReal.coe_mul, mul_comm a.val k.val, block_table, table_cos m ρ c k a]
  · refine Finset.sum_congr rfl fun a _ => ?_
    rw [block_q m ρ c hQ, EReal.coe_mul, mul_comm a.val k.val, block_table, table_sin m ρ c k a]
include hP hQ in
theorem sums_high (t : Fin cfg0.N) (k : Fin 64) (j : Fin 8192) : sums (iblk0 (V1 m ρ) c 0 t) (iblk0 (V1 m ρ) c 1 t) (iblk0 (V1 m ρ) c 2 t) ⟨64 + k.val, by omega⟩ j
    = ((Cert.Turn.coarseB (realP m c ⟨t.val / 32, by have := point0_lt t; omega⟩ ⟨(t.val % 32 * 8192 + j.val) % 2048, by omega⟩) (realQ m c ⟨t.val / 32, by have := point0_lt t; omega⟩ ⟨(t.val % 32 * 8192 + j.val) % 2048, by omega⟩) ((t.val % 32 * 8192 + j.val) / 2048) k.val : ℝ) : EReal) := by
  unfold sums Cert.Turn.coarseB
  rw [EReal.coe_add, ← Cert.Softmax.coe_sum, ← Cert.Softmax.coe_sum]
  refine congr (congrArg HAdd.hAdd ?_) ?_
  · refine Finset.sum_congr rfl fun a _ => ?_
    rw [block_p m ρ c hP, EReal.coe_mul, mul_comm a.val k.val, block_table, table_sin' m ρ c k a]
  · refine Finset.sum_congr rfl fun a _ => ?_
    rw [block_q m ρ c hQ, EReal.coe_mul, mul_comm a.val k.val, block_table, table_cos' m ρ c k a]

include hP hQ in
theorem final5 : (dat0 (V1 m ρ) c).arrAt 5 cfg0.N = firstA m c := by
  refine (dat0 (V1 m ρ) c).arrAt_eq_of_covers 5 _ covered5 fun t hf y => ?_
  blk_simp
  rw [after0_5]
  obtain ⟨k, j, rfl⟩ : ∃ (k : Fin 64) (j : Fin 8192), y = ix3 0 k j := ⟨y 1, y 2, (eq_ix3 y).trans (congrArg (fun a => ix3 a (y 1) (y 2)) (Subsingleton.elim _ _))⟩
  refine ((body5_at _ _ _ _ _ k j).trans ?_).trans (congrArg (firstA m c) (emb0_5 t k j)).symm
  unfold turnA
  rw [sums_low m ρ c hP hQ, sums_high m ρ c hP hQ, block_cos, block_sin, ← EReal.coe_mul, ← EReal.coe_mul, ← EReal.coe_add]
  rfl
include hP hQ in
theorem final6 : (dat0 (V1 m ρ) c).arrAt 6 cfg0.N = firstB m c := by
  refine (dat0 (V1 m ρ) c).arrAt_eq_of_covers 6 _ covered6 fun t hf y => ?_
  blk_simp
  rw [after0_6]
  obtain ⟨k, j, rfl⟩ : ∃ (k : Fin 64) (j : Fin 8192), y = ix3 0 k j := ⟨y 1, y 2, (eq_ix3 y).trans (congrArg (fun a => ix3 a (y 1) (y 2)) (Subsingleton.elim _ _))⟩
  refine ((body6_at _ _ _ _ _ k j).trans ?_).trans (congrArg (firstB m c) (emb0_6 t k j)).symm
  unfold turnB
  rw [sums_low m ρ c hP hQ, sums_high m ρ c hP hQ, block_cos, block_sin, ← EReal.coe_mul, ← EReal.coe_mul, ← EReal.coe_sub]
  rfl

include hP hQ in
theorem block_a (t : Fin cfg1.N) (n : Fin 128) (j : Fin 2048) : iblk1 (V3 m ρ) c 1 t (ix4 0 0 n j)
    = ((Cert.Turn.turnedA (realP m c ⟨t.val / 64, by have := point1_lt t; omega⟩ j) (realQ m c ⟨t.val / 64, by have := point1_lt t; omega⟩ j) n.val (t.val % 64) : ℝ) : EReal) := by
  refine ((congrArg (V3 m ρ c (Pipeline.arrRef spec1 1)) (emb1_1 t n j)).trans (operand1 m ρ c _ _ n j)).trans ?_
  rw [final5 m ρ c hP hQ]
  have e1 : (⟨(2048 * n.val + j.val) % 2048, by omega⟩ : Fin 2048) = j := Fin.ext (show (2048 * n.val + j.val) % 2048 = j.val by omega)
  have e2 : (2048 * n.val + j.val) / 2048 = n.val := by omega
  show ((Cert.Turn.turnedA (realP m c _ ⟨(2048 * n.val + j.val) % 2048, by omega⟩) (realQ m c _ ⟨(2048 * n.val + j.val) % 2048, by omega⟩) ((2048 * n.val + j.val) / 2048) (t.val % 64) : ℝ) : EReal) = _
  rw [e1, e2]
  rfl
include hP hQ in
theorem block_b (t : Fin cfg1.N) (n : Fin 128) (j : Fin 2048) : iblk1 (V3 m ρ) c 2 t (ix4 0 0 n j)
    = ((Cert.Turn.turnedB (realP m c ⟨t.val / 64, by have := point1_lt t; omega⟩ j) (realQ m c ⟨t.val / 64, by have := point1_lt t; omega⟩ j) n.val (t.val % 64) : ℝ) : EReal) := by
  refine ((congrArg (V3 m ρ c (Pipeline.arrRef spec1 2)) (emb1_2 t n j)).trans (operand2 m ρ c _ _ n j)).trans ?_
  rw [final6 m ρ c hP hQ]
  have e1 : (⟨(2048 * n.val + j.val) % 2048, by omega⟩ : Fin 2048) = j := Fin.ext (show (2048 * n.val + j.val) % 2048 = j.val by omega)
  have e2 : (2048 * n.val + j.val) / 2048 = n.val := by omega
  show ((Cert.Turn.turnedB (realP m c _ ⟨(2048 * n.val + j.val) % 2048, by omega⟩) (realQ m c _ ⟨(2048 * n.val + j.val) % 2048, by omega⟩) ((2048 * n.val + j.val) / 2048) (t.val % 64) : ℝ) : EReal) = _
  rw [e1, e2]
  rfl

/-- The reference's result of the arguments that the program is given. -/
def wanted : FVec Ideal S2x128x131072 .bf16 := Cert.MixRefIdeal.Call.answer (argP m c) (argQ m c)

include hP hQ in
/-- The reference's result as a real number. -/
theorem wanted_at (b : Fin 2) (l : Fin 128) (J : Fin 131072) (k : ℕ) (j : Fin 2048) (hk : J.val / 2048 = k) (hj : J.val % 2048 = j.val) :
    wanted m c (ix3 b l J) = ((((∑ n : Fin 8192, Real.cos (Cert.Turn.step 8192 ((n.val * (64 * l.val + k) : ℕ) : ℝ)) * realP m c b j n.val)
      - ∑ n : Fin 8192, Real.sin (Cert.Turn.step 8192 ((n.val * (64 * l.val + k) : ℕ) : ℝ)) * realQ m c b j n.val) * (Real.sqrt 2097152)⁻¹ : ℝ) : EReal) := by
  subst hk
  have ej : (⟨J.val % 2048, by omega⟩ : Fin 2048) = j := Fin.ext hj
  have hs : Ideal.sqrt (Ideal.ofBits .f32 0x4A000000#32) = ((Real.sqrt 2097152 : ℝ) : EReal) := by
    rw [Cert.Turn.word_2097152, Ideal.sqrt_coe, if_neg (by norm_num)]
  unfold wanted Cert.MixRefIdeal.Call.answer
  rw [Cert.MixRefIdeal.Call.against_at, hs, Ideal.div_coe (by positivity), EReal.coe_mul, EReal.coe_sub, ← Cert.Softmax.coe_sum, ← Cert.Softmax.coe_sum, one_div]
  refine congrArg (fun x : EReal => x * (((Real.sqrt 2097152)⁻¹ : ℝ) : EReal)) (congr (congrArg HSub.hSub ?_) ?_)
  · refine Finset.sum_congr rfl fun n _ => ?_
    rw [ej, realP_eq m c hP, EReal.coe_mul, show n.val * (64 * l.val + J.val / 2048) = (l.val * 64 + J.val / 2048) * n.val by ring]
    exact congrArg (fun x : EReal => x * _) (congrArg Ideal.cos (Cert.MixRefIdeal.Call.angles_at ⟨l.val * 64 + J.val / 2048, by omega⟩ n))
  · refine Finset.sum_congr rfl fun n _ => ?_
    rw [ej, realQ_eq m c hQ, EReal.coe_mul, show n.val * (64 * l.val + J.val / 2048) = (l.val * 64 + J.val / 2048) * n.val by ring]
    exact congrArg (fun x : EReal => x * _) (congrArg Ideal.sin (Cert.MixRefIdeal.Call.angles_at ⟨l.val * 64 + J.val / 2048, by omega⟩ n))

include hP hQ in
/-- The second launch's array is the reference's. -/
theorem final : (dat1 (V3 m ρ) c).arrAt 3 cfg1.N = wanted m c := by
  refine (dat1 (V3 m ρ) c).arrAt_eq_of_covers 3 _ covered3 fun t hf y => ?_
  blk_simp
  rw [after1_3]
  obtain ⟨l, j, rfl⟩ : ∃ (l : Fin 128) (j : Fin 2048), y = ix3 0 l j := ⟨y 1, y 2, (eq_ix3 y).trans (congrArg (fun a => ix3 a (y 1) (y 2)) (Subsingleton.elim _ _))⟩
  refine ((body1_at _ _ _ l j).trans ?_).trans (congrArg (wanted m c) (emb1_3 t l j)).symm
  refine Eq.trans ?_ (wanted_at m c hP hQ ⟨t.val / 64, by have := point1_lt t; omega⟩ l ⟨t.val % 64 * 2048 + j.val, by omega⟩ (t.val % 64) j (show (t.val % 64 * 2048 + j.val) / 2048 = t.val % 64 by omega) (show (t.val % 64 * 2048 + j.val) % 2048 = j.val by omega)).symm
  rw [← Cert.Turn.transform, EReal.coe_mul, EReal.coe_add, ← Cert.Softmax.coe_sum, ← Cert.Softmax.coe_sum]
  refine congrArg (fun x : EReal => x * (((Real.sqrt 2097152)⁻¹ : ℝ) : EReal)) (congr (congrArg HAdd.hAdd ?_) ?_)
  · refine Finset.sum_congr rfl fun n _ => ?_
    rw [block_a m ρ c hP hQ, EReal.coe_mul, mul_comm n.val l.val, block_table1, table1_cos m ρ c l n]
  · refine Finset.sum_congr rfl fun n _ => ?_
    rw [block_b m ρ c hP hQ, EReal.coe_mul, mul_comm n.val l.val, block_table1, table1_sin m ρ c l n]

end Launches

instance : Subsingleton Cert.Pre_finite_parts.S_.Idx := ⟨fun a b => funext fun i => i.elim0⟩

/-- The precondition says that both arguments are real. -/
theorem reals_of_pre (p q : FVec Ideal Cert.Pre_finite_parts.S2x8192x2048 .f32) (h : Cert.Pre_finite_parts.fn p q = fun _ => 1#1) :
    (∀ i, ∃ x : ℝ, p i = (x : EReal)) ∧ ∀ i, ∃ x : ℝ, q i = (x : EReal) := by
  have h0 := congrFun h (fun i => i.elim0)
  obtain ⟨h1, h2⟩ := Cert.KernelIdeal.Attn.and_one h0
  exact ⟨fun i => Cert.KernelIdeal.Attn.real_of_abs_lt _ (Host.reduce_andi_all _ _ _ _ _ h1 i), fun i => Cert.KernelIdeal.Attn.real_of_abs_lt _ (Host.reduce_andi_all _ _ _ _ _ h2 i)⟩

end Cert.MixIdeal.Call

end
-- ==== Proof.Calls.Mod.lean ====
/-
  What the modulation's call computes: the projection of the gated conditions of both groups.
-/
module

public import proofs.«01_k».proof.Proof.Gen.ModIdeal.Value
public import proofs.«01_k».proof.Proof.Gen.ModRefIdeal
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ModRefIdeal.Call

open Cert.ModRefIdeal Cert.ModRefIdeal.Gen
open Idealize.ShloMosaic

/-- A condition times its logistic function. -/
def swish (x : EReal) : EReal := x * Ideal.div (Ideal.ofBits .f32 0x3F800000#32) (Ideal.ofBits .f32 0x3F800000#32 + Ideal.exp (-x))

/-- The projection of one group's conditions. -/
def part (c : FVec Ideal S2x4096 .f32) (w : FVec Ideal S4096x24576 .f32) (b : FVec Ideal S24576 .f32) : FVec Ideal S2x24576 .f32 :=
  addf (Host.dotGeneral (φ₁ := .f32) dot_S2x4096_S4096x24576_S2x24576_1_0_0_1_n_n none (mulf c (Host.divf (broadcastInDim S2x4096 ![] bcast_S_S2x4096 (constant S_ .f32 0x3F800000#32)) (addf (broadcastInDim S2x4096 ![] bcast_S_S2x4096 (constant S_ .f32 0x3F800000#32)) (Host.exp (Host.negf c))))) w) (broadcastInDim S2x24576 ![0, 1] bcast_S1x24576_S2x24576_0_1 (broadcastInDim S1x24576 ![1] bcast_S24576_S1x24576_1 b))

/-- The projections of both groups, then rows of the bias. -/
def stack (x y : FVec Ideal S2x24576 .f32) (b : FVec Ideal S24576 .f32) : FVec Ideal S8x24576 .f32 :=
  (concatenate S8x24576 0 [⟨S2x24576, (x : (⟨S2x24576, .f32⟩ : BufTy).Contents (Elt Ideal))⟩, ⟨S2x24576, (y : (⟨S2x24576, .f32⟩ : BufTy).Contents (Elt Ideal))⟩, ⟨S4x24576, ((broadcastInDim S4x24576 ![1] bcast_S24576_S4x24576_1 b) : (⟨S4x24576, .f32⟩ : BufTy).Contents (Elt Ideal))⟩] concatenates_S2x24576_S2x24576_S4x24576_S8x24576_d0 : (⟨S8x24576, .f32⟩ : BufTy).Contents (Elt Ideal))

/-- The reference's result of its arguments. -/
def answer (cp cs : FVec Ideal S2x4096 .f32) (w : FVec Ideal S4096x24576 .f32) (b : FVec Ideal S24576 .f32) : FVec Ideal S8x24576 .f32 :=
  stack (part cp w b) (part cs w b) b

theorem part_at (c : FVec Ideal S2x4096 .f32) (w : FVec Ideal S4096x24576 .f32) (b : FVec Ideal S24576 .f32) (r : Fin 2) (j : Fin 24576) :
    part c w b (ix2 r j) = (∑ k : Fin 4096, swish (c (ix2 r k)) * w (ix2 k j)) + b (ix1 j) := by
  pointwise [part, swish]

theorem stack_p (x y : FVec Ideal S2x24576 .f32) (b : FVec Ideal S24576 .f32) (r : Fin 2) (j : Fin 24576) :
    stack x y b (ix2 ⟨r.val, by omega⟩ j) = x (ix2 r j) := by
  unfold stack
  pointwise []
theorem stack_s (x y : FVec Ideal S2x24576 .f32) (b : FVec Ideal S24576 .f32) (r : Fin 2) (j : Fin 24576) :
    stack x y b (ix2 ⟨2 + r.val, by omega⟩ j) = y (ix2 r j) := by
  unfold stack
  pointwise []
theorem stack_b (x y : FVec Ideal S2x24576 .f32) (b : FVec Ideal S24576 .f32) (r : Fin 4) (j : Fin 24576) :
    stack x y b (ix2 ⟨4 + r.val, by omega⟩ j) = b (ix1 j) := by
  unfold stack
  pointwise []
  rw [dif_neg (by omega), dif_neg (by omega)]

end Cert.ModRefIdeal.Call

namespace Cert.ModIdeal.Call

open Cert.ModIdeal Cert.ModIdeal.Gen
open Idealize.ShloMosaic Idealize.ShloMosaic.TcCoe Idealize.ShloMosaic.Pipeline

variable (m : (ℓ : Loc nD τ sig) → Buf (Elt Ideal) ℓ) (c : Dev nD)

abbrev argP : FVec Ideal S2x4096 .f32 := m ((c.tc : Thread nD τ).loc main_arg0)
abbrev argS : FVec Ideal S2x4096 .f32 := m ((c.tc : Thread nD τ).loc main_arg1)
abbrev argW : FVec Ideal S4096x24576 .f32 := m ((c.tc : Thread nD τ).loc main_arg2)
abbrev argB : FVec Ideal S24576 .f32 := m ((c.tc : Thread nD τ).loc main_arg3)

/-- The kernel's logistic function is the reference's quotient. -/
theorem logistic_eq (x : EReal) : x * Ideal.logistic x = Cert.ModRefIdeal.Call.swish x := by
  have h : Ideal.ofBits .f32 0x3F800000#32 = (1 : EReal) := by
    simp [Ideal.ofBits, Ideal.ieee]
    rw [← EReal.coe_mul]
    norm_num
  unfold Cert.ModRefIdeal.Call.swish
  rw [h]
  rfl

/-- The body's block of its three blocks, entry by entry. -/
theorem body_at (x0 : Vec Ideal S8x4096 .f32) (x1 : Vec Ideal S4096x512 .f32) (x2 : Vec Ideal S1x512 .f32) (r : Fin 8) (j : Fin 512) :
    out0_3 x0 x1 x2 (ix2 r j) = (∑ k : Fin 4096, Cert.ModRefIdeal.Call.swish (x0 (ix2 r k)) * x1 (ix2 k j)) + x2 (ix2 0 j) := by
  simp only [← logistic_eq]
  unfold out0_3
  simp (disch := decide) only [View.canon_cons_unit_lit', View.ld_unit_lit']
  pointwise [k0_pay1]

theorem staged_p (r : Fin 2) (j : Fin 4096) : (V m c main_v1 : FVec Ideal S8x4096 .f32) (ix2 ⟨r.val, by omega⟩ j) = argP m c (ix2 r j) := by
  unfold V
  after_reads_at
  exact dif_pos (by omega)
theorem staged_s (r : Fin 2) (j : Fin 4096) : (V m c main_v1 : FVec Ideal S8x4096 .f32) (ix2 ⟨2 + r.val, by omega⟩ j) = argS m c (ix2 r j) := by
  unfold V
  after_reads_at
  exact dif_pos (by omega)
theorem staged_0 (r : Fin 4) (j : Fin 4096) : (V m c main_v1 : FVec Ideal S8x4096 .f32) (ix2 ⟨4 + r.val, by omega⟩ j) = (0 : EReal) := by
  unfold V
  after_reads_at
  show (((0#32 : BitVec 32).toInt : ℝ) : EReal) = 0
  norm_num
theorem staged_b (j : Fin 24576) : (V m c (Pipeline.arrRef spec0 2) : FVec Ideal S1x24576 .f32) (ix2 0 j) = argB m c (ix1 j) := by
  show (V m c main_v2 : FVec Ideal S1x24576 .f32) (ix2 0 j) = _
  unfold V
  after_reads_at

theorem point_lt (t : Fin cfg0.N) : t.val < 48 := t.isLt
theorem index0 (t : Fin cfg0.N) : (cfg0.win 0).index t = ![0, 0] := by
  revert t; decide +kernel
theorem index1 (t : Fin cfg0.N) : (cfg0.win 1).index t = ![0, t.val] := by
  revert t; decide +kernel
theorem index2 (t : Fin cfg0.N) : (cfg0.win 2).index t = ![0, t.val] := by
  revert t; decide +kernel
theorem index3 (t : Fin cfg0.N) : (cfg0.win 3).index t = ![0, t.val] := by
  revert t; decide +kernel
theorem out_covered : (cfg0.win 3).Covers := by decide +kernel

theorem block0_emb (t : Fin cfg0.N) (r : Fin 8) (j : Fin 4096) :
    ((cfg0.win 0).blk t).view.emb ((ix2 r j)) = (ix2 r j : (S8x4096).Idx) := by
  have h := point_lt t
  funext a
  apply Fin.ext
  match a with
  | ⟨0, _⟩ => blk_simp; rw [show win0_0.index t = _ from index0 t]; first | rfl | simp
  | ⟨1, _⟩ => blk_simp; rw [show win0_0.index t = _ from index0 t]; first | rfl | simp

theorem block1_emb (t : Fin cfg0.N) (r : Fin 4096) (j : Fin 512) :
    ((cfg0.win 1).blk t).view.emb ((ix2 r j)) = (ix2 r ⟨t.val * 512 + j.val, by have := point_lt t; omega⟩ : (S4096x24576).Idx) := by
  have h := point_lt t
  funext a
  apply Fin.ext
  match a with
  | ⟨0, _⟩ => blk_simp; rw [show win0_1.index t = _ from index1 t]; first | rfl | simp
  | ⟨1, _⟩ => blk_simp; rw [show win0_1.index t = _ from index1 t]; first | rfl | simp

theorem block2_emb (t : Fin cfg0.N) (j : Fin 512) :
    ((cfg0.win 2).blk t).view.emb ((ix2 0 j : S1x512.Idx)) = (ix2 0 ⟨t.val * 512 + j.val, by have := point_lt t; omega⟩ : (S1x24576).Idx) := by
  have h := point_lt t
  funext a
  apply Fin.ext
  match a with
  | ⟨0, _⟩ => blk_simp; rw [show win0_2.index t = _ from index2 t]; first | rfl | simp
  | ⟨1, _⟩ => blk_simp; rw [show win0_2.index t = _ from index2 t]; first | rfl | simp

theorem block3_emb (t : Fin cfg0.N) (r : Fin 8) (j : Fin 512) :
    ((cfg0.win 3).blk t).view.emb ((ix2 r j)) = (ix2 r ⟨t.val * 512 + j.val, by have := point_lt t; omega⟩ : (S8x24576).Idx) := by
  have h := point_lt t
  funext a
  apply Fin.ext
  match a with
  | ⟨0, _⟩ => blk_simp; rw [show win0_3.index t = _ from index3 t]; first | rfl | simp
  | ⟨1, _⟩ => blk_simp; rw [show win0_3.index t = _ from index3 t]; first | rfl | simp

theorem block_c (t : Fin cfg0.N) (r : Fin 8) (j : Fin 4096) : iblk m c 0 t (ix2 r j) = (V m c main_v1 : FVec Ideal S8x4096 .f32) (ix2 r j) :=
  congrArg (V m c (Pipeline.arrRef spec0 0)) (block0_emb t r j)
theorem block_w (t : Fin cfg0.N) (r : Fin 4096) (j : Fin 512) : iblk m c 1 t (ix2 r j) = argW m c (ix2 r ⟨t.val * 512 + j.val, by have := point_lt t; omega⟩) :=
  (congrArg (V m c (Pipeline.arrRef spec0 1)) (block1_emb t r j)).trans (congrFun (V_main_arg2 m c) _)
theorem block_b (t : Fin cfg0.N) (j : Fin 512) : iblk m c 2 t (ix2 0 j : S1x512.Idx) = argB m c (ix1 ⟨t.val * 512 + j.val, by have := point_lt t; omega⟩) :=
  (congrArg (V m c (Pipeline.arrRef spec0 2)) (block2_emb t j)).trans (staged_b m c _)

/-- The reference's result of the arguments that the program is given. -/
def wanted : FVec Ideal S8x24576 .f32 := Cert.ModRefIdeal.Call.answer (argP m c) (argS m c) (argW m c) (argB m c)

/-- The reference's result from the padded conditions. -/
theorem wanted_at (r : Fin 8) (j : Fin 24576) :
    wanted m c (ix2 r j) = (∑ k : Fin 4096, Cert.ModRefIdeal.Call.swish ((V m c main_v1 : FVec Ideal S8x4096 .f32) (ix2 r k)) * argW m c (ix2 k j)) + argB m c (ix1 j) := by
  unfold wanted Cert.ModRefIdeal.Call.answer
  by_cases h2 : r.val < 2
  · obtain ⟨i, hi⟩ : ∃ i : Fin 2, r = ⟨i.val, lt_of_lt_of_le i.isLt (by decide)⟩ := ⟨⟨r.val, h2⟩, rfl⟩
    clear h2
    subst hi
    rw [Cert.ModRefIdeal.Call.stack_p _ _ _ i, Cert.ModRefIdeal.Call.part_at]
    simp only [staged_p m c i]
  by_cases h4 : r.val < 4
  · obtain ⟨i, hi⟩ : ∃ i : Fin 2, r = ⟨2 + i.val, lt_of_lt_of_le (Nat.add_lt_add_left i.isLt _) (by decide)⟩ := ⟨⟨r.val - 2, by omega⟩, Fin.ext (show r.val = 2 + (r.val - 2) by omega)⟩
    clear h2 h4
    subst hi
    rw [Cert.ModRefIdeal.Call.stack_s _ _ _ i, Cert.ModRefIdeal.Call.part_at]
    simp only [staged_s m c i]
  · obtain ⟨i, hi⟩ : ∃ i : Fin 4, r = ⟨4 + i.val, lt_of_lt_of_le (Nat.add_lt_add_left i.isLt _) (by decide)⟩ := ⟨⟨r.val - 4, by omega⟩, Fin.ext (show r.val = 4 + (r.val - 4) by omega)⟩
    clear h2 h4
    subst hi
    rw [Cert.ModRefIdeal.Call.stack_b _ _ _ i]
    simp only [staged_0 m c i, Cert.ModRefIdeal.Call.swish, zero_mul, Finset.sum_const_zero, zero_add]

/-- The launch's output array is the reference's result. -/
theorem final : (dats m 0 c).arrAt 3 cfg0.N = wanted m c := by
  refine (dats m 0 c).arrAt_eq_of_covers 3 _ out_covered fun t hf y => ?_
  blk_simp
  rw [after0_3]
  obtain ⟨r, j, rfl⟩ : ∃ (r : Fin 8) (j : Fin 512), y = ix2 r j := ⟨y 0, y 1, eq_ix2 y⟩
  refine ((body_at _ _ _ r j).trans ?_).trans (congrArg (wanted m c) (block3_emb t r j)).symm
  rw [wanted_at, block_b]
  refine congrArg (· + _) (Finset.sum_congr rfl fun k _ => ?_)
  rw [block_c, block_w]

end Cert.ModIdeal.Call

end
-- ==== Proof.lean ====
/-
  The claims about the calls: the frames of each kernel, its ideal program and its reference, and the equality of
  kernel and reference over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scores
public import proofs.«01_k».proof.Proof.Gen.ReferenceIdeal.Run
public import proofs.«01_k».proof.Proof.Attn.Launch
public import proofs.«01_k».proof.Proof.Attn.Tie
public import proofs.«01_k».proof.Proof.Attn.Finite
public import Idealize.ShloMosaic.Lib.Claim
public import proofs.«01_k».proof.Proof.Gen.Inproj
public import proofs.«01_k».proof.Proof.Gen.InprojRefIdeal.Run
public import proofs.«01_k».proof.Proof.Calls.Inproj
public import proofs.«01_k».proof.Proof.Gen.Merge
public import proofs.«01_k».proof.Proof.Gen.MergeRefIdeal.Run
public import proofs.«01_k».proof.Proof.Calls.Merge
public import proofs.«01_k».proof.Proof.Gen.Outproj
public import proofs.«01_k».proof.Proof.Gen.OutprojRefIdeal.Run
public import proofs.«01_k».proof.Proof.Calls.Outproj
public import proofs.«01_k».proof.Proof.Gen.Final
public import proofs.«01_k».proof.Proof.Gen.FinalRefIdeal.Run
public import proofs.«01_k».proof.Proof.Calls.Final
public import proofs.«01_k».proof.Proof.Gen.Fproj
public import proofs.«01_k».proof.Proof.Gen.FprojRefIdeal.Run
public import proofs.«01_k».proof.Proof.Calls.Fproj
public import proofs.«01_k».proof.Proof.Gen.Ln
public import proofs.«01_k».proof.Proof.Gen.LnRefIdeal.Run
public import proofs.«01_k».proof.Proof.Calls.Ln
public import proofs.«01_k».proof.Proof.Gen.Mix.Frame
public import proofs.«01_k».proof.Proof.Gen.MixRefIdeal.Run
public import proofs.«01_k».proof.Proof.Calls.MixRun
public import proofs.«01_k».proof.Proof.Calls.Mix
public import proofs.«01_k».proof.Proof.Gen.Pre_finite_parts
public import proofs.«01_k».proof.Proof.Gen.Mod.Frame
public import proofs.«01_k».proof.Proof.Calls.Mod
public import proofs.«01_k».proof.Proof.Gen.ModRefIdeal.Run
public import Idealize.ShloMosaic.Adequacy
public import Idealize.ShloMosaic.Init

@[expose] public section

set_option maxRecDepth 16384

noncomputable section

namespace Cert.Proof

open Idealize.ShloMosaic Idealize.SL.Sem

/-- The kernel and its ideal program have the same table of bodies. -/
theorem same_bodies {F : FTy → Type} [FloatOps F] : @Cert.Kernel.defs₀ F _ _ = @Cert.KernelIdeal.defs₀ F _ _ := by
  unfold Cert.Kernel.defs₀ Cert.KernelIdeal.defs₀
  refine congrArg _ ?_
  funext l a
  match l, a with
  | 0, (t, s) => rfl

theorem same_table {F : FTy → Type} [FloatOps F] : @Cert.Kernel.defs F _ _ = @Cert.KernelIdeal.defs F _ _ :=
  congrArg (Pipeline.defs (Cert.KernelIdeal.pcfgs (F := F))) same_bodies

/-- The frame of the kernel on words: the run of the ideal program's text, which is the same, read at the words. -/
theorem frame_kernel : Cert.quiescent_Kernel := fun m ρ _ => by
  rw [same_table]
  exact Cert.KernelIdeal.Attn.frame_all (F := Bits) m ρ

/-- The frame of the ideal program. -/
theorem frame_ideal : Cert.quiescent_KernelIdeal := fun m ρ _ => Cert.KernelIdeal.Attn.frame_all m ρ

/-- The same frame from the memories of the precondition. -/
theorem frame_ideal_pre : Cert.quiescent_KernelIdeal_pre_finite_scores := fun m ρ _ => Cert.KernelIdeal.Attn.frame_all m ρ

/-- The frame of the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The same frame from the memories of the precondition. -/
theorem frame_reference_pre : Cert.quiescent_ReferenceIdeal_pre_finite_scores := fun m ρ _ =>
  frame_reference m ρ trivial

/-- The kernel's array is the reference's, for finite queries and keys. -/
theorem values : Cert.algebraic_KernelIdeal_ReferenceIdeal_pre_finite_scores := by
  intro m g m' g' hpre hagree
  refine ⟨fun c => Cert.KernelIdeal.Attn.wanted m c, ?_, ?_⟩
  · refine (θ_run Cert.KernelIdeal.defs _ _).mono (fun _ h c => ?_) (Cert.KernelIdeal.Attn.run_value m g)
    obtain ⟨hq, hk⟩ := Cert.KernelIdeal.Attn.reals_of_pre _ _ _ _ (hpre c)
    obtain ⟨h0, h1⟩ := h c
    exact ⟨h0.trans (Cert.KernelIdeal.Attn.final m c hq hk), h1⟩
  · refine (θ_run Cert.ReferenceIdeal.defs _ _).mono (fun _ h c => ?_) (Cert.ReferenceIdeal.Value.run m' g')
    obtain ⟨h0, ha, hb, hc, hd⟩ := h c
    obtain ⟨ea, eb, ec, ed⟩ := hagree c
    refine ⟨h0.trans ?_, ha, hb, hc, hd⟩
    show Cert.ReferenceIdeal.Attn.answer _ _ _ = Cert.ReferenceIdeal.Attn.answer _ _ _
    rw [ea, eb, ec]

/-- The in-projection call and its ideal program have the same table of bodies. -/
theorem inproj_bodies {F : FTy → Type} [FloatOps F] : @Cert.Inproj.defs₀ F _ _ = @Cert.InprojIdeal.defs₀ F _ _ := by
  unfold Cert.Inproj.defs₀ Cert.InprojIdeal.defs₀
  refine congrArg _ ?_
  funext l a
  match l, a with
  | 0, (t, s) => rfl

theorem inproj_table {F : FTy → Type} [FloatOps F] : @Cert.Inproj.defs F _ _ = @Cert.InprojIdeal.defs F _ _ :=
  congrArg (Pipeline.defs (Cert.InprojIdeal.pcfgs (F := F))) inproj_bodies

/-- Nor do the lines around the launch differ. -/
theorem inproj_literal : Cert.Inproj.lit0 = Cert.InprojIdeal.lit0 := by
  funext i
  revert i
  decide +kernel

set_option maxHeartbeats 4000000 in
theorem inproj_first {F : FTy → Type} [FloatOps F] : Cert.Inproj.main_part0 (F := F) = Cert.InprojIdeal.main_part0 (F := F) := by
  unfold Cert.Inproj.main_part0 Cert.InprojIdeal.main_part0
  rw [inproj_literal]
  rfl

theorem inproj_last {F : FTy → Type} [FloatOps F] : Cert.Inproj.main_part1 (F := F) = Cert.InprojIdeal.main_part1 (F := F) := by
  rfl

theorem inproj_main {F : FTy → Type} [FloatOps F] : Cert.Inproj.main (F := F) = Cert.InprojIdeal.main (F := F) := by
  unfold Cert.Inproj.main Cert.InprojIdeal.main
  rw [inproj_first, inproj_last]
  rfl

/-- The frames of the in-projection call, of its ideal program and of its reference. -/
theorem inproj_frame : Cert.quiescent_Inproj := fun m ρ _ => by
  rw [inproj_table, inproj_main]
  exact Cert.InprojIdeal.Gen.frame (F := Bits) m ρ

theorem inproj_frame_ideal : Cert.quiescent_InprojIdeal := fun m ρ _ => Cert.InprojIdeal.Gen.frame m ρ

theorem inproj_frame_reference : Cert.quiescent_InprojRefIdeal := fun m ρ _ =>
  (θ_run Cert.InprojRefIdeal.defs _ _).mono
    (fun r h => ⟨fun c => (h c).2, sem_eq_zero_of_no_sems (by decide) r.2⟩) (Cert.InprojRefIdeal.Value.run m ρ)

/-- The in-projection call's array is the reference's. -/
theorem inproj_values : Cert.algebraic_InprojIdeal_InprojRefIdeal := by
  intro m g m' g' _ hagree
  refine ⟨fun c => Cert.InprojIdeal.Call.wanted m c, ?_, ?_⟩
  · refine (θ_run Cert.InprojIdeal.defs _ _).mono (fun _ h c => ?_) (Cert.InprojIdeal.Value.run_blocks m g)
    obtain ⟨h0, h1⟩ := h c
    exact ⟨h0.trans (Cert.InprojIdeal.Call.final m c), h1⟩
  · refine (θ_run Cert.InprojRefIdeal.defs _ _).mono (fun _ h c => ?_) (Cert.InprojRefIdeal.Value.run m' g')
    obtain ⟨h0, h1, h2, h3, h4⟩ := h c
    obtain ⟨e0, e1, e2, e3⟩ := hagree c
    refine ⟨h0.trans ?_, h1, h2, h3, h4⟩
    refine (Cert.InprojRefIdeal.Call.answer_eq m' c).trans ?_
    show Cert.InprojRefIdeal.Call.answer _ _ _ _ = Cert.InprojRefIdeal.Call.answer _ _ _ _
    rw [e0, e1, e2, e3]

/-- The merge call and its ideal program have the same table of bodies. -/
theorem merge_bodies {F : FTy → Type} [FloatOps F] : @Cert.Merge.defs₀ F _ _ = @Cert.MergeIdeal.defs₀ F _ _ := by
  unfold Cert.Merge.defs₀ Cert.MergeIdeal.defs₀
  refine congrArg _ ?_
  funext l a
  match l, a with
  | 0, (t, s) => rfl

theorem merge_table {F : FTy → Type} [FloatOps F] : @Cert.Merge.defs F _ _ = @Cert.MergeIdeal.defs F _ _ :=
  congrArg (Pipeline.defs (Cert.MergeIdeal.pcfgs (F := F))) merge_bodies

/-- The frames of the merge call, of its ideal program and of its reference. -/
theorem merge_frame : Cert.quiescent_Merge := fun m ρ _ => by
  rw [merge_table]
  exact Cert.MergeIdeal.Gen.frame (F := Bits) m ρ

theorem merge_frame_ideal : Cert.quiescent_MergeIdeal := fun m ρ _ => Cert.MergeIdeal.Gen.frame m ρ

theorem merge_frame_reference : Cert.quiescent_MergeRefIdeal := fun m ρ _ =>
  (θ_run Cert.MergeRefIdeal.defs _ _).mono
    (fun r h => ⟨fun c => (h c).2, sem_eq_zero_of_no_sems (by decide) r.2⟩) (Cert.MergeRefIdeal.Value.run m ρ)

/-- The merge call's array is the reference's. -/
theorem merge_values : Cert.algebraic_MergeIdeal_MergeRefIdeal := by
  intro m g m' g' _ hagree
  refine ⟨fun c => Cert.MergeIdeal.Call.wanted m c, ?_, ?_⟩
  · refine (θ_run Cert.MergeIdeal.defs _ _).mono (fun _ h c => ?_) (Cert.MergeIdeal.Value.run_blocks m g)
    obtain ⟨h0, h1⟩ := h c
    exact ⟨h0.trans (Cert.MergeIdeal.Call.final m c), h1⟩
  · refine (θ_run Cert.MergeRefIdeal.defs _ _).mono (fun _ h c => ?_) (Cert.MergeRefIdeal.Value.run m' g')
    obtain ⟨h0, h1, h2, h3, h4, h5, h6, h7⟩ := h c
    obtain ⟨e0, e1, e2, e3, e4, e5, e6⟩ := hagree c
    refine ⟨h0.trans ?_, h1, h2, h3, h4, h5, h6, h7⟩
    show Cert.MergeRefIdeal.Call.answer _ _ _ _ _ _ = Cert.MergeRefIdeal.Call.answer _ _ _ _ _ _
    rw [e0, e1, e2, e3, e5, e6]

/-- The out-projection call and its ideal program have the same table of bodies. -/
theorem outproj_bodies {F : FTy → Type} [FloatOps F] : @Cert.Outproj.defs₀ F _ _ = @Cert.OutprojIdeal.defs₀ F _ _ := by
  unfold Cert.Outproj.defs₀ Cert.OutprojIdeal.defs₀
  refine congrArg _ ?_
  funext l a
  match l, a with
  | 0, (t, s) => rfl

theorem outproj_table {F : FTy → Type} [FloatOps F] : @Cert.Outproj.defs F _ _ = @Cert.OutprojIdeal.defs F _ _ :=
  congrArg (Pipeline.defs (Cert.OutprojIdeal.pcfgs (F := F))) outproj_bodies

/-- The frames of the out-projection call, of its ideal program and of its reference. -/
theorem outproj_frame : Cert.quiescent_Outproj := fun m ρ _ => by
  rw [outproj_table]
  exact Cert.OutprojIdeal.Gen.frame (F := Bits) m ρ

theorem outproj_frame_ideal : Cert.quiescent_OutprojIdeal := fun m ρ _ => Cert.OutprojIdeal.Gen.frame m ρ

theorem outproj_frame_reference : Cert.quiescent_OutprojRefIdeal := fun m ρ _ =>
  (θ_run Cert.OutprojRefIdeal.defs _ _).mono
    (fun r h => ⟨fun c => (h c).2, sem_eq_zero_of_no_sems (by decide) r.2⟩) (Cert.OutprojRefIdeal.Value.run m ρ)

/-- The out-projection call's array is the reference's. -/
theorem outproj_values : Cert.algebraic_OutprojIdeal_OutprojRefIdeal := by
  intro m g m' g' _ hagree
  refine ⟨fun c => Cert.OutprojIdeal.Call.wanted m c, ?_, ?_⟩
  · refine (θ_run Cert.OutprojIdeal.defs _ _).mono (fun _ h c => ?_) (Cert.OutprojIdeal.Value.run_blocks m g)
    obtain ⟨h0, h1⟩ := h c
    exact ⟨h0.trans (Cert.OutprojIdeal.Call.final m c), h1⟩
  · refine (θ_run Cert.OutprojRefIdeal.defs _ _).mono (fun _ h c => ?_) (Cert.OutprojRefIdeal.Value.run m' g')
    obtain ⟨h0, h1, h2, h3, h4⟩ := h c
    obtain ⟨e0, e1, e2, e3⟩ := hagree c
    refine ⟨h0.trans ?_, h1, h2, h3, h4⟩
    show Cert.OutprojRefIdeal.Call.answer _ _ _ _ = Cert.OutprojRefIdeal.Call.answer _ _ _ _
    rw [e0, e1, e2, e3]

/-- The last call and its ideal program have the same table of bodies. -/
theorem final_bodies {F : FTy → Type} [FloatOps F] : @Cert.Final.defs₀ F _ _ = @Cert.FinalIdeal.defs₀ F _ _ := by
  unfold Cert.Final.defs₀ Cert.FinalIdeal.defs₀
  refine congrArg _ ?_
  funext l a
  match l, a with
  | 0, (t, s) => rfl

theorem final_table {F : FTy → Type} [FloatOps F] : @Cert.Final.defs F _ _ = @Cert.FinalIdeal.defs F _ _ :=
  congrArg (Pipeline.defs (Cert.FinalIdeal.pcfgs (F := F))) final_bodies

/-- The frames of the last call, of its ideal program and of its reference. -/
theorem final_frame : Cert.quiescent_Final := fun m ρ _ => by
  rw [final_table]
  exact Cert.FinalIdeal.Gen.frame (F := Bits) m ρ

theorem final_frame_ideal : Cert.quiescent_FinalIdeal := fun m ρ _ => Cert.FinalIdeal.Gen.frame m ρ

theorem final_frame_reference : Cert.quiescent_FinalRefIdeal := fun m ρ _ =>
  (θ_run Cert.FinalRefIdeal.defs _ _).mono
    (fun r h => ⟨fun c => (h c).2, sem_eq_zero_of_no_sems (by decide) r.2⟩) (Cert.FinalRefIdeal.Value.run m ρ)

/-- The last call's array is the reference's. -/
theorem final_values : Cert.algebraic_FinalIdeal_FinalRefIdeal := by
  intro m g m' g' _ hagree
  refine ⟨fun c => Cert.FinalIdeal.Call.wanted m c, ?_, ?_⟩
  · refine (θ_run Cert.FinalIdeal.defs _ _).mono (fun _ h c => ?_) (Cert.FinalIdeal.Value.run_blocks m g)
    obtain ⟨h0, h1⟩ := h c
    exact ⟨h0.trans (Cert.FinalIdeal.Call.final m c), h1⟩
  · refine (θ_run Cert.FinalRefIdeal.defs _ _).mono (fun _ h c => ?_) (Cert.FinalRefIdeal.Value.run m' g')
    obtain ⟨h0, h1, h2, h3, h4⟩ := h c
    obtain ⟨e0, e1, e2, e3⟩ := hagree c
    refine ⟨h0.trans ?_, h1, h2, h3, h4⟩
    show Cert.FinalRefIdeal.Call.answer _ _ _ _ = Cert.FinalRefIdeal.Call.answer _ _ _ _
    rw [e0, e1, e2, e3]

/-- The Fourier projection call and its ideal program have the same table of bodies. -/
theorem fproj_bodies {F : FTy → Type} [FloatOps F] : @Cert.Fproj.defs₀ F _ _ = @Cert.FprojIdeal.defs₀ F _ _ := by
  unfold Cert.Fproj.defs₀ Cert.FprojIdeal.defs₀
  refine congrArg _ ?_
  funext l a
  match l, a with
  | 0, (t, s) => rfl

theorem fproj_table {F : FTy → Type} [FloatOps F] : @Cert.Fproj.defs F _ _ = @Cert.FprojIdeal.defs F _ _ :=
  congrArg (Pipeline.defs (Cert.FprojIdeal.pcfgs (F := F))) fproj_bodies

set_option maxHeartbeats 4000000 in
/-- Nor do the lines around the launch differ. -/
theorem fproj_main {F : FTy → Type} [FloatOps F] : Cert.Fproj.main (F := F) = Cert.FprojIdeal.main (F := F) := by
  unfold Cert.Fproj.main Cert.FprojIdeal.main Cert.Fproj.fn_remainder.body Cert.FprojIdeal.fn_remainder.body
    Cert.Fproj.fn_where.body Cert.FprojIdeal.fn_where.body
  rfl

/-- The frames of the Fourier projection call, of its ideal program and of its reference. -/
theorem fproj_frame : Cert.quiescent_Fproj := fun m ρ _ => by
  rw [fproj_table, fproj_main]
  exact Cert.FprojIdeal.Gen.frame (F := Bits) m ρ

theorem fproj_frame_ideal : Cert.quiescent_FprojIdeal := fun m ρ _ => Cert.FprojIdeal.Gen.frame m ρ

theorem fproj_frame_reference : Cert.quiescent_FprojRefIdeal := fun m ρ _ =>
  (θ_run Cert.FprojRefIdeal.defs _ _).mono
    (fun r h => ⟨fun c => (h c).2.2, sem_eq_zero_of_no_sems (by decide) r.2⟩) (Cert.FprojRefIdeal.Value.run m ρ)

/-- The Fourier projection call's two arrays are the reference's. -/
theorem fproj_values : Cert.algebraic_FprojIdeal_FprojRefIdeal := by
  intro m g m' g' _ hagree
  refine ⟨fun c => Cert.FprojIdeal.Call.wanted0 m c, fun c => Cert.FprojIdeal.Call.wanted1 m c, ?_, ?_⟩
  · refine (θ_run Cert.FprojIdeal.defs _ _).mono (fun _ h c => ?_) (Cert.FprojIdeal.Value.run_blocks m g)
    obtain ⟨h0, h1, h2⟩ := h c
    exact ⟨h0.trans (Cert.FprojIdeal.Call.final0 m c), h1.trans (Cert.FprojIdeal.Call.final1 m c), h2⟩
  · refine (θ_run Cert.FprojRefIdeal.defs _ _).mono (fun _ h c => ?_) (Cert.FprojRefIdeal.Value.run m' g')
    obtain ⟨h0, h1, h2, h3⟩ := h c
    obtain ⟨e0, e1⟩ := hagree c
    refine ⟨h0.trans ?_, h1.trans ?_, h2, h3⟩
    · show Cert.FprojRefIdeal.Call.answer0 _ _ = Cert.FprojRefIdeal.Call.answer0 _ _
      rw [e0, e1]
    · show Cert.FprojRefIdeal.Call.answer1 _ _ = Cert.FprojRefIdeal.Call.answer1 _ _
      rw [e0, e1]

/-- The norm call and its ideal program have the same table of bodies. -/
theorem ln_bodies {F : FTy → Type} [FloatOps F] : @Cert.Ln.defs₀ F _ _ = @Cert.LnIdeal.defs₀ F _ _ := by
  unfold Cert.Ln.defs₀ Cert.LnIdeal.defs₀
  refine congrArg _ ?_
  funext l a
  match l, a with
  | 0, (t, s) => rfl

theorem ln_table {F : FTy → Type} [FloatOps F] : @Cert.Ln.defs F _ _ = @Cert.LnIdeal.defs F _ _ :=
  congrArg (Pipeline.defs (Cert.LnIdeal.pcfgs (F := F))) ln_bodies

/-- The frames of the norm call, of its ideal program and of its reference. -/
theorem ln_frame : Cert.quiescent_Ln := fun m ρ _ => by
  rw [ln_table]
  exact Cert.LnIdeal.Gen.frame (F := Bits) m ρ

theorem ln_frame_ideal : Cert.quiescent_LnIdeal := fun m ρ _ => Cert.LnIdeal.Gen.frame m ρ

theorem ln_frame_reference : Cert.quiescent_LnRefIdeal := fun m ρ _ =>
  (θ_run Cert.LnRefIdeal.defs _ _).mono
    (fun r h => ⟨fun c => (h c).2, sem_eq_zero_of_no_sems (by decide) r.2⟩) (Cert.LnRefIdeal.Value.run m ρ)

/-- The norm call's array is the reference's. -/
theorem ln_values : Cert.algebraic_LnIdeal_LnRefIdeal := by
  intro m g m' g' _ hagree
  refine ⟨fun c => Cert.LnIdeal.Call.wanted m c, ?_, ?_⟩
  · refine (θ_run Cert.LnIdeal.defs _ _).mono (fun _ h c => ?_) (Cert.LnIdeal.Value.run_blocks m g)
    obtain ⟨h0, h1⟩ := h c
    exact ⟨h0.trans (Cert.LnIdeal.Call.final m c), h1⟩
  · refine (θ_run Cert.LnRefIdeal.defs _ _).mono (fun _ h c => ?_) (Cert.LnRefIdeal.Value.run m' g')
    obtain ⟨h0, h1, h2, h3, h4⟩ := h c
    obtain ⟨e0, e1, e2, e3⟩ := hagree c
    refine ⟨h0.trans ?_, h1, h2, h3, h4⟩
    show Cert.LnRefIdeal.Call.answer _ _ _ _ = Cert.LnRefIdeal.Call.answer _ _ _ _
    rw [e0, e1, e2, e3]

/-- The frames of the two launches of the Fourier mixing's transform, of their ideal program and of their reference. -/
theorem mix_frame : Cert.quiescent_Mix := fun m ρ _ => Cert.Mix.Gen.frame (F := Bits) m ρ

theorem mix_frame_ideal : Cert.quiescent_MixIdeal := fun m ρ _ => Cert.MixIdeal.Gen.frame m ρ

theorem mix_frame_ideal_pre : Cert.quiescent_MixIdeal_pre_finite_parts := fun m ρ _ => Cert.MixIdeal.Gen.frame m ρ

theorem mix_frame_reference : Cert.quiescent_MixRefIdeal := fun m ρ _ =>
  (θ_run Cert.MixRefIdeal.defs _ _).mono
    (fun r h => ⟨fun c => (h c).2, sem_eq_zero_of_no_sems (by decide) r.2⟩) (Cert.MixRefIdeal.Value.run m ρ)

theorem mix_frame_reference_pre : Cert.quiescent_MixRefIdeal_pre_finite_parts := fun m ρ _ =>
  (θ_run Cert.MixRefIdeal.defs _ _).mono
    (fun r h => ⟨fun c => (h c).2, sem_eq_zero_of_no_sems (by decide) r.2⟩) (Cert.MixRefIdeal.Value.run m ρ)

/-- The named constant of the transform. -/
theorem mix_named : Cert.preserves_Mix_MixIdeal := IdealRules.named_const.statement Cert.MixIdeal.κ "scale" .f32 0x3A3504F3#32 (((Real.sqrt 2097152)⁻¹ : ℝ) : EReal) rfl

/-- The transform's array is the reference's, for finite arguments. -/
theorem mix_values : Cert.algebraic_MixIdeal_MixRefIdeal_pre_finite_parts := by
  intro m g m' g' hpre hagree
  refine ⟨fun c => Cert.MixIdeal.Call.wanted m c, ?_, ?_⟩
  · refine (θ_run Cert.MixIdeal.defs _ _).mono (fun _ h c => ?_) (Cert.MixIdeal.Gen.ends m g)
    obtain ⟨hp, hq⟩ := Cert.MixIdeal.Call.reals_of_pre _ _ (hpre c)
    obtain ⟨h0, h1⟩ := h.1 c
    exact ⟨h0.trans (Cert.MixIdeal.Call.final m g c hp hq), h1⟩
  · refine (θ_run Cert.MixRefIdeal.defs _ _).mono (fun _ h c => ?_) (Cert.MixRefIdeal.Value.run m' g')
    obtain ⟨h0, h1, h2⟩ := h c
    obtain ⟨e0, e1⟩ := hagree c
    refine ⟨h0.trans ?_, h1, h2⟩
    show Cert.MixRefIdeal.Call.answer _ _ = Cert.MixRefIdeal.Call.answer _ _
    rw [e0, e1]

/-- The frames of the modulation's call, of its ideal program and of its reference. -/
theorem mod_frame : Cert.quiescent_Mod := fun m ρ _ => Cert.Mod.Gen.frame (F := Bits) m ρ

theorem mod_frame_ideal : Cert.quiescent_ModIdeal := fun m ρ _ => Cert.ModIdeal.Gen.frame m ρ

theorem mod_frame_reference : Cert.quiescent_ModRefIdeal := fun m ρ _ =>
  (θ_run Cert.ModRefIdeal.defs _ _).mono
    (fun r h => ⟨fun c => (h c).2, sem_eq_zero_of_no_sems (by decide) r.2⟩) (Cert.ModRefIdeal.Value.run m ρ)

/-- The modulation call's array is the reference's. -/
theorem mod_values : Cert.algebraic_ModIdeal_ModRefIdeal := by
  intro m g m' g' _ hagree
  refine ⟨fun c => Cert.ModIdeal.Call.wanted m c, ?_, ?_⟩
  · refine (θ_run Cert.ModIdeal.defs _ _).mono (fun _ h c => ?_) (Cert.ModIdeal.Value.run_blocks m g)
    obtain ⟨h0, h1⟩ := h c
    exact ⟨h0.trans (Cert.ModIdeal.Call.final m c), h1⟩
  · refine (θ_run Cert.ModRefIdeal.defs _ _).mono (fun _ h c => ?_) (Cert.ModRefIdeal.Value.run m' g')
    obtain ⟨h0, h1, h2, h3, h4⟩ := h c
    obtain ⟨e0, e1, e2, e3⟩ := hagree c
    refine ⟨h0.trans ?_, h1, h2, h3, h4⟩
    show Cert.ModRefIdeal.Call.answer _ _ _ _ = Cert.ModRefIdeal.Call.answer _ _ _ _
    rw [e0, e1, e2, e3]

/-- The certificate's claim. -/
theorem claim : Cert.Claim :=
  ⟨Cert.Kernel.Gen.facts, Cert.KernelIdeal.Gen.facts, Cert.ReferenceIdeal.Gen.facts, Cert.Inproj.Gen.facts, Cert.InprojIdeal.Gen.facts, Cert.InprojRefIdeal.Gen.facts, Cert.Merge.Gen.facts, Cert.MergeIdeal.Gen.facts, Cert.MergeRefIdeal.Gen.facts, Cert.Outproj.Gen.facts, Cert.OutprojIdeal.Gen.facts, Cert.OutprojRefIdeal.Gen.facts, Cert.Final.Gen.facts, Cert.FinalIdeal.Gen.facts, Cert.FinalRefIdeal.Gen.facts, Cert.Fproj.Gen.facts, Cert.FprojIdeal.Gen.facts, Cert.FprojRefIdeal.Gen.facts, Cert.Ln.Gen.facts, Cert.LnIdeal.Gen.facts, Cert.LnRefIdeal.Gen.facts, Cert.Mix.Gen.facts, Cert.MixIdeal.Gen.facts, Cert.MixRefIdeal.Gen.facts, Cert.Mod.Gen.facts, Cert.ModIdeal.Gen.facts, Cert.ModRefIdeal.Gen.facts, Cert.Pre_finite_scores.Gen.facts, Cert.Pre_finite_parts.Gen.facts,
    frame_kernel, frame_ideal, frame_ideal_pre, frame_reference, frame_reference_pre, inproj_frame, inproj_frame_ideal, inproj_frame_reference, merge_frame, merge_frame_ideal, merge_frame_reference, outproj_frame, outproj_frame_ideal, outproj_frame_reference, final_frame, final_frame_ideal, final_frame_reference, fproj_frame, fproj_frame_ideal, fproj_frame_reference, ln_frame, ln_frame_ideal, ln_frame_reference, mix_frame, mix_frame_ideal, mix_frame_ideal_pre, mix_frame_reference, mix_frame_reference_pre, mod_frame, mod_frame_ideal, mod_frame_reference, trivial, values, trivial, inproj_values, trivial, merge_values, trivial, outproj_values, trivial, final_values, trivial, fproj_values, trivial, ln_values, mix_named, mix_values, trivial, mod_values⟩

end Cert.Proof

end
